-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v42_2)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v13_0)) (v4 : (c : Dev Cert.KernelIdeal.nD) → Buf (Elt Ideal) ((c.tc : Thread Cert.KernelIdeal.nD Cert.KernelIdeal.τ).loc Cert.KernelIdeal.main_v13_1)) (v5 : (c : Dev Cert.KernelIdeal.nD) → Buf (Elt Ideal) ((c.tc : Thread Cert.KernelIdeal.nD Cert.KernelIdeal.τ).loc Cert.KernelIdeal.main_v29_0)) (v6 : (c : Dev Cert.KernelIdeal.nD) → Buf (Elt Ideal) ((c.tc : Thread Cert.KernelIdeal.nD Cert.KernelIdeal.τ).loc Cert.KernelIdeal.main_v29_1)) (v7 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_2) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v13_0) = v3 c
          ∧ r.2.mem ((c.tc : Thread Cert.KernelIdeal.nD Cert.KernelIdeal.τ).loc Cert.KernelIdeal.main_v13_1) = v4 c
          ∧ r.2.mem ((c.tc : Thread Cert.KernelIdeal.nD Cert.KernelIdeal.τ).loc Cert.KernelIdeal.main_v29_0) = v5 c
          ∧ r.2.mem ((c.tc : Thread Cert.KernelIdeal.nD Cert.KernelIdeal.τ).loc Cert.KernelIdeal.main_v29_1) = v6 c
          ∧ r.2.mem ((c.tc : Thread Cert.KernelIdeal.nD Cert.KernelIdeal.τ).loc Cert.KernelIdeal.main_v42_0) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_v371) = v1 c
          ∧ r.2.mem ((c.tc : Thread Cert.ReferenceIdeal.nD Cert.ReferenceIdeal.τ).loc Cert.ReferenceIdeal.main_v338) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v276) = v4 c
          ∧ r.2.mem ((c.tc : Thread Cert.ReferenceIdeal.nD Cert.ReferenceIdeal.τ).loc Cert.ReferenceIdeal.main_v289) = v5 c
          ∧ r.2.mem ((c.tc : Thread Cert.ReferenceIdeal.nD Cert.ReferenceIdeal.τ).loc Cert.ReferenceIdeal.main_v317) = v6 c
          ∧ r.2.mem ((c.tc : Thread Cert.ReferenceIdeal.nD Cert.ReferenceIdeal.τ).loc Cert.ReferenceIdeal.main_v351) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S64x24x32x112 : Shape := ⟨4, ![64, 24, 32, 112]⟩
abbrev S_ : Shape := ⟨0, ![]⟩
abbrev S112x672 : Shape := ⟨2, ![112, 672]⟩
abbrev S672 : Shape := ⟨1, ![672]⟩
abbrev S25x672 : Shape := ⟨2, ![25, 672]⟩
abbrev S672x28 : Shape := ⟨2, ![672, 28]⟩
abbrev S28 : Shape := ⟨1, ![28]⟩
abbrev S28x672 : Shape := ⟨2, ![28, 672]⟩
abbrev S672x112 : Shape := ⟨2, ![672, 112]⟩
abbrev S112 : Shape := ⟨1, ![112]⟩

class Facts : Prop where
  bcast_S_S672 : S_.BroadcastsInDim S672 (![] : Fin 0 → Fin S672.rank)
  bcast_S_S28 : S_.BroadcastsInDim S28 (![] : Fin 0 → Fin S28.rank)

variable [Facts]

def fn_part1 {F : FTy → Type} [FloatOps F] (main_arg5 : FVec F S_ .f32) (main_arg9 : FVec F S_ .f32) (main_arg10 : FVec F S_ .f32) (main_arg14 : FVec F S_ .f32) (main_arg18 : FVec F S_ .f32) (main_arg22 : FVec F S_ .f32) (main_v1 : IVec S_ 1) (main_v4 : IVec S672 1) (main_v7 : IVec S672 1) (main_v10 : IVec S672 1) (main_v13 : IVec S672 1) (main_v16 : IVec S28 1) (main_v17 : FVec F S28 .f32) : IVec S_ 1 × IVec S672 1 × IVec S672 1 × IVec S672 1 × IVec S672 1 × IVec S28 1 × IVec S28 1 × IVec S_ 1 × IVec S_ 1 × IVec S_ 1 × IVec S_ 1 × IVec S_ 1 × IVec S_ 1 :=
  let main_cst_5 : FVec F S_ .f32 := constant S_ .f32 0x7F800000#32
  let main_v18 : FVec F S28 .f32 := broadcastInDim S28 ![] bcast_S_S28 main_cst_5
  let main_v19 : IVec S28 1 := cmpf .olt main_v17 main_v18
  let main_cst_6 : FVec F S_ .f32 := constant S_ .f32 0x00000000#32
  let main_v20 : IVec S_ 1 := cmpf .une main_arg5 main_cst_6
  let main_cst_7 : FVec F S_ .f32 := constant S_ .f32 0x00000000#32
  let main_v21 : IVec S_ 1 := cmpf .une main_arg9 main_cst_7
  let main_cst_8 : FVec F S_ .f32 := constant S_ .f32 0x00000000#32
  let main_v22 : IVec S_ 1 := cmpf .une main_arg10 main_cst_8
  let main_cst_9 : FVec F S_ .f32 := constant S_ .f32 0x00000000#32
  let main_v23 : IVec S_ 1 := cmpf .une main_arg14 main_cst_9
  let main_cst_10 : FVec F S_ .f32 := constant S_ .f32 0x00000000#32
  let main_v24 : IVec S_ 1 := cmpf .une main_arg18 main_cst_10
  let main_cst_11 : FVec F S_ .f32 := constant S_ .f32 0x00000000#32
  let main_v25 : IVec S_ 1 := cmpf .une main_arg22 main_cst_11
  (main_v1, main_v4, main_v7, main_v10, main_v13, main_v16, main_v19, main_v20, main_v21, main_v22, main_v23, main_v24, main_v25)

def fn {F : FTy → Type} [FloatOps F] (main_arg0 : IVec S64x24x32x112 8) (main_arg1 : FVec F S_ .f32) (main_arg2 : IVec S112x672 8) (main_arg3 : FVec F S672 .f32) (main_arg4 : FVec F S672 .f32) (main_arg5 : FVec F S_ .f32) (main_arg6 : IVec S25x672 8) (main_arg7 : FVec F S672 .f32) (main_arg8 : FVec F S672 .f32) (main_arg9 : FVec F S_ .f32) (main_arg10 : FVec F S_ .f32) (main_arg11 : IVec S672x28 8) (main_arg12 : FVec F S28 .f32) (main_arg13 : FVec F S28 .f32) (main_arg14 : FVec F S_ .f32) (main_arg15 : IVec S28x672 8) (main_arg16 : FVec F S672 .f32) (main_arg17 : FVec F S672 .f32) (main_arg18 : FVec F S_ .f32) (main_arg19 : IVec S672x112 8) (main_arg20 : FVec F S112 .f32) (main_arg21 : FVec F S112 .f32) (main_arg22 : FVec F S_ .f32) : IVec S_ 1 × IVec S672 1 × IVec S672 1 × IVec S672 1 × IVec S672 1 × IVec S28 1 × IVec S28 1 × IVec S_ 1 × IVec S_ 1 × IVec S_ 1 × IVec S_ 1 × IVec S_ 1 × IVec S_ 1 :=
  let main_v0 : FVec F S_ .f32 := Host.absf main_arg1
  let main_cst : FVec F S_ .f32 := constant S_ .f32 0x7F800000#32
  let main_v1 : IVec S_ 1 := cmpf .olt main_v0 main_cst
  let main_v2 : FVec F S672 .f32 := Host.absf main_arg3
  let main_cst_0 : FVec F S_ .f32 := constant S_ .f32 0x7F800000#32
  let main_v3 : FVec F S672 .f32 := broadcastInDim S672 ![] bcast_S_S672 main_cst_0
  let main_v4 : IVec S672 1 := cmpf .olt main_v2 main_v3
  let main_v5 : FVec F S672 .f32 := Host.absf main_arg4
  let main_cst_1 : FVec F S_ .f32 := constant S_ .f32 0x7F800000#32
  let main_v6 : FVec F S672 .f32 := broadcastInDim S672 ![] bcast_S_S672 main_cst_1
  let main_v7 : IVec S672 1 := cmpf .olt main_v5 main_v6
  let main_v8 : FVec F S672 .f32 := Host.absf main_arg7
  let main_cst_2 : FVec F S_ .f32 := constant S_ .f32 0x7F800000#32
  let main_v9 : FVec F S672 .f32 := broadcastInDim S672 ![] bcast_S_S672 main_cst_2
  let main_v10 : IVec S672 1 := cmpf .olt main_v8 main_v9
  let main_v11 : FVec F S672 .f32 := Host.absf main_arg8
  let main_cst_3 : FVec F S_ .f32 := constant S_ .f32 0x7F800000#32
  let main_v12 : FVec F S672 .f32 := broadcastInDim S672 ![] bcast_S_S672 main_cst_3
  let main_v13 : IVec S672 1 := cmpf .olt main_v11 main_v12
  let main_v14 : FVec F S28 .f32 := Host.absf main_arg12
  let main_cst_4 : FVec F S_ .f32 := constant S_ .f32 0x7F800000#32
  let main_v15 : FVec F S28 .f32 := broadcastInDim S28 ![] bcast_S_S28 main_cst_4
  let main_v16 : IVec S28 1 := cmpf .olt main_v14 main_v15
  let main_v17 : FVec F S28 .f32 := Host.absf main_arg13
  fn_part1 (F := F) main_arg5 main_arg9 main_arg10 main_arg14 main_arg18 main_arg22 main_v1 main_v4 main_v7 main_v10 main_v13 main_v16 main_v17
-- ==== Kernel.lean ====
abbrev S64x24x32x112 : Shape := ⟨4, ![64, 24, 32, 112]⟩
abbrev S_ : Shape := ⟨0, ![]⟩
abbrev S112x672 : Shape := ⟨2, ![112, 672]⟩
abbrev S672 : Shape := ⟨1, ![672]⟩
abbrev S25x672 : Shape := ⟨2, ![25, 672]⟩
abbrev S672x28 : Shape := ⟨2, ![672, 28]⟩
abbrev S28 : Shape := ⟨1, ![28]⟩
abbrev S28x672 : Shape := ⟨2, ![28, 672]⟩
abbrev S672x112 : Shape := ⟨2, ![672, 112]⟩
abbrev S112 : Shape := ⟨1, ![112]⟩
abbrev S1x672 : Shape := ⟨2, ![1, 672]⟩
abbrev S1 : Shape := ⟨1, ![1]⟩
abbrev S2 : Shape := ⟨1, ![2]⟩
abbrev S64x24x32x672 : Shape := ⟨4, ![64, 24, 32, 672]⟩
abbrev S64x1x672 : Shape := ⟨3, ![64, 1, 672]⟩
abbrev S1x24x32x112 : Shape := ⟨4, ![1, 24, 32, 112]⟩
abbrev S1x24x32x672 : Shape := ⟨4, ![1, 24, 32, 672]⟩
abbrev S1x1x672 : Shape := ⟨3, ![1, 1, 672]⟩
abbrev S28x48x672 : Shape := ⟨3, ![28, 48, 672]⟩
abbrev S1x1x32x112 : Shape := ⟨4, ![1, 1, 32, 112]⟩
abbrev S32x112 : Shape := ⟨2, ![32, 112]⟩
abbrev S32x672 : Shape := ⟨2, ![32, 672]⟩
abbrev S1x1x32x672 : Shape := ⟨4, ![1, 1, 32, 672]⟩
abbrev S1x32x672 : Shape := ⟨3, ![1, 32, 672]⟩
abbrev S64x672 : Shape := ⟨2, ![64, 672]⟩
abbrev S1x28 : Shape := ⟨2, ![1, 28]⟩
abbrev S3 : Shape := ⟨1, ![3]⟩
abbrev S64x28 : Shape := ⟨2, ![64, 28]⟩
abbrev S1x112 : Shape := ⟨2, ![1, 112]⟩
abbrev S4 : Shape := ⟨1, ![4]⟩

abbrev nBuf : Space → Nat
  | .hbm => 78
  | .vmem => 40
  | .smem => 3
  | _ => 0

abbrev bufTy : (tb : Table) → Fin (tcTables nBuf tb) → BufTy
  | .hbm, ⟨0, _⟩ => ⟨S64x24x32x112, .i8⟩
  | .hbm, ⟨1, _⟩ => ⟨S_, .f32⟩
  | .hbm, ⟨2, _⟩ => ⟨S112x672, .i8⟩
  | .hbm, ⟨3, _⟩ => ⟨S672, .f32⟩
  | .hbm, ⟨4, _⟩ => ⟨S672, .f32⟩
  | .hbm, ⟨5, _⟩ => ⟨S_, .f32⟩
  | .hbm, ⟨6, _⟩ => ⟨S25x672, .i8⟩
  | .hbm, ⟨7, _⟩ => ⟨S672, .f32⟩
  | .hbm, ⟨8, _⟩ => ⟨S672, .f32⟩
  | .hbm, ⟨9, _⟩ => ⟨S_, .f32⟩
  | .hbm, ⟨10, _⟩ => ⟨S_, .f32⟩
  | .hbm, ⟨11, _⟩ => ⟨S672x28, .i8⟩
  | .hbm, ⟨12, _⟩ => ⟨S28, .f32⟩
  | .hbm, ⟨13, _⟩ => ⟨S28, .f32⟩
  | .hbm, ⟨14, _⟩ => ⟨S_, .f32⟩
  | .hbm, ⟨15, _⟩ => ⟨S28x672, .i8⟩
  | .hbm, ⟨16, _⟩ => ⟨S672, .f32⟩
  | .hbm, ⟨17, _⟩ => ⟨S672, .f32⟩
  | .hbm, ⟨18, _⟩ => ⟨S_, .f32⟩
  | .hbm, ⟨19, _⟩ => ⟨S672x112, .i8⟩
  | .hbm, ⟨20, _⟩ => ⟨S112, .f32⟩
  | .hbm, ⟨21, _⟩ => ⟨S112, .f32⟩
  | .hbm, ⟨22, _⟩ => ⟨S_, .f32⟩
  | .hbm, ⟨23, _⟩ => ⟨S672, .f32⟩
  | .hbm, ⟨24, _⟩ => ⟨S672, .f32⟩
  | .hbm, ⟨25, _⟩ => ⟨S1x672, .f32⟩
  | .hbm, ⟨26, _⟩ => ⟨S1x672, .f32⟩
  | .hbm, ⟨27, _⟩ => ⟨S672, .f32⟩
  | .hbm, ⟨28, _⟩ => ⟨S672, .f32⟩
  | .hbm, ⟨29, _⟩ => ⟨S1x672, .f32⟩
  | .hbm, ⟨30, _⟩ => ⟨S1x672, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S2, .f32⟩
  | .hbm, ⟨38, _⟩ => ⟨S64x24x32x672, .i8⟩
  | .hbm, ⟨39, _⟩ => ⟨S64x24x32x672, .i8⟩
  | .hbm, ⟨40, _⟩ => ⟨S64x1x672, .f32⟩
  | .hbm, ⟨41, _⟩ => ⟨S64x672, .f32⟩
  | .hbm, ⟨42, _⟩ => ⟨S28, .f32⟩
  | .hbm, ⟨43, _⟩ => ⟨S28, .f32⟩
  | .hbm, ⟨44, _⟩ => ⟨S1x28, .f32⟩
  | .hbm, ⟨45, _⟩ => ⟨S1x28, .f32⟩
  | .hbm, ⟨46, _⟩ => ⟨S672, .f32⟩
  | .hbm, ⟨47, _⟩ => ⟨S672, .f32⟩
  | .hbm, ⟨48, _⟩ => ⟨S1x672, .f32⟩
  | .hbm, ⟨49, _⟩ => ⟨S1x672, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S3, .f32⟩
  | .hbm, ⟨58, _⟩ => ⟨S64x672, .i8⟩
  | .hbm, ⟨59, _⟩ => ⟨S64x28, .i8⟩
  | .hbm, ⟨60, _⟩ => ⟨S64x672, .f32⟩
  | .hbm, ⟨61, _⟩ => ⟨S64x1x672, .f32⟩
  | .hbm, ⟨62, _⟩ => ⟨S112, .f32⟩
  | .hbm, ⟨63, _⟩ => ⟨S112, .f32⟩
  | .hbm, ⟨64, _⟩ => ⟨S1x112, .f32⟩
  | .hbm, ⟨65, _⟩ => ⟨S1x112, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S4, .f32⟩
  | .hbm, ⟨75, _⟩ => ⟨S64x24x32x672, .i8⟩
  | .hbm, ⟨76, _⟩ => ⟨S64x24x32x112, .f32⟩
  | .hbm, ⟨77, _⟩ => ⟨S64x24x32x112, .i8⟩
  | .local _ .vmem, ⟨0, _⟩ => ⟨S1x24x32x112, .i8⟩
  | .local _ .vmem, ⟨1, _⟩ => ⟨S1x24x32x112, .i8⟩
  | .local _ .vmem, ⟨2, _⟩ => ⟨S112x672, .i8⟩
  | .local _ .vmem, ⟨3, _⟩ => ⟨S1x672, .f32⟩
  | .local _ .vmem, ⟨4, _⟩ => ⟨S1x672, .f32⟩
  | .local _ .vmem, ⟨5, _⟩ => ⟨S25x672, .i8⟩
  | .local _ .vmem, ⟨6, _⟩ => ⟨S1x672, .f32⟩
  | .local _ .vmem, ⟨7, _⟩ => ⟨S1x672, .f32⟩
  | .local _ .vmem, ⟨8, _⟩ => ⟨S1x24x32x672, .i8⟩
  | .local _ .vmem, ⟨9, _⟩ => ⟨S1x24x32x672, .i8⟩
  | .local _ .vmem, ⟨10, _⟩ => ⟨S1x24x32x672, .i8⟩
  | .local _ .vmem, ⟨11, _⟩ => ⟨S1x24x32x672, .i8⟩
  | .local _ .vmem, ⟨12, _⟩ => ⟨S1x1x672, .f32⟩
  | .local _ .vmem, ⟨13, _⟩ => ⟨S1x1x672, .f32⟩
  | .local _ .vmem, ⟨14, _⟩ => ⟨S28x48x672, .f32⟩
  | .local _ .vmem, ⟨15, _⟩ => ⟨S64x672, .f32⟩
  | .local _ .vmem, ⟨16, _⟩ => ⟨S672x28, .i8⟩
  | .local _ .vmem, ⟨17, _⟩ => ⟨S1x28, .f32⟩
  | .local _ .vmem, ⟨18, _⟩ => ⟨S1x28, .f32⟩
  | .local _ .vmem, ⟨19, _⟩ => ⟨S28x672, .i8⟩
  | .local _ .vmem, ⟨20, _⟩ => ⟨S1x672, .f32⟩
  | .local _ .vmem, ⟨21, _⟩ => ⟨S1x672, .f32⟩
  | .local _ .vmem, ⟨22, _⟩ => ⟨S64x672, .i8⟩
  | .local _ .vmem, ⟨23, _⟩ => ⟨S64x28, .i8⟩
  | .local _ .vmem, ⟨24, _⟩ => ⟨S64x672, .f32⟩
  | .local _ .vmem, ⟨25, _⟩ => ⟨S1x24x32x672, .i8⟩
  | .local _ .vmem, ⟨26, _⟩ => ⟨S1x24x32x672, .i8⟩
  | .local _ .vmem, ⟨27, _⟩ => ⟨S1x1x672, .f32⟩
  | .local _ .vmem, ⟨28, _⟩ => ⟨S1x1x672, .f32⟩
  | .local _ .vmem, ⟨29, _⟩ => ⟨S672x112, .i8⟩
  | .local _ .vmem, ⟨30, _⟩ => ⟨S1x112, .f32⟩
  | .local _ .vmem, ⟨31, _⟩ => ⟨S1x112, .f32⟩
  | .local _ .vmem, ⟨32, _⟩ => ⟨S1x24x32x112, .i8⟩
  | .local _ .vmem, ⟨33, _⟩ => ⟨S1x24x32x112, .i8⟩
  | .local _ .vmem, ⟨34, _⟩ => ⟨S1x24x32x672, .i8⟩
  | .local _ .vmem, ⟨35, _⟩ => ⟨S1x24x32x672, .i8⟩
  | .local _ .vmem, ⟨36, _⟩ => ⟨S1x24x32x112, .f32⟩
  | .local _ .vmem, ⟨37, _⟩ => ⟨S1x24x32x112, .f32⟩
  | .local _ .vmem, ⟨38, _⟩ => ⟨S1x24x32x112, .i8⟩
  | .local _ .vmem, ⟨39, _⟩ => ⟨S1x24x32x112, .i8⟩
  | .local _ .smem, ⟨0, _⟩ => ⟨S2, .f32⟩
  | .local _ .smem, ⟨1, _⟩ => ⟨S3, .f32⟩
  | .local _ .smem, ⟨2, _⟩ => ⟨S4, .f32⟩
  | _, _ => ⟨S64x24x32x112, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29_0 : Ref sig .tc := ⟨.hbm, 58, rfl⟩
abbrev main_v29_1 : Ref sig .tc := ⟨.hbm, 59, rfl⟩
abbrev main_v29_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_v42_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg9_1 : Ref sig .tc := ⟨.vmem, 39, rfl⟩
abbrev cc0_stg7_0 : Ref sig .tc := ⟨.smem, 0, rfl⟩
abbrev cc1_stg7_0 : Ref sig .tc := ⟨.smem, 1, rfl⟩
abbrev cc2_stg6_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c24_i32 : BitVec 32 := 24#32
  let v5 : BitVec 32 := Scalar.addi c0_i32_1 c24_i32
  let c1_i32 : BitVec 32 := 1#32
  ⟨c0_i32_1, v5, c1_i32⟩
def k0_off1 (k0_t1 : Fin k0_t1_loop.trips) : Fin 4 → Nat :=
  let c0_10 : Index := 0#32
  let c0_i32_1 : BitVec 32 := 0#32
  let c1_i32 : BitVec 32 := 1#32
  let arg13 : BitVec 32 := Scf.iv c0_i32_1 c1_i32 k0_t1
  let v12 : Index := Scalar.indexCast arg13
  let c0_11 : Index := 0#32
  let c0_12 : Index := 0#32
  ![0, v12.toNat, 0, 0]
def k0_off2 (k0_t1 : Fin k0_t1_loop.trips) : Fin 4 → Nat :=
  let c0_23 : Index := 0#32
  let c0_i32_1 : BitVec 32 := 0#32
  let c1_i32 : BitVec 32 := 1#32
  let arg13 : BitVec 32 := Scf.iv c0_i32_1 c1_i32 k0_t1
  let v40 : Index := Scalar.indexCast arg13
  let c0_24 : Index := 0#32
  let c0_25 : Index := 0#32
  ![0, v40.toNat, 0, 0]
def k0_off3 (k0_t1 : Fin k0_t1_loop.trips) : Fin 3 → Nat :=
  let c0_i32_1 : BitVec 32 := 0#32
  let c1_i32 : BitVec 32 := 1#32
  let arg13 : BitVec 32 := Scf.iv c0_i32_1 c1_i32 k0_t1
  let c2_i32 : BitVec 32 := 2#32
  let v44 : BitVec 32 := Scalar.addi arg13 c2_i32
  let v45 : Index := Scalar.indexCast v44
  let c8 : Index := 8#32
  let c0_26 : Index := 0#32
  ![v45.toNat, 8, 0]
@[reducible] def k0_t2_loop : Scf.Loop 32 :=
  let c0_i32_3 : BitVec 32 := 0#32
  let c24_i32_4 : BitVec 32 := 24#32
  let v7 : BitVec 32 := Scalar.addi c0_i32_3 c24_i32_4
  let c1_i32_5 : BitVec 32 := 1#32
  ⟨c0_i32_3, v7, c1_i32_5⟩
def k0_off4 (k0_t2 : Fin k0_t2_loop.trips) (c0_i32_11 : BitVec 32) : Fin 3 → Nat :=
  let c0_i32_3 : BitVec 32 := 0#32
  let c1_i32_5 : BitVec 32 := 1#32
  let arg13 : BitVec 32 := Scf.iv c0_i32_3 c1_i32_5 k0_t2
  let v13 : BitVec 32 := Scalar.addi arg13 c0_i32_11
  let v14 : Index := Scalar.indexCast v13
  let c6 : Index := 6#32
  let c0_12 : Index := 0#32
  ![v14.toNat, 6, 0]
def k0_off5 (k0_t2 : Fin k0_t2_loop.trips) (c0_i32_15 : BitVec 32) : Fin 3 → Nat :=
  let c0_i32_3 : BitVec 32 := 0#32
  let c1_i32_5 : BitVec 32 := 1#32
  let arg13 : BitVec 32 := Scf.iv c0_i32_3 c1_i32_5 k0_t2
  let v24 : BitVec 32 := Scalar.addi arg13 c0_i32_15
  let v25 : Index := Scalar.indexCast v24
  let c7 : Index := 7#32
  let c0_16 : Index := 0#32
  ![v25.toNat, 7, 0]
def k0_off6 (k0_t2 : Fin k0_t2_loop.trips) (c0_i32_19 : BitVec 32) : Fin 3 → Nat :=
  let c0_i32_3 : BitVec 32 := 0#32
  let c1_i32_5 : BitVec 32 := 1#32
  let arg13 : BitVec 32 := Scf.iv c0_i32_3 c1_i32_5 k0_t2
  let v35 : BitVec 32 := Scalar.addi arg13 c0_i32_19
  let v36 : Index := Scalar.indexCast v35
  let c8 : Index := 8#32
  let c0_20 : Index := 0#32
  ![v36.toNat, 8, 0]
def k0_off7 (k0_t2 : Fin k0_t2_loop.trips) (c0_i32_22 : BitVec 32) : Fin 3 → Nat :=
  let c0_i32_3 : BitVec 32 := 0#32
  let c1_i32_5 : BitVec 32 := 1#32
  let arg13 : BitVec 32 := Scf.iv c0_i32_3 c1_i32_5 k0_t2
  let v46 : BitVec 32 := Scalar.addi arg13 c0_i32_22
  let v47 : Index := Scalar.indexCast v46
  let c9 : Index := 9#32
  let c0_23 : Index := 0#32
  ![v47.toNat, 9, 0]
def k0_off8 (k0_t2 : Fin k0_t2_loop.trips) (c0_i32_25 : BitVec 32) : Fin 3 → Nat :=
  let c0_i32_3 : BitVec 32 := 0#32
  let c1_i32_5 : BitVec 32 := 1#32
  let arg13 : BitVec 32 := Scf.iv c0_i32_3 c1_i32_5 k0_t2
  let v57 : BitVec 32 := Scalar.addi arg13 c0_i32_25
  let v58 : Index := Scalar.indexCast v57
  let c10 : Index := 10#32
  let c0_26 : Index := 0#32
  ![v58.toNat, 10, 0]
def k0_off9 (k0_t2 : Fin k0_t2_loop.trips) : Fin 4 → Nat :=
  let c0_117 : Index := 0#32
  let c0_i32_3 : BitVec 32 := 0#32
  let c1_i32_5 : BitVec 32 := 1#32
  let arg13 : BitVec 32 := Scf.iv c0_i32_3 c1_i32_5 k0_t2
  let v309 : Index := Scalar.indexCast arg13
  let c0_118 : Index := 0#32
  let c0_119 : Index := 0#32
  ![0, v309.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x24x32x112 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x672 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x672 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x24x32x672 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x24x32x672 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x672 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := .none

abbrev stage1_0 : Fin 1 → Memref sig .tc .vmem S64x672 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S672x28 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x28 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x28 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S28x672 .i8 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x672 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x672 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .smem S3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S64x672 .i8 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S64x28 .i8 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S64x672 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := ⟨1, ![64], ![false]⟩

@[reducible] def k2_t1_loop : Scf.Loop 32 :=
  let c0_i32 : BitVec 32 := 0#32
  let c24_i32 : BitVec 32 := 24#32
  let v9 : BitVec 32 := Scalar.addi c0_i32 c24_i32
  let c1_i32 : BitVec 32 := 1#32
  ⟨c0_i32, v9, c1_i32⟩
def k2_off1 (k2_t1 : Fin k2_t1_loop.trips) : Fin 4 → Nat :=
  let c0_4 : Index := 0#32
  let c0_i32 : BitVec 32 := 0#32
  let c1_i32 : BitVec 32 := 1#32
  let arg11 : BitVec 32 := Scf.iv c0_i32 c1_i32 k2_t1
  let v10 : Index := Scalar.indexCast arg11
  let c0_5 : Index := 0#32
  let c0_6 : Index := 0#32
  ![0, v10.toNat, 0, 0]
def k2_off2 (k2_t1 : Fin k2_t1_loop.trips) : Fin 4 → Nat :=
  let c0_18 : Index := 0#32
  let c0_i32 : BitVec 32 := 0#32
  let c1_i32 : BitVec 32 := 1#32
  let arg11 : BitVec 32 := Scf.iv c0_i32 c1_i32 k2_t1
  let v38 : Index := Scalar.indexCast arg11
  let c0_19 : Index := 0#32
  let c0_20 : Index := 0#32
  ![0, v38.toNat, 0, 0]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_8 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_9 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x24x32x672 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x672 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S672x112 .i8 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x112 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x112 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x24x32x112 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .smem S4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x24x32x672 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x24x32x112 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x24x32x112 .i8 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S64x24x32x112 : Shape := ⟨4, ![64, 24, 32, 112]⟩
abbrev S_ : Shape := ⟨0, ![]⟩
abbrev S112x672 : Shape := ⟨2, ![112, 672]⟩
abbrev S672 : Shape := ⟨1, ![672]⟩
abbrev S25x672 : Shape := ⟨2, ![25, 672]⟩
abbrev S672x28 : Shape := ⟨2, ![672, 28]⟩
abbrev S28 : Shape := ⟨1, ![28]⟩
abbrev S28x672 : Shape := ⟨2, ![28, 672]⟩
abbrev S672x112 : Shape := ⟨2, ![672, 112]⟩
abbrev S112 : Shape := ⟨1, ![112]⟩
abbrev S64x24x32x672 : Shape := ⟨4, ![64, 24, 32, 672]⟩
abbrev S1x1x1x672 : Shape := ⟨4, ![1, 1, 1, 672]⟩
abbrev S64x28x36x672 : Shape := ⟨4, ![64, 28, 36, 672]⟩
abbrev S1x672 : Shape := ⟨2, ![1, 672]⟩
abbrev S64x672 : Shape := ⟨2, ![64, 672]⟩
abbrev S64x28 : Shape := ⟨2, ![64, 28]⟩
abbrev S1x28 : Shape := ⟨2, ![1, 28]⟩
abbrev S64x1x1x672 : Shape := ⟨4, ![64, 1, 1, 672]⟩
abbrev S1x1x1x112 : Shape := ⟨4, ![1, 1, 1, 112]⟩

abbrev nBuf : Space → Nat
  | .hbm => 456
  | .vmem => 0
  | .smem => 0
  | _ => 0

abbrev hbmTy0_0 (i : Nat) : BufTy := match i % 128 with
  | 0 => ⟨S64x24x32x112, .i8⟩
  | 1 => ⟨S_, .f32⟩
  | 2 => ⟨S112x672, .i8⟩
  | 3 => ⟨S672, .f32⟩
  | 4 => ⟨S672, .f32⟩
  | 5 => ⟨S_, .f32⟩
  | 6 => ⟨S25x672, .i8⟩
  | 7 => ⟨S672, .f32⟩
  | 8 => ⟨S672, .f32⟩
  | 9 => ⟨S_, .f32⟩
  | 10 => ⟨S_, .f32⟩
  | 11 => ⟨S672x28, .i8⟩
  | 12 => ⟨S28, .f32⟩
  | 13 => ⟨S28, .f32⟩
  | 14 => ⟨S_, .f32⟩
  | 15 => ⟨S28x672, .i8⟩
  | 16 => ⟨S672, .f32⟩
  | 17 => ⟨S672, .f32⟩
  | 18 => ⟨S_, .f32⟩
  | 19 => ⟨S672x112, .i8⟩
  | 20 => ⟨S112, .f32⟩
  | 21 => ⟨S112, .f32⟩
  | 22 => ⟨S_, .f32⟩
  | 23 => ⟨S64x24x32x112, .i32⟩
  | 24 => ⟨S64x24x32x112, .f32⟩
  | 25 => ⟨S64x24x32x112, .bf16⟩
  | 26 => ⟨S112x672, .i32⟩
  | 27 => ⟨S112x672, .f32⟩
  | 28 => ⟨S112x672, .bf16⟩
  | 29 => ⟨S64x24x32x672, .f32⟩
  | 30 => ⟨S672, .f32⟩
  | 31 => ⟨S672, .f32⟩
  | 32 => ⟨S1x1x1x672, .f32⟩
  | 33 => ⟨S64x24x32x672, .f32⟩
  | 34 => ⟨S64x24x32x672, .f32⟩
  | 35 => ⟨S1x1x1x672, .f32⟩
  | 36 => ⟨S64x24x32x672, .f32⟩
  | 37 => ⟨S64x24x32x672, .f32⟩
  | 38 => ⟨S64x24x32x672, .f32⟩
  | 39 => ⟨S64x24x32x672, .f32⟩
  | 40 => ⟨S_, .f32⟩
  | 41 => ⟨S64x24x32x672, .f32⟩
  | 42 => ⟨S64x24x32x672, .f32⟩
  | 43 => ⟨S_, .f32⟩
  | 44 => ⟨S64x24x32x672, .f32⟩
  | 45 => ⟨S64x24x32x672, .f32⟩
  | 46 => ⟨S64x24x32x672, .f32⟩
  | 47 => ⟨S64x24x32x672, .f32⟩
  | 48 => ⟨S64x24x32x672, .f32⟩
  | 49 => ⟨S64x24x32x672, .f32⟩
  | 50 => ⟨S_, .i32⟩
  | 51 => ⟨S_, .i32⟩
  | 52 => ⟨S_, .f32⟩
  | 53 => ⟨S64x24x32x672, .f32⟩
  | 54 => ⟨S64x24x32x672, .f32⟩
  | 55 => ⟨S_, .f32⟩
  | 56 => ⟨S64x24x32x672, .f32⟩
  | 57 => ⟨S64x24x32x672, .f32⟩
  | 58 => ⟨S64x24x32x672, .i32⟩
  | 59 => ⟨S64x24x32x672, .i8⟩
  | 60 => ⟨S_, .i32⟩
  | 61 => ⟨S_, .i8⟩
  | 62 => ⟨S64x28x36x672, .i8⟩
  | 63 => ⟨S_, .i32⟩
  | 64 => ⟨S64x24x32x672, .i32⟩
  | 65 => ⟨S64x24x32x672, .i8⟩
  | 66 => ⟨S64x24x32x672, .i32⟩
  | 67 => ⟨S1x672, .i8⟩
  | 68 => ⟨S672, .i8⟩
  | 69 => ⟨S672, .i32⟩
  | 70 => ⟨S1x1x1x672, .i32⟩
  | 71 => ⟨S64x24x32x672, .i32⟩
  | 72 => ⟨S64x24x32x672, .i32⟩
  | 73 => ⟨S64x24x32x672, .i32⟩
  | 74 => ⟨S64x24x32x672, .i8⟩
  | 75 => ⟨S64x24x32x672, .i32⟩
  | 76 => ⟨S1x672, .i8⟩
  | 77 => ⟨S672, .i8⟩
  | 78 => ⟨S672, .i32⟩
  | 79 => ⟨S1x1x1x672, .i32⟩
  | 80 => ⟨S64x24x32x672, .i32⟩
  | 81 => ⟨S64x24x32x672, .i32⟩
  | 82 => ⟨S64x24x32x672, .i32⟩
  | 83 => ⟨S64x24x32x672, .i8⟩
  | 84 => ⟨S64x24x32x672, .i32⟩
  | 85 => ⟨S1x672, .i8⟩
  | 86 => ⟨S672, .i8⟩
  | 87 => ⟨S672, .i32⟩
  | 88 => ⟨S1x1x1x672, .i32⟩
  | 89 => ⟨S64x24x32x672, .i32⟩
  | 90 => ⟨S64x24x32x672, .i32⟩
  | 91 => ⟨S64x24x32x672, .i32⟩
  | 92 => ⟨S64x24x32x672, .i8⟩
  | 93 => ⟨S64x24x32x672, .i32⟩
  | 94 => ⟨S1x672, .i8⟩
  | 95 => ⟨S672, .i8⟩
  | 96 => ⟨S672, .i32⟩
  | 97 => ⟨S1x1x1x672, .i32⟩
  | 98 => ⟨S64x24x32x672, .i32⟩
  | 99 => ⟨S64x24x32x672, .i32⟩
  | 100 => ⟨S64x24x32x672, .i32⟩
  | 101 => ⟨S64x24x32x672, .i8⟩
  | 102 => ⟨S64x24x32x672, .i32⟩
  | 103 => ⟨S1x672, .i8⟩
  | 104 => ⟨S672, .i8⟩
  | 105 => ⟨S672, .i32⟩
  | 106 => ⟨S1x1x1x672, .i32⟩
  | 107 => ⟨S64x24x32x672, .i32⟩
  | 108 => ⟨S64x24x32x672, .i32⟩
  | 109 => ⟨S64x24x32x672, .i32⟩
  | 110 => ⟨S64x24x32x672, .i8⟩
  | 111 => ⟨S64x24x32x672, .i32⟩
  | 112 => ⟨S1x672, .i8⟩
  | 113 => ⟨S672, .i8⟩
  | 114 => ⟨S672, .i32⟩
  | 115 => ⟨S1x1x1x672, .i32⟩
  | 116 => ⟨S64x24x32x672, .i32⟩
  | 117 => ⟨S64x24x32x672, .i32⟩
  | 118 => ⟨S64x24x32x672, .i32⟩
  | 119 => ⟨S64x24x32x672, .i8⟩
  | 120 => ⟨S64x24x32x672, .i32⟩
  | 121 => ⟨S1x672, .i8⟩
  | 122 => ⟨S672, .i8⟩
  | 123 => ⟨S672, .i32⟩
  | 124 => ⟨S1x1x1x672, .i32⟩
  | 125 => ⟨S64x24x32x672, .i32⟩
  | 126 => ⟨S64x24x32x672, .i32⟩
  | 127 => ⟨S64x24x32x672, .i32⟩
  | _ => ⟨S64x24x32x112, .i8⟩

abbrev hbmTy0_1 (i : Nat) : BufTy := match i % 128 with
  | 0 => ⟨S64x24x32x672, .i8⟩
  | 1 => ⟨S64x24x32x672, .i32⟩
  | 2 => ⟨S1x672, .i8⟩
  | 3 => ⟨S672, .i8⟩
  | 4 => ⟨S672, .i32⟩
  | 5 => ⟨S1x1x1x672, .i32⟩
  | 6 => ⟨S64x24x32x672, .i32⟩
  | 7 => ⟨S64x24x32x672, .i32⟩
  | 8 => ⟨S64x24x32x672, .i32⟩
  | 9 => ⟨S64x24x32x672, .i8⟩
  | 10 => ⟨S64x24x32x672, .i32⟩
  | 11 => ⟨S1x672, .i8⟩
  | 12 => ⟨S672, .i8⟩
  | 13 => ⟨S672, .i32⟩
  | 14 => ⟨S1x1x1x672, .i32⟩
  | 15 => ⟨S64x24x32x672, .i32⟩
  | 16 => ⟨S64x24x32x672, .i32⟩
  | 17 => ⟨S64x24x32x672, .i32⟩
  | 18 => ⟨S64x24x32x672, .i8⟩
  | 19 => ⟨S64x24x32x672, .i32⟩
  | 20 => ⟨S1x672, .i8⟩
  | 21 => ⟨S672, .i8⟩
  | 22 => ⟨S672, .i32⟩
  | 23 => ⟨S1x1x1x672, .i32⟩
  | 24 => ⟨S64x24x32x672, .i32⟩
  | 25 => ⟨S64x24x32x672, .i32⟩
  | 26 => ⟨S64x24x32x672, .i32⟩
  | 27 => ⟨S64x24x32x672, .i8⟩
  | 28 => ⟨S64x24x32x672, .i32⟩
  | 29 => ⟨S1x672, .i8⟩
  | 30 => ⟨S672, .i8⟩
  | 31 => ⟨S672, .i32⟩
  | 32 => ⟨S1x1x1x672, .i32⟩
  | 33 => ⟨S64x24x32x672, .i32⟩
  | 34 => ⟨S64x24x32x672, .i32⟩
  | 35 => ⟨S64x24x32x672, .i32⟩
  | 36 => ⟨S64x24x32x672, .i8⟩
  | 37 => ⟨S64x24x32x672, .i32⟩
  | 38 => ⟨S1x672, .i8⟩
  | 39 => ⟨S672, .i8⟩
  | 40 => ⟨S672, .i32⟩
  | 41 => ⟨S1x1x1x672, .i32⟩
  | 42 => ⟨S64x24x32x672, .i32⟩
  | 43 => ⟨S64x24x32x672, .i32⟩
  | 44 => ⟨S64x24x32x672, .i32⟩
  | 45 => ⟨S64x24x32x672, .i8⟩
  | 46 => ⟨S64x24x32x672, .i32⟩
  | 47 => ⟨S1x672, .i8⟩
  | 48 => ⟨S672, .i8⟩
  | 49 => ⟨S672, .i32⟩
  | 50 => ⟨S1x1x1x672, .i32⟩
  | 51 => ⟨S64x24x32x672, .i32⟩
  | 52 => ⟨S64x24x32x672, .i32⟩
  | 53 => ⟨S64x24x32x672, .i32⟩
  | 54 => ⟨S64x24x32x672, .i8⟩
  | 55 => ⟨S64x24x32x672, .i32⟩
  | 56 => ⟨S1x672, .i8⟩
  | 57 => ⟨S672, .i8⟩
  | 58 => ⟨S672, .i32⟩
  | 59 => ⟨S1x1x1x672, .i32⟩
  | 60 => ⟨S64x24x32x672, .i32⟩
  | 61 => ⟨S64x24x32x672, .i32⟩
  | 62 => ⟨S64x24x32x672, .i32⟩
  | 63 => ⟨S64x24x32x672, .i8⟩
  | 64 => ⟨S64x24x32x672, .i32⟩
  | 65 => ⟨S1x672, .i8⟩
  | 66 => ⟨S672, .i8⟩
  | 67 => ⟨S672, .i32⟩
  | 68 => ⟨S1x1x1x672, .i32⟩
  | 69 => ⟨S64x24x32x672, .i32⟩
  | 70 => ⟨S64x24x32x672, .i32⟩
  | 71 => ⟨S64x24x32x672, .i32⟩
  | 72 => ⟨S64x24x32x672, .i8⟩
  | 73 => ⟨S64x24x32x672, .i32⟩
  | 74 => ⟨S1x672, .i8⟩
  | 75 => ⟨S672, .i8⟩
  | 76 => ⟨S672, .i32⟩
  | 77 => ⟨S1x1x1x672, .i32⟩
  | 78 => ⟨S64x24x32x672, .i32⟩
  | 79 => ⟨S64x24x32x672, .i32⟩
  | 80 => ⟨S64x24x32x672, .i32⟩
  | 81 => ⟨S64x24x32x672, .i8⟩
  | 82 => ⟨S64x24x32x672, .i32⟩
  | 83 => ⟨S1x672, .i8⟩
  | 84 => ⟨S672, .i8⟩
  | 85 => ⟨S672, .i32⟩
  | 86 => ⟨S1x1x1x672, .i32⟩
  | 87 => ⟨S64x24x32x672, .i32⟩
  | 88 => ⟨S64x24x32x672, .i32⟩
  | 89 => ⟨S64x24x32x672, .i32⟩
  | 90 => ⟨S64x24x32x672, .i8⟩
  | 91 => ⟨S64x24x32x672, .i32⟩
  | 92 => ⟨S1x672, .i8⟩
  | 93 => ⟨S672, .i8⟩
  | 94 => ⟨S672, .i32⟩
  | 95 => ⟨S1x1x1x672, .i32⟩
  | 96 => ⟨S64x24x32x672, .i32⟩
  | 97 => ⟨S64x24x32x672, .i32⟩
  | 98 => ⟨S64x24x32x672, .i32⟩
  | 99 => ⟨S64x24x32x672, .i8⟩
  | 100 => ⟨S64x24x32x672, .i32⟩
  | 101 => ⟨S1x672, .i8⟩
  | 102 => ⟨S672, .i8⟩
  | 103 => ⟨S672, .i32⟩
  | 104 => ⟨S1x1x1x672, .i32⟩
  | 105 => ⟨S64x24x32x672, .i32⟩
  | 106 => ⟨S64x24x32x672, .i32⟩
  | 107 => ⟨S64x24x32x672, .i32⟩
  | 108 => ⟨S64x24x32x672, .i8⟩
  | 109 => ⟨S64x24x32x672, .i32⟩
  | 110 => ⟨S1x672, .i8⟩
  | 111 => ⟨S672, .i8⟩
  | 112 => ⟨S672, .i32⟩
  | 113 => ⟨S1x1x1x672, .i32⟩
  | 114 => ⟨S64x24x32x672, .i32⟩
  | 115 => ⟨S64x24x32x672, .i32⟩
  | 116 => ⟨S64x24x32x672, .i32⟩
  | 117 => ⟨S64x24x32x672, .i8⟩
  | 118 => ⟨S64x24x32x672, .i32⟩
  | 119 => ⟨S1x672, .i8⟩
  | 120 => ⟨S672, .i8⟩
  | 121 => ⟨S672, .i32⟩
  | 122 => ⟨S1x1x1x672, .i32⟩
  | 123 => ⟨S64x24x32x672, .i32⟩
  | 124 => ⟨S64x24x32x672, .i32⟩
  | 125 => ⟨S64x24x32x672, .i32⟩
  | 126 => ⟨S64x24x32x672, .i8⟩
  | 127 => ⟨S64x24x32x672, .i32⟩
  | _ => ⟨S64x24x32x112, .i8⟩

abbrev hbmTy0_2 (i : Nat) : BufTy := match i % 128 with
  | 0 => ⟨S1x672, .i8⟩
  | 1 => ⟨S672, .i8⟩
  | 2 => ⟨S672, .i32⟩
  | 3 => ⟨S1x1x1x672, .i32⟩
  | 4 => ⟨S64x24x32x672, .i32⟩
  | 5 => ⟨S64x24x32x672, .i32⟩
  | 6 => ⟨S64x24x32x672, .i32⟩
  | 7 => ⟨S64x24x32x672, .i8⟩
  | 8 => ⟨S64x24x32x672, .i32⟩
  | 9 => ⟨S1x672, .i8⟩
  | 10 => ⟨S672, .i8⟩
  | 11 => ⟨S672, .i32⟩
  | 12 => ⟨S1x1x1x672, .i32⟩
  | 13 => ⟨S64x24x32x672, .i32⟩
  | 14 => ⟨S64x24x32x672, .i32⟩
  | 15 => ⟨S64x24x32x672, .i32⟩
  | 16 => ⟨S64x24x32x672, .i8⟩
  | 17 => ⟨S64x24x32x672, .i32⟩
  | 18 => ⟨S1x672, .i8⟩
  | 19 => ⟨S672, .i8⟩
  | 20 => ⟨S672, .i32⟩
  | 21 => ⟨S1x1x1x672, .i32⟩
  | 22 => ⟨S64x24x32x672, .i32⟩
  | 23 => ⟨S64x24x32x672, .i32⟩
  | 24 => ⟨S64x24x32x672, .i32⟩
  | 25 => ⟨S64x24x32x672, .i8⟩
  | 26 => ⟨S64x24x32x672, .i32⟩
  | 27 => ⟨S1x672, .i8⟩
  | 28 => ⟨S672, .i8⟩
  | 29 => ⟨S672, .i32⟩
  | 30 => ⟨S1x1x1x672, .i32⟩
  | 31 => ⟨S64x24x32x672, .i32⟩
  | 32 => ⟨S64x24x32x672, .i32⟩
  | 33 => ⟨S64x24x32x672, .i32⟩
  | 34 => ⟨S64x24x32x672, .f32⟩
  | 35 => ⟨S672, .f32⟩
  | 36 => ⟨S672, .f32⟩
  | 37 => ⟨S1x1x1x672, .f32⟩
  | 38 => ⟨S64x24x32x672, .f32⟩
  | 39 => ⟨S64x24x32x672, .f32⟩
  | 40 => ⟨S1x1x1x672, .f32⟩
  | 41 => ⟨S64x24x32x672, .f32⟩
  | 42 => ⟨S64x24x32x672, .f32⟩
  | 43 => ⟨S64x24x32x672, .f32⟩
  | 44 => ⟨S64x24x32x672, .f32⟩
  | 45 => ⟨S_, .f32⟩
  | 46 => ⟨S64x24x32x672, .f32⟩
  | 47 => ⟨S64x24x32x672, .f32⟩
  | 48 => ⟨S_, .f32⟩
  | 49 => ⟨S64x24x32x672, .f32⟩
  | 50 => ⟨S64x24x32x672, .f32⟩
  | 51 => ⟨S64x24x32x672, .f32⟩
  | 52 => ⟨S64x24x32x672, .f32⟩
  | 53 => ⟨S64x24x32x672, .f32⟩
  | 54 => ⟨S64x24x32x672, .f32⟩
  | 55 => ⟨S_, .i32⟩
  | 56 => ⟨S_, .i32⟩
  | 57 => ⟨S_, .f32⟩
  | 58 => ⟨S64x24x32x672, .f32⟩
  | 59 => ⟨S64x24x32x672, .f32⟩
  | 60 => ⟨S_, .f32⟩
  | 61 => ⟨S64x24x32x672, .f32⟩
  | 62 => ⟨S64x24x32x672, .f32⟩
  | 63 => ⟨S64x24x32x672, .i32⟩
  | 64 => ⟨S64x24x32x672, .i8⟩
  | 65 => ⟨S64x24x32x672, .i32⟩
  | 66 => ⟨S_, .i32⟩
  | 67 => ⟨S64x672, .i32⟩
  | 68 => ⟨S64x672, .f32⟩
  | 69 => ⟨S64x672, .f32⟩
  | 70 => ⟨S64x672, .f32⟩
  | 71 => ⟨S_, .f32⟩
  | 72 => ⟨S64x672, .f32⟩
  | 73 => ⟨S64x672, .f32⟩
  | 74 => ⟨S64x672, .f32⟩
  | 75 => ⟨S64x672, .f32⟩
  | 76 => ⟨S64x672, .f32⟩
  | 77 => ⟨S_, .i32⟩
  | 78 => ⟨S_, .i32⟩
  | 79 => ⟨S_, .f32⟩
  | 80 => ⟨S64x672, .f32⟩
  | 81 => ⟨S64x672, .f32⟩
  | 82 => ⟨S_, .f32⟩
  | 83 => ⟨S64x672, .f32⟩
  | 84 => ⟨S64x672, .f32⟩
  | 85 => ⟨S64x672, .i32⟩
  | 86 => ⟨S64x672, .i8⟩
  | 87 => ⟨S64x672, .i32⟩
  | 88 => ⟨S64x672, .f32⟩
  | 89 => ⟨S64x672, .bf16⟩
  | 90 => ⟨S672x28, .i32⟩
  | 91 => ⟨S672x28, .f32⟩
  | 92 => ⟨S672x28, .bf16⟩
  | 93 => ⟨S64x28, .f32⟩
  | 94 => ⟨S28, .f32⟩
  | 95 => ⟨S28, .f32⟩
  | 96 => ⟨S1x28, .f32⟩
  | 97 => ⟨S64x28, .f32⟩
  | 98 => ⟨S64x28, .f32⟩
  | 99 => ⟨S1x28, .f32⟩
  | 100 => ⟨S64x28, .f32⟩
  | 101 => ⟨S64x28, .f32⟩
  | 102 => ⟨S64x28, .f32⟩
  | 103 => ⟨S64x28, .f32⟩
  | 104 => ⟨S_, .f32⟩
  | 105 => ⟨S64x28, .f32⟩
  | 106 => ⟨S64x28, .f32⟩
  | 107 => ⟨S_, .f32⟩
  | 108 => ⟨S64x28, .f32⟩
  | 109 => ⟨S64x28, .f32⟩
  | 110 => ⟨S64x28, .f32⟩
  | 111 => ⟨S64x28, .f32⟩
  | 112 => ⟨S64x28, .f32⟩
  | 113 => ⟨S64x28, .f32⟩
  | 114 => ⟨S_, .i32⟩
  | 115 => ⟨S_, .i32⟩
  | 116 => ⟨S_, .f32⟩
  | 117 => ⟨S64x28, .f32⟩
  | 118 => ⟨S64x28, .f32⟩
  | 119 => ⟨S_, .f32⟩
  | 120 => ⟨S64x28, .f32⟩
  | 121 => ⟨S64x28, .f32⟩
  | 122 => ⟨S64x28, .i32⟩
  | 123 => ⟨S64x28, .i8⟩
  | 124 => ⟨S64x28, .i32⟩
  | 125 => ⟨S64x28, .f32⟩
  | 126 => ⟨S64x28, .bf16⟩
  | 127 => ⟨S28x672, .i32⟩
  | _ => ⟨S64x24x32x112, .i8⟩

abbrev hbmTy0_3 (i : Nat) : BufTy := match i % 128 with
  | 0 => ⟨S28x672, .f32⟩
  | 1 => ⟨S28x672, .bf16⟩
  | 2 => ⟨S64x672, .f32⟩
  | 3 => ⟨S672, .f32⟩
  | 4 => ⟨S672, .f32⟩
  | 5 => ⟨S1x672, .f32⟩
  | 6 => ⟨S64x672, .f32⟩
  | 7 => ⟨S64x672, .f32⟩
  | 8 => ⟨S1x672, .f32⟩
  | 9 => ⟨S64x672, .f32⟩
  | 10 => ⟨S64x672, .f32⟩
  | 11 => ⟨S64x672, .f32⟩
  | 12 => ⟨S64x672, .f32⟩
  | 13 => ⟨S_, .f32⟩
  | 14 => ⟨S64x672, .f32⟩
  | 15 => ⟨S64x672, .f32⟩
  | 16 => ⟨S_, .f32⟩
  | 17 => ⟨S64x672, .f32⟩
  | 18 => ⟨S64x672, .f32⟩
  | 19 => ⟨S64x24x32x672, .i32⟩
  | 20 => ⟨S64x24x32x672, .f32⟩
  | 21 => ⟨S64x24x32x672, .f32⟩
  | 22 => ⟨S64x24x32x672, .f32⟩
  | 23 => ⟨S64x1x1x672, .f32⟩
  | 24 => ⟨S64x24x32x672, .f32⟩
  | 25 => ⟨S64x24x32x672, .f32⟩
  | 26 => ⟨S64x24x32x672, .f32⟩
  | 27 => ⟨S64x24x32x672, .f32⟩
  | 28 => ⟨S64x24x32x672, .f32⟩
  | 29 => ⟨S_, .i32⟩
  | 30 => ⟨S_, .i32⟩
  | 31 => ⟨S_, .f32⟩
  | 32 => ⟨S64x24x32x672, .f32⟩
  | 33 => ⟨S64x24x32x672, .f32⟩
  | 34 => ⟨S_, .f32⟩
  | 35 => ⟨S64x24x32x672, .f32⟩
  | 36 => ⟨S64x24x32x672, .f32⟩
  | 37 => ⟨S64x24x32x672, .i32⟩
  | 38 => ⟨S64x24x32x672, .i8⟩
  | 39 => ⟨S64x24x32x672, .i32⟩
  | 40 => ⟨S64x24x32x672, .f32⟩
  | 41 => ⟨S64x24x32x672, .bf16⟩
  | 42 => ⟨S672x112, .i32⟩
  | 43 => ⟨S672x112, .f32⟩
  | 44 => ⟨S672x112, .bf16⟩
  | 45 => ⟨S64x24x32x112, .f32⟩
  | 46 => ⟨S112, .f32⟩
  | 47 => ⟨S112, .f32⟩
  | 48 => ⟨S1x1x1x112, .f32⟩
  | 49 => ⟨S64x24x32x112, .f32⟩
  | 50 => ⟨S64x24x32x112, .f32⟩
  | 51 => ⟨S1x1x1x112, .f32⟩
  | 52 => ⟨S64x24x32x112, .f32⟩
  | 53 => ⟨S64x24x32x112, .f32⟩
  | 54 => ⟨S64x24x32x112, .i32⟩
  | 55 => ⟨S64x24x32x112, .f32⟩
  | 56 => ⟨S64x24x32x112, .f32⟩
  | 57 => ⟨S64x24x32x112, .f32⟩
  | 58 => ⟨S64x24x32x112, .f32⟩
  | 59 => ⟨S64x24x32x112, .f32⟩
  | 60 => ⟨S64x24x32x112, .f32⟩
  | 61 => ⟨S64x24x32x112, .f32⟩
  | 62 => ⟨S_, .i32⟩
  | 63 => ⟨S_, .i32⟩
  | 64 => ⟨S_, .f32⟩
  | 65 => ⟨S64x24x32x112, .f32⟩
  | 66 => ⟨S64x24x32x112, .f32⟩
  | 67 => ⟨S_, .f32⟩
  | 68 => ⟨S64x24x32x112, .f32⟩
  | 69 => ⟨S64x24x32x112, .f32⟩
  | 70 => ⟨S64x24x32x112, .i32⟩
  | 71 => ⟨S64x24x32x112, .i8⟩
  | _ => ⟨S64x24x32x112, .i8⟩

abbrev hbmTy (i : Nat) : BufTy := match i / 128 with
  | 0 => hbmTy0_0 i
  | 1 => hbmTy0_1 i
  | 2 => hbmTy0_2 i
  | 3 => hbmTy0_3 i
  | _ => ⟨S64x24x32x112, .i8⟩

abbrev bufTy : (tb : Table) → Fin (tcTables nBuf tb) → BufTy
  | .hbm, ⟨i, _⟩ => hbmTy i
  | _, _ => ⟨S64x24x32x112, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_cst_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_c_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_2 : Ref sig .tc := ⟨.hbm, 60, rfl⟩
abbrev main_call2_v0 : Ref sig .tc := ⟨.hbm, 61, rfl⟩
abbrev main_v28 : Ref sig .tc := ⟨.hbm, 62, rfl⟩
abbrev main_c_3 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_cst_4 : Ref sig .tc := ⟨.hbm, 301, rfl⟩
abbrev main_v266 : Ref sig .tc := ⟨.hbm, 302, rfl⟩
abbrev main_v267 : Ref sig .tc := ⟨.hbm, 303, rfl⟩
abbrev main_cst_5 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_c_6 : Ref sig .tc := ⟨.hbm, 311, rfl⟩
abbrev main_c_7 : Ref sig .tc := ⟨.hbm, 312, rfl⟩
abbrev main_call4_v0 : Ref sig .tc := ⟨.hbm, 313, rfl⟩
abbrev main_call4_v1 : Ref sig .tc := ⟨.hbm, 314, rfl⟩
abbrev main_call4_v2 : Ref sig .tc := ⟨.hbm, 315, rfl⟩
abbrev main_call4_v3 : Ref sig .tc := ⟨.hbm, 316, rfl⟩
abbrev main_call4_v4 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_c_8 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_9 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_c_10 : Ref sig .tc := ⟨.hbm, 333, rfl⟩
abbrev main_c_11 : Ref sig .tc := ⟨.hbm, 334, rfl⟩
abbrev main_call6_v0 : Ref sig .tc := ⟨.hbm, 335, rfl⟩
abbrev main_call6_v1 : Ref sig .tc := ⟨.hbm, 336, rfl⟩
abbrev main_call6_v2 : Ref sig .tc := ⟨.hbm, 337, rfl⟩
abbrev main_call6_v3 : Ref sig .tc := ⟨.hbm, 338, rfl⟩
abbrev main_call6_v4 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_cst_12 : Ref sig .tc := ⟨.hbm, 360, rfl⟩
abbrev main_v307 : Ref sig .tc := ⟨.hbm, 361, rfl⟩
abbrev main_v308 : Ref sig .tc := ⟨.hbm, 362, rfl⟩
abbrev main_cst_13 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_c_14 : Ref sig .tc := ⟨.hbm, 370, rfl⟩
abbrev main_c_15 : Ref sig .tc := ⟨.hbm, 371, rfl⟩
abbrev main_call8_v0 : Ref sig .tc := ⟨.hbm, 372, rfl⟩
abbrev main_call8_v1 : Ref sig .tc := ⟨.hbm, 373, rfl⟩
abbrev main_call8_v2 : Ref sig .tc := ⟨.hbm, 374, rfl⟩
abbrev main_call8_v3 : Ref sig .tc := ⟨.hbm, 375, rfl⟩
abbrev main_call8_v4 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_cst_16 : Ref sig .tc := ⟨.hbm, 397, rfl⟩
abbrev main_v335 : Ref sig .tc := ⟨.hbm, 398, rfl⟩
abbrev main_v336 : Ref sig .tc := ⟨.hbm, 399, rfl⟩
abbrev main_cst_17 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_v341 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_c_18 : Ref sig .tc := ⟨.hbm, 413, rfl⟩
abbrev main_c_19 : Ref sig .tc := ⟨.hbm, 414, rfl⟩
abbrev main_call10_v0 : Ref sig .tc := ⟨.hbm, 415, rfl⟩
abbrev main_call10_v1 : Ref sig .tc := ⟨.hbm, 416, rfl⟩
abbrev main_call10_v2 : Ref sig .tc := ⟨.hbm, 417, rfl⟩
abbrev main_call10_v3 : Ref sig .tc := ⟨.hbm, 418, rfl⟩
abbrev main_call10_v4 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_c_20 : Ref sig .tc := ⟨.hbm, 446, rfl⟩
abbrev main_c_21 : Ref sig .tc := ⟨.hbm, 447, rfl⟩
abbrev main_call12_v0 : Ref sig .tc := ⟨.hbm, 448, rfl⟩
abbrev main_call12_v1 : Ref sig .tc := ⟨.hbm, 449, rfl⟩
abbrev main_call12_v2 : Ref sig .tc := ⟨.hbm, 450, rfl⟩
abbrev main_call12_v3 : Ref sig .tc := ⟨.hbm, 451, rfl⟩
abbrev main_call12_v4 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩

abbrev nD : Nat := 1
abbrev τ : Topo := Topo.v7x

variable {F : FTy → Type} [FloatOps F]
-- ==== Proof.K.Runs.lean ====
/- The body of call 0 at every grid point, and what its scratch buffer holds between them. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

abbrev VO0_8 : View sig .tc .vmem S1x24x32x672 .i8 := (Memref.whole cc0_stg8_0 : Memref sig .tc .vmem S1x24x32x672 .i8).view
abbrev VO0_9 : View sig .tc .vmem S1x24x32x672 .i8 := (Memref.whole cc0_stg9_0 : Memref sig .tc .vmem S1x24x32x672 .i8).view
abbrev VO0_10 : View sig .tc .vmem S1x1x672 .f32 := (Memref.whole cc0_stg10_0 : Memref sig .tc .vmem S1x1x672 .f32).view
abbrev ms0_0 (t : Fin cfg0.N) : Memref sig .tc .vmem S1x24x32x112 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S112x672 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x672 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x672 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S25x672 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x672 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x672 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x24x32x672 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x24x32x672 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x672 .f32 := win0_10.stage (cfg0.slots t 10)
abbrev hs0_10 (t : Fin cfg0.N) : (ms0_10 t).IsWhole := hstage0_10 ((cfg0.slots t 10).cast nbuf0_10)
abbrev scM0_0 : Memref sig .tc .vmem S28x48x672 .f32 := Memref.whole cc0_scratch0
abbrev VS0_0 : View sig .tc .vmem S28x48x672 .f32 := scM0_0.view

/-- What the call carries unopened beside its own scratch: every other scoped buffer, and the generator register. -/
def G (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem PhiA0_eq (c : Dev nD) :
    (Pipeline.ΦA spec0 c : sProp 𝕄)
      = iprop((∃ d, owns (c : Thread nD τ) scM0_0 fullShare d) ∗ G (F := F) c) := by
  have hs : (iprop(∃ d, owns (c : Thread nD τ) scM0_0 fullShare d) : sProp 𝕄)
      = iprop(∃ f : Buf (Elt F) ((c : Thread nD τ).loc cc0_scratch0), ((c : Thread nD τ).loc cc0_scratch0) ↦{fullShare} f) := by
    simp only [scM0_0, owns_whole]; try rfl
  unfold Pipeline.ΦA G
  rw [scopedRest0_split, hs]
  exact Idealize.SL.BI.equiv_iff.mp ⟨Idealize.SL.BI.sep_assoc, Idealize.SL.BI.sep_assoc'⟩

end Cert.Kernel.R0

end
-- ==== Proof.K.RunA.lean ====
/- The body of call 0 at its first grid point, where the padded buffer is zeroed. -/
module

public import proofs.«01_k».proof.Proof.K.Runs

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) :
    Σ' (L8 : List (View.Piece (Elt F) S1x24x32x672 .i8)), Σ' (L9 : List (View.Piece (Elt F) S1x24x32x672 .i8)), Σ' (L10 : List (View.Piece (Elt F) S1x1x672 .f32)), { LS0 : List (View.Piece (Elt F) S28x48x672 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_expand_dw i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_expand_dw_eq_skeleton]; unfold cc0_expand_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact HS0

end Cert.Kernel.R0

end
-- ==== Proof.K.RunB.lean ====
/- The body of call 0 at the grid points after the first. -/
module

public import proofs.«01_k».proof.Proof.K.RunA

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) :
    Σ' (L8 : List (View.Piece (Elt F) S1x24x32x672 .i8)), Σ' (L9 : List (View.Piece (Elt F) S1x24x32x672 .i8)), Σ' (L10 : List (View.Piece (Elt F) S1x1x672 .f32)), { LS0 : List (View.Piece (Elt F) S28x48x672 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0_expand_dw i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_expand_dw_eq_skeleton]; unfold cc0_expand_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS0

end Cert.Kernel.R0

end
-- ==== Proof.K.Body.lean ====
/- The triples of the body of the expand-and-depthwise call (call 0): its loops and its stores. -/
module

public import proofs.«01_k».proof.Proof.K.RunB

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
theorem cover0_A_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x24x32x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1 S1x1x32x672.size (by sl_kernel_rfl) y

def out0_A_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x24x32x672 .i8 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1)

theorem cover0_A_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x24x32x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 S1x1x32x672.size (by sl_kernel_rfl) y

def out0_A_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x24x32x672 .i8 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1)

theorem cover0_A_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x1x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1 S1x1x672.size (by sl_kernel_rfl) y

def out0_A_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x1x672 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1)

theorem scover0_A_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S28x48x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1 (by sl_whole_mem) y

def sout0_A_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S28x48x672 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1)

theorem cover0_B_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x24x32x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1 S1x1x32x672.size (by sl_kernel_rfl) y

def out0_B_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x24x32x672 .i8 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1)

theorem cover0_B_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x24x32x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1 S1x1x32x672.size (by sl_kernel_rfl) y

def out0_B_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x24x32x672 .i8 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

theorem cover0_B_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x1x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x1x672.size (by sl_kernel_rfl) y

def out0_B_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x1x672 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

def sout0_B_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S28x48x672 .f32 :=
  arg12.view.read (Elt F) (arg12.view.writes (Elt F) (harg12.unread xs0) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.2.1)

def outsAt0 (c : Dev nD) : (n : ℕ) → n < cfg0.N → Vec F S1x24x32x672 .i8 × Vec F S1x24x32x672 .i8 × Vec F S1x1x672 .f32 × Vec F S28x48x672 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 64 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2)

theorem outsAt0_A (c : Dev nD) (t : Fin cfg0.N) (h0 : t.val % 64 = 0) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

theorem outsAt0_B (c : Dev nD) (t : Fin cfg0.N) (h0 : ¬t.val % 64 = 0) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(owns (c : Thread nD τ) scM0_0 fullShare ((outsAt0 V c n hn).2.2.2) ∗ G (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare ((outsAt0 V c n hn).2.2.2) ∗ G (F := F) c) := rfl

theorem PhiS_pos (c : Dev nD) (n : ℕ) (h : n ≤ cfg0.N) (hz : n ≠ 0) :
    PhiS V c n h = iprop(owns (c : Thread nD τ) scM0_0 fullShare ((outsAt0 V c (n - 1) (by omega)).2.2.2) ∗ G (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d
theorem before0_6 (c : Dev nD) (t : Fin cfg0.N) (d) : (dat0 V c).before 6 t d = iblk V c 6 t :=
  before0_6_of V (dat0 V c) (A_eq V c 6) (after0_6 V c) t d
theorem before0_7 (c : Dev nD) (t : Fin cfg0.N) (d) : (dat0 V c).before 7 t d = iblk V c 7 t :=
  before0_7_of V (dat0 V c) (A_eq V c 7) (after0_7 V c) t d

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc V c t, PhiS_zero V c _ _ hz, PhiA0_eq]
      rw [outsAt0_A V c t h0]
      unfold out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc V c t, PhiS_pos V c _ _ hz]
      rw [outsAt0_B V c t h0]
      unfold out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat0 V c).Φ (Fin.last cfg0.N) ⊢ Pipeline.ΦA spec0 c :=
  Phi_out V c _ (by rw [Fin.val_last]; have : cfg0.N = 64 := N_0; omega)

end Cert.Kernel.R0

end
-- ==== Proof.K.Run.lean ====
/- The run of the whole program: its three kernel calls among the host operations, what every buffer holds at each
   boundary between them, and the frame. -/
module

public import proofs.«01_k».proof.Proof.K.Body
public import proofs.«01_k».proof.Proof.Gen.Own.Kernel.K1.Frame
public import proofs.«01_k».proof.Proof.Gen.Own.Kernel.K2.Frame
public import Idealize.ShloMosaic.Lib.Pipeline.RegionsLoop
public import Idealize.ShloMosaic.Lib.Pipeline.FrameSuffix

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The proof data of the three kernel calls, each over the contents `V` its call is entered at. -/
abbrev dat0 (c : Dev nD) : Dat τ (Elt F) Unit ℕ (UR sig nD τ) ℕ cfg0 c := R0.dat0 V c
abbrev dat1 (c : Dev nD) : Dat τ (Elt F) Unit ℕ (UR sig nD τ) ℕ cfg1 c := Own.K1.dat Variants.none V (fun _ => 0) c
abbrev dat2 (c : Dev nD) : Dat τ (Elt F) Unit ℕ (UR sig nD τ) ℕ cfg2 c := Own.K2.dat Variants.none V (fun _ => 0) c
theorem A_eq0 (c : Dev nD) (w : Fin cfg0.W) : (dat0 V c).A w = V c (Pipeline.arrRef spec0 w) := R0.A_eq V c w
theorem A_eq1 (c : Dev nD) (w : Fin cfg1.W) : (dat1 V c).A w = V c (Pipeline.arrRef spec1 w) := Own.K1.A_eq Variants.none V (fun _ => 0) c w
theorem A_eq2 (c : Dev nD) (w : Fin cfg2.W) : (dat2 V c).A w = V c (Pipeline.arrRef spec2 w) := Own.K2.A_eq Variants.none V (fun _ => 0) c w
theorem body_obligation0 (c : Dev nD) : BodyObligation (dat0 V c) (defs₀ (F := F)) Variants.none () Set.univ := R0.body_obligation V c
theorem body_obligation1 (c : Dev nD) : BodyObligation (dat1 V c) (defs₀ (F := F)) Variants.none () Set.univ := Own.K1.body_obligation Variants.none V (fun _ => 0) () c
theorem body_obligation2 (c : Dev nD) : BodyObligation (dat2 V c) (defs₀ (F := F)) Variants.none () Set.univ := Own.K2.body_obligation Variants.none V (fun _ => 0) () c
theorem hin0 (c : Dev nD) : Pipeline.ΦA spec0 c ⊢ (dat0 V c).Φ 0 := R0.hin V c
theorem hout0 (c : Dev nD) : (dat0 V c).Φ (Fin.last _) ⊢ Pipeline.ΦA spec0 c := R0.hout V c
theorem hin1 (c : Dev nD) : Pipeline.ΦA spec1 c ⊢ (dat1 V c).Φ 0 := .rfl
theorem hout1 (c : Dev nD) : (dat1 V c).Φ (Fin.last _) ⊢ Pipeline.ΦA spec1 c := .rfl
theorem hin2 (c : Dev nD) : Pipeline.ΦA spec2 c ⊢ (dat2 V c).Φ 0 := .rfl
theorem hout2 (c : Dev nD) : (dat2 V c).Φ (Fin.last _) ⊢ Pipeline.ΦA spec2 c := .rfl
end Regions

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_cst, main_v8, main_cst_0, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v14, main_v15, main_v16, main_v17, main_v18, main_v19, main_v20, main_v21, main_v22, main_cst_1, main_v23, main_cst_2, main_v24, main_v25, main_v26, main_v27, main_v28]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v30, main_v31, main_v32, main_v33, main_v34, main_cst_3, main_v35, main_cst_4, main_v36, main_v37, main_v38, main_v39, main_v40, main_v41]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! ## What the buffers hold at each boundary -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After call 0: its arrays at what its write-backs leave, every other buffer as the call found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of call 0's outputs keeps its contents across the call. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- After call 1: its arrays at what its write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is none of call 1's outputs keeps its contents across the call. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- After call 2: its arrays at what its write-backs leave, every other buffer as the call found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is none of call 2's outputs keeps its contents across the call. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Call 0 as a segment over the thread state: its arrays split out of the unscoped buffers and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state: its arrays split out of the unscoped buffers and put back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec1 c ⊢ (pdats m ρ 1 c).Φ 0 from hin1 (V3 m ρ) c)
    unfold Pipeline.ΦA
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment over the thread state: its arrays split out of the unscoped buffers and put back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec2 c ⊢ (pdats m ρ 2 c).Φ 0 from hin2 (V5 m ρ) c)
    unfold Pipeline.ΦA
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: the host operations before each call, then the call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution ends, with every unscoped buffer at what the last boundary says and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

theorem arg_end {M : (ℓ : Loc nD τ sig) → Buf (Elt F) ℓ} (h : ∀ c : Dev nD, ∀ b ∈ Pipeline.ucRefs τ sig, M (((c : Thread nD τ)).1, b) = W6 m ρ c b)
    (c : Dev nD) (a : Ref sig .tc) (hs : ¬ (Proc.devRef .tc a : DevRef τ sig).isScoped) (ha : a ∈ argRefs) :
    M ((c.tc : Thread nD τ).loc a) = m ((c.tc : Thread nD τ).loc a) :=
  (h c _ (mem_uc a hs)).trans (W6_args m ρ c a ha)

/-- The frame: every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
     )
      ∧ r.2.sem = fun _ => 0) :=
  (θ_run defs _ _).mono (fun r hr => ⟨fun c => have h := hr.1; ⟨arg_end m ρ h c main_arg0 (by decide) (by decide),
     arg_end m ρ h c main_arg1 (by decide) (by decide),
     arg_end m ρ h c main_arg2 (by decide) (by decide),
     arg_end m ρ h c main_arg3 (by decide) (by decide),
     arg_end m ρ h c main_arg4 (by decide) (by decide),
     arg_end m ρ h c main_arg5 (by decide) (by decide),
     arg_end m ρ h c main_arg6 (by decide) (by decide),
     arg_end m ρ h c main_arg7 (by decide) (by decide),
     arg_end m ρ h c main_arg8 (by decide) (by decide),
     arg_end m ρ h c main_arg9 (by decide) (by decide),
     arg_end m ρ h c main_arg10 (by decide) (by decide),
     arg_end m ρ h c main_arg11 (by decide) (by decide),
     arg_end m ρ h c main_arg12 (by decide) (by decide),
     arg_end m ρ h c main_arg13 (by decide) (by decide),
     arg_end m ρ h c main_arg14 (by decide) (by decide),
     arg_end m ρ h c main_arg15 (by decide) (by decide),
     arg_end m ρ h c main_arg16 (by decide) (by decide),
     arg_end m ρ h c main_arg17 (by decide) (by decide),
     arg_end m ρ h c main_arg18 (by decide) (by decide),
     arg_end m ρ h c main_arg19 (by decide) (by decide),
     arg_end m ρ h c main_arg20 (by decide) (by decide),
     arg_end m ρ h c main_arg21 (by decide) (by decide),
     arg_end m ρ h c main_arg22 (by decide) (by decide)⟩, hr.2⟩) (run_all m ρ)

end Cert.Kernel.Whole

end
-- ==== Proof.KI.Runs.lean ====
/- The body of call 0 at every grid point, and what its scratch buffer holds between them. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

abbrev VO0_8 : View sig .tc .vmem S1x24x32x672 .i8 := (Memref.whole cc0_stg8_0 : Memref sig .tc .vmem S1x24x32x672 .i8).view
abbrev VO0_9 : View sig .tc .vmem S1x24x32x672 .i8 := (Memref.whole cc0_stg9_0 : Memref sig .tc .vmem S1x24x32x672 .i8).view
abbrev VO0_10 : View sig .tc .vmem S1x1x672 .f32 := (Memref.whole cc0_stg10_0 : Memref sig .tc .vmem S1x1x672 .f32).view
abbrev ms0_0 (t : Fin cfg0.N) : Memref sig .tc .vmem S1x24x32x112 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S112x672 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x672 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x672 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S25x672 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x672 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x672 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x24x32x672 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x24x32x672 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x672 .f32 := win0_10.stage (cfg0.slots t 10)
abbrev hs0_10 (t : Fin cfg0.N) : (ms0_10 t).IsWhole := hstage0_10 ((cfg0.slots t 10).cast nbuf0_10)
abbrev scM0_0 : Memref sig .tc .vmem S28x48x672 .f32 := Memref.whole cc0_scratch0
abbrev VS0_0 : View sig .tc .vmem S28x48x672 .f32 := scM0_0.view

/-- What the call carries unopened beside its own scratch: every other scoped buffer, and the generator register. -/
def G (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem PhiA0_eq (c : Dev nD) :
    (Pipeline.ΦA spec0 c : sProp 𝕄)
      = iprop((∃ d, owns (c : Thread nD τ) scM0_0 fullShare d) ∗ G (F := F) c) := by
  have hs : (iprop(∃ d, owns (c : Thread nD τ) scM0_0 fullShare d) : sProp 𝕄)
      = iprop(∃ f : Buf (Elt F) ((c : Thread nD τ).loc cc0_scratch0), ((c : Thread nD τ).loc cc0_scratch0) ↦{fullShare} f) := by
    simp only [scM0_0, owns_whole]; try rfl
  unfold Pipeline.ΦA G
  rw [scopedRest0_split, hs]
  exact Idealize.SL.BI.equiv_iff.mp ⟨Idealize.SL.BI.sep_assoc, Idealize.SL.BI.sep_assoc'⟩

end Cert.KernelIdeal.R0

end
-- ==== Proof.KI.RunA.lean ====
/- The body of call 0 at its first grid point, where the padded buffer is zeroed. -/
module

public import proofs.«01_k».proof.Proof.KI.Runs

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) :
    Σ' (L8 : List (View.Piece (Elt F) S1x24x32x672 .i8)), Σ' (L9 : List (View.Piece (Elt F) S1x24x32x672 .i8)), Σ' (L10 : List (View.Piece (Elt F) S1x1x672 .f32)), { LS0 : List (View.Piece (Elt F) S28x48x672 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_expand_dw i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_expand_dw_eq_skeleton]; unfold cc0_expand_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact HS0

end Cert.KernelIdeal.R0

end
-- ==== Proof.KI.RunB.lean ====
/- The body of call 0 at the grid points after the first. -/
module

public import proofs.«01_k».proof.Proof.KI.RunA

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) :
    Σ' (L8 : List (View.Piece (Elt F) S1x24x32x672 .i8)), Σ' (L9 : List (View.Piece (Elt F) S1x24x32x672 .i8)), Σ' (L10 : List (View.Piece (Elt F) S1x1x672 .f32)), { LS0 : List (View.Piece (Elt F) S28x48x672 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0_expand_dw i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_expand_dw_eq_skeleton]; unfold cc0_expand_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexact HS0

end Cert.KernelIdeal.R0

end
-- ==== Proof.KI.Body.lean ====
/- The triples of the body of the expand-and-depthwise call (call 0): its loops and its stores. -/
module

public import proofs.«01_k».proof.Proof.KI.RunB

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
theorem cover0_A_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x24x32x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1 S1x1x32x672.size (by sl_kernel_rfl) y

def out0_A_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x24x32x672 .i8 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1)

theorem cover0_A_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x24x32x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 S1x1x32x672.size (by sl_kernel_rfl) y

def out0_A_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x24x32x672 .i8 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1)

theorem cover0_A_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S1x1x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1 S1x1x672.size (by sl_kernel_rfl) y

def out0_A_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S1x1x672 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1)

theorem scover0_A_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (y : S28x48x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1 (by sl_whole_mem) y

def sout0_A_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) : Vec F S28x48x672 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1)

theorem cover0_B_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x24x32x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1 S1x1x32x672.size (by sl_kernel_rfl) y

def out0_B_8 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x24x32x672 .i8 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1)

theorem cover0_B_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x24x32x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1 S1x1x32x672.size (by sl_kernel_rfl) y

def out0_B_9 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x24x32x672 .i8 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

theorem cover0_B_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) (y : S1x1x672.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x1x672.size (by sl_kernel_rfl) y

def out0_B_10 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S1x1x672 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

def sout0_B_0 (c : Dev nD) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole) (hc0 : ¬cond0_0 i)
    (x0 : Vec F S1x24x32x112 .i8) (x1 : Vec F S112x672 .i8) (x2 : Vec F S1x672 .f32) (x3 : Vec F S1x672 .f32) (x4 : Vec F S25x672 .i8) (x5 : Vec F S1x672 .f32) (x6 : Vec F S1x672 .f32) (x7 : Vec F S2 .f32) (xs0 : Vec F S28x48x672 .f32) : Vec F S28x48x672 .f32 :=
  arg12.view.read (Elt F) (arg12.view.writes (Elt F) (harg12.unread xs0) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.2.1)

def outsAt0 (c : Dev nD) : (n : ℕ) → n < cfg0.N → Vec F S1x24x32x672 .i8 × Vec F S1x24x32x672 .i8 × Vec F S1x1x672 .f32 × Vec F S28x48x672 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 64 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2)

theorem outsAt0_A (c : Dev nD) (t : Fin cfg0.N) (h0 : t.val % 64 = 0) :
    outsAt0 V c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

theorem outsAt0_B (c : Dev nD) (t : Fin cfg0.N) (h0 : ¬t.val % 64 = 0) :
    outsAt0 V c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(owns (c : Thread nD τ) scM0_0 fullShare ((outsAt0 V c n hn).2.2.2) ∗ G (F := F) c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare ((outsAt0 V c n hn).2.2.2) ∗ G (F := F) c) := rfl

theorem PhiS_pos (c : Dev nD) (n : ℕ) (h : n ≤ cfg0.N) (hz : n ≠ 0) :
    PhiS V c n h = iprop(owns (c : Thread nD τ) scM0_0 fullShare ((outsAt0 V c (n - 1) (by omega)).2.2.2) ∗ G (F := F) c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2.1 := by dsimp only [dat0]
theorem after0_10 (c : Dev nD) (t : Fin cfg0.N) : (dat0 V c).after 10 t = (outsAt0 V c t.val t.isLt).2.2.1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d
theorem before0_4 (c : Dev nD) (t : Fin cfg0.N) (d) : (dat0 V c).before 4 t d = iblk V c 4 t :=
  before0_4_of V (dat0 V c) (A_eq V c 4) (after0_4 V c) t d
theorem before0_5 (c : Dev nD) (t : Fin cfg0.N) (d) : (dat0 V c).before 5 t d = iblk V c 5 t :=
  before0_5_of V (dat0 V c) (A_eq V c 5) (after0_5 V c) t d
theorem before0_6 (c : Dev nD) (t : Fin cfg0.N) (d) : (dat0 V c).before 6 t d = iblk V c 6 t :=
  before0_6_of V (dat0 V c) (A_eq V c 6) (after0_6 V c) t d
theorem before0_7 (c : Dev nD) (t : Fin cfg0.N) (d) : (dat0 V c).before 7 t d = iblk V c 7 t :=
  before0_7_of V (dat0 V c) (A_eq V c 7) (after0_7 V c) t d

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc V c t, PhiS_zero V c _ _ hz, PhiA0_eq]
      rw [outsAt0_A V c t h0]
      unfold out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc V c t, PhiS_pos V c _ _ hz]
      rw [outsAt0_B V c t h0]
      unfold out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, HS0⟩
      isplitl [HS0 Hg]
      · isplitl [HS0]
        · unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat0 V c).Φ (Fin.last cfg0.N) ⊢ Pipeline.ΦA spec0 c :=
  Phi_out V c _ (by rw [Fin.val_last]; have : cfg0.N = 64 := N_0; omega)

end Cert.KernelIdeal.R0

end
-- ==== Proof.KI.Run.lean ====
/- The run of the whole program: its three kernel calls among the host operations, what every buffer holds at each
   boundary between them, and the frame. -/
module

public import proofs.«01_k».proof.Proof.KI.Body
public import proofs.«01_k».proof.Proof.Gen.Own.KernelIdeal.K1.Frame
public import proofs.«01_k».proof.Proof.Gen.Own.KernelIdeal.K2.Frame
public import Idealize.ShloMosaic.Lib.Pipeline.RegionsLoop
public import Idealize.ShloMosaic.Lib.Pipeline.FrameSuffix

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The proof data of the three kernel calls, each over the contents `V` its call is entered at. -/
abbrev dat0 (c : Dev nD) : Dat τ (Elt F) Unit ℕ (UR sig nD τ) ℕ cfg0 c := R0.dat0 V c
abbrev dat1 (c : Dev nD) : Dat τ (Elt F) Unit ℕ (UR sig nD τ) ℕ cfg1 c := Own.K1.dat Variants.none V (fun _ => 0) c
abbrev dat2 (c : Dev nD) : Dat τ (Elt F) Unit ℕ (UR sig nD τ) ℕ cfg2 c := Own.K2.dat Variants.none V (fun _ => 0) c
theorem A_eq0 (c : Dev nD) (w : Fin cfg0.W) : (dat0 V c).A w = V c (Pipeline.arrRef spec0 w) := R0.A_eq V c w
theorem A_eq1 (c : Dev nD) (w : Fin cfg1.W) : (dat1 V c).A w = V c (Pipeline.arrRef spec1 w) := Own.K1.A_eq Variants.none V (fun _ => 0) c w
theorem A_eq2 (c : Dev nD) (w : Fin cfg2.W) : (dat2 V c).A w = V c (Pipeline.arrRef spec2 w) := Own.K2.A_eq Variants.none V (fun _ => 0) c w
theorem body_obligation0 (c : Dev nD) : BodyObligation (dat0 V c) (defs₀ (F := F)) Variants.none () Set.univ := R0.body_obligation V c
theorem body_obligation1 (c : Dev nD) : BodyObligation (dat1 V c) (defs₀ (F := F)) Variants.none () Set.univ := Own.K1.body_obligation Variants.none V (fun _ => 0) () c
theorem body_obligation2 (c : Dev nD) : BodyObligation (dat2 V c) (defs₀ (F := F)) Variants.none () Set.univ := Own.K2.body_obligation Variants.none V (fun _ => 0) () c
theorem hin0 (c : Dev nD) : Pipeline.ΦA spec0 c ⊢ (dat0 V c).Φ 0 := R0.hin V c
theorem hout0 (c : Dev nD) : (dat0 V c).Φ (Fin.last _) ⊢ Pipeline.ΦA spec0 c := R0.hout V c
theorem hin1 (c : Dev nD) : Pipeline.ΦA spec1 c ⊢ (dat1 V c).Φ 0 := .rfl
theorem hout1 (c : Dev nD) : (dat1 V c).Φ (Fin.last _) ⊢ Pipeline.ΦA spec1 c := .rfl
theorem hin2 (c : Dev nD) : Pipeline.ΦA spec2 c ⊢ (dat2 V c).Φ 0 := .rfl
theorem hout2 (c : Dev nD) : (dat2 V c).Φ (Fin.last _) ⊢ Pipeline.ΦA spec2 c := .rfl
end Regions

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_cst, main_v8, main_cst_0, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v14, main_v15, main_v16, main_v17, main_v18, main_v19, main_v20, main_v21, main_v22, main_cst_1, main_v23, main_cst_2, main_v24, main_v25, main_v26, main_v27, main_v28]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v30, main_v31, main_v32, main_v33, main_v34, main_cst_3, main_v35, main_cst_4, main_v36, main_v37, main_v38, main_v39, main_v40, main_v41]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! ## What the buffers hold at each boundary -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After call 0: its arrays at what its write-backs leave, every other buffer as the call found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of call 0's outputs keeps its contents across the call. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- After call 1: its arrays at what its write-backs leave, every other buffer as the call found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is none of call 1's outputs keeps its contents across the call. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- After call 2: its arrays at what its write-backs leave, every other buffer as the call found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is none of call 2's outputs keeps its contents across the call. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Call 0 as a segment over the thread state: its arrays split out of the unscoped buffers and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec0 c ⊢ (pdats m ρ 0 c).Φ 0 from hin0 (V1 m ρ) c)
    unfold Pipeline.ΦA
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state: its arrays split out of the unscoped buffers and put back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec1 c ⊢ (pdats m ρ 1 c).Φ 0 from hin1 (V3 m ρ) c)
    unfold Pipeline.ΦA
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment over the thread state: its arrays split out of the unscoped buffers and put back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec2 c ⊢ (pdats m ρ 2 c).Φ 0 from hin2 (V5 m ρ) c)
    unfold Pipeline.ΦA
    isplitl [Hr]; · iexact Hr
    iexact Hp
  hout c := by
    rw [Pipeline.ownSems0_none]
    refine (show (pdats m ρ 2 c).Φ (Fin.last _) ⊢ Pipeline.ΦA spec2 c from hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: the host operations before each call, then the call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every execution ends, with every unscoped buffer at what the last boundary says and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

theorem arg_end {M : (ℓ : Loc nD τ sig) → Buf (Elt F) ℓ} (h : ∀ c : Dev nD, ∀ b ∈ Pipeline.ucRefs τ sig, M (((c : Thread nD τ)).1, b) = W6 m ρ c b)
    (c : Dev nD) (a : Ref sig .tc) (hs : ¬ (Proc.devRef .tc a : DevRef τ sig).isScoped) (ha : a ∈ argRefs) :
    M ((c.tc : Thread nD τ).loc a) = m ((c.tc : Thread nD τ).loc a) :=
  (h c _ (mem_uc a hs)).trans (W6_args m ρ c a ha)

/-- The frame: every execution ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
     )
      ∧ r.2.sem = fun _ => 0) :=
  (θ_run defs _ _).mono (fun r hr => ⟨fun c => have h := hr.1; ⟨arg_end m ρ h c main_arg0 (by decide) (by decide),
     arg_end m ρ h c main_arg1 (by decide) (by decide),
     arg_end m ρ h c main_arg2 (by decide) (by decide),
     arg_end m ρ h c main_arg3 (by decide) (by decide),
     arg_end m ρ h c main_arg4 (by decide) (by decide),
     arg_end m ρ h c main_arg5 (by decide) (by decide),
     arg_end m ρ h c main_arg6 (by decide) (by decide),
     arg_end m ρ h c main_arg7 (by decide) (by decide),
     arg_end m ρ h c main_arg8 (by decide) (by decide),
     arg_end m ρ h c main_arg9 (by decide) (by decide),
     arg_end m ρ h c main_arg10 (by decide) (by decide),
     arg_end m ρ h c main_arg11 (by decide) (by decide),
     arg_end m ρ h c main_arg12 (by decide) (by decide),
     arg_end m ρ h c main_arg13 (by decide) (by decide),
     arg_end m ρ h c main_arg14 (by decide) (by decide),
     arg_end m ρ h c main_arg15 (by decide) (by decide),
     arg_end m ρ h c main_arg16 (by decide) (by decide),
     arg_end m ρ h c main_arg17 (by decide) (by decide),
     arg_end m ρ h c main_arg18 (by decide) (by decide),
     arg_end m ρ h c main_arg19 (by decide) (by decide),
     arg_end m ρ h c main_arg20 (by decide) (by decide),
     arg_end m ρ h c main_arg21 (by decide) (by decide),
     arg_end m ρ h c main_arg22 (by decide) (by decide)⟩, hr.2⟩) (run_all m ρ)

end Cert.KernelIdeal.Whole

end
-- ==== Proof.V.Util.lean ====
/- Rows stored one per trip of a loop, read back. -/
module

public import Idealize.ShloMosaic.Lib.WritesUnit
public import Idealize.ShloMosaic.Lib.Pipeline.Value
public import Idealize.ShloMosaic.Lib.Pointwise

@[expose] public section

noncomputable section

namespace Cert.V

open Idealize.ShloMosaic

/-- When trip `k` of `N` stores one whole row `k` of an image, and nothing else to it, then after `n` trips a row below
    `n` holds what its own trip stored. -/
theorem read_rows {sig : RefSig} {κ : Kind} {sp : Space} {e : EltTy} {Val : EltTy → Type} {N W C : ℕ}
    (v : View sig κ sp (⟨4, ![1, N, W, C]⟩ : Shape) e) (f : v.ty.Contents Val)
    (P : ℕ → List (View.Piece Val (⟨4, ![1, N, W, C]⟩ : Shape) e))
    (off : Fin N → Fin 4 → ℕ) (hoff : ∀ k, off k = ![0, k.val, 0, 0])
    (inb : ∀ k, ∀ a : Fin 4, off k a + (![1, 1, W, C] : Fin 4 → ℕ) a ≤ (⟨4, ![1, N, W, C]⟩ : Shape).size a)
    (w : Fin N → (⟨4, ![1, 1, W, C]⟩ : Shape).Idx → Val e)
    (h : ∀ k : Fin N, P (k.val + 1) = (⟨Rect.unit (s := ⟨4, ![1, N, W, C]⟩) (off k) (![1, 1, W, C] : Fin 4 → ℕ) (inb k), w k⟩ : View.Piece Val (⟨4, ![1, N, W, C]⟩ : Shape) e) :: P k.val) :
    ∀ n, n ≤ N → ∀ (a : Fin 1) (r : Fin N) (x : Fin W) (ch : Fin C), r.val < n →
      v.read Val (v.writes Val f (P n)) (ix4 a r x ch) = w r (ix4 (n0 := 1) (n1 := 1) (n2 := W) (n3 := C) 0 0 x ch) := by
  intro n
  induction n with
  | zero => intro _ a r x ch hr; exact absurd hr (Nat.not_lt_zero _)
  | succ n ih =>
    intro hn a r x ch hr
    rw [h ⟨n, hn⟩]
    by_cases hrn : r.val = n
    · have e : r = ⟨n, hn⟩ := Fin.ext hrn
      subst e
      exact View.read_writes_cons_unit_of_mem v f (inb _) _ _ _ (ix4 (n0 := 1) (n1 := 1) (n2 := W) (n3 := C) 0 0 x ch) (hoff _) (fun b => by
        match b with
        | ⟨0, _⟩ => show a.val = 0 + 0; omega
        | ⟨1, _⟩ => show n = n + 0; rfl
        | ⟨2, _⟩ => show x.val = 0 + x.val; omega
        | ⟨3, _⟩ => show ch.val = 0 + ch.val; omega)
    · rw [View.read_writes_cons_unit_of_not_mem v f (inb _) _ _ _ (hoff _) 1 (Or.inl (show r.val < n by omega))]
      exact ih (by omega) a r x ch (by omega)

/-- A load through a unit-stride rectangle of a whole buffer holding `x` reads `x` at the offsets plus the position. -/
theorem readAt_unread {sig : RefSig} {κ : Kind} {sp : Space} {s : Shape} {e : EltTy} {Val : EltTy → Type} {M : Memref sig κ sp s e} (h : M.IsWhole)
    (x : s.Idx → Val e) {off off' size : Fin s.rank → ℕ} (inb : ∀ a, off a + size a ≤ s.size a) (y : (Rect.unit off size inb).shape.Idx)
    (j : s.Idx) (heq : off = off') (hj : ∀ a, (j a).val = off' a + (y a).val) :
    M.view.readAt Val (Rect.unit off size inb).toLoadRect (h.unread x) y = x j := by
  subst heq
  show (M.view.read Val (h.unread x)) ((Rect.unit off size inb).emb y) = x j
  rw [h.read_unread]
  exact congrArg x (funext fun a => Fin.ext (by
    show off a + 1 * (y a).val = (j a).val
    rw [hj a, Nat.one_mul]))

/-- A whole buffer loaded whole. -/
theorem readAt_whole {sig : RefSig} {κ : Kind} {sp : Space} {s : Shape} {e : EltTy} {Val : EltTy → Type} {M : Memref sig κ sp s e} (h : M.IsWhole)
    (x : s.Idx → Val e) {off : Fin s.rank → ℕ} (inb : ∀ a, off a + s.size a ≤ s.size a) (hz : off = fun _ => 0) :
    M.view.readAt Val (Rect.unit off s.size inb).toLoadRect (h.unread x) = x :=
  funext fun y => readAt_unread h x inb y y hz (fun _ => (Nat.zero_add _).symm)
theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-- A load through a unit-stride rectangle reads the view's contents at the offsets plus the position. -/
theorem readAt_read {sig : RefSig} {κ : Kind} {sp : Space} {s : Shape} {e : EltTy} {Val : EltTy → Type} (v : View sig κ sp s e)
    (X : v.ty.Contents Val) {off off' size : Fin s.rank → ℕ} (inb : ∀ a, off a + size a ≤ s.size a) (y : (Rect.unit off size inb).shape.Idx)
    (j : s.Idx) (heq : off = off') (hj : ∀ a, (j a).val = off' a + (y a).val) :
    v.readAt Val (Rect.unit off size inb).toLoadRect X y = v.read Val X j := by
  subst heq
  show v.read Val X ((Rect.unit off size inb).emb y) = v.read Val X j
  exact congrArg (v.read Val X) (funext fun a => Fin.ext (by
    show off a + 1 * (y a).val = (j a).val
    rw [hj a, Nat.one_mul]))

/-- Rows stored one per trip into the inside of a padded buffer, over the writes `L`: inside, the row of its trip. -/
theorem read_inside {sig : RefSig} {κ : Kind} {sp : Space} {e : EltTy} {Val : EltTy → Type}
    (v : View sig κ sp (⟨3, ![28, 48, 672]⟩ : Shape) e) (f : v.ty.Contents Val)
    (P : ℕ → List (View.Piece Val (⟨3, ![28, 48, 672]⟩ : Shape) e)) (L : List (View.Piece Val (⟨3, ![28, 48, 672]⟩ : Shape) e))
    (off : Fin 24 → Fin 3 → ℕ) (hoff : ∀ k, off k = ![k.val + 2, 8, 0])
    (inb : ∀ k, ∀ a : Fin 3, off k a + (![1, 32, 672] : Fin 3 → ℕ) a ≤ (⟨3, ![28, 48, 672]⟩ : Shape).size a)
    (w : Fin 24 → (⟨3, ![1, 32, 672]⟩ : Shape).Idx → Val e)
    (h : ∀ k : Fin 24, P (k.val + 1) = (⟨Rect.unit (s := ⟨3, ![28, 48, 672]⟩) (off k) (![1, 32, 672] : Fin 3 → ℕ) (inb k), w k⟩ : View.Piece Val (⟨3, ![28, 48, 672]⟩ : Shape) e) :: P k.val) :
    ∀ n, n ≤ 24 → ∀ (r : Fin 24) (x : Fin 32) (ch : Fin 672) (r' : Fin 28) (y : Fin 48), r'.val = r.val + 2 → y.val = x.val + 8 → r.val < n →
      v.read Val (v.writes Val f (P n ++ L)) (ix3 r' y ch) = w r (ix3 (n0 := 1) (n1 := 32) (n2 := 672) 0 x ch) := by
  intro n
  induction n with
  | zero => intro _ r x ch r' y _ _ hr; exact absurd hr (Nat.not_lt_zero _)
  | succ n ih =>
    intro hn r x ch r' y hr' hy hr
    have hP := h ⟨n, by omega⟩
    rw [hP, List.cons_append]
    by_cases hrn : r.val = n
    · have hw : w r = w ⟨n, by omega⟩ := congrArg w (Fin.ext hrn)
      rw [hw]
      exact View.read_writes_cons_unit_of_mem v f (inb _) (w _) (P n ++ L) _ (ix3 (n0 := 1) (n1 := 32) (n2 := 672) 0 x ch) (hoff _) (fun a => by
        match a with
        | ⟨0, _⟩ => exact hr'.trans (congrArg (· + 2) hrn)
        | ⟨1, _⟩ => exact hy.trans (Nat.add_comm _ _)
        | ⟨2, _⟩ => exact (Nat.zero_add _).symm)
    · rw [View.read_writes_cons_unit_of_not_mem v f (inb _) (w _) (P n ++ L) _ (hoff _) (0 : Fin 3) (.inl (show r'.val < n + 2 by omega))]
      exact ih (by omega) r x ch r' y hr' hy (by omega)

/-- Outside, what the earlier writes left. -/
theorem read_outside {sig : RefSig} {κ : Kind} {sp : Space} {e : EltTy} {Val : EltTy → Type}
    (v : View sig κ sp (⟨3, ![28, 48, 672]⟩ : Shape) e) (f : v.ty.Contents Val)
    (P : ℕ → List (View.Piece Val (⟨3, ![28, 48, 672]⟩ : Shape) e)) (L : List (View.Piece Val (⟨3, ![28, 48, 672]⟩ : Shape) e)) (h0 : P 0 = [])
    (off : Fin 24 → Fin 3 → ℕ) (hoff : ∀ k, off k = ![k.val + 2, 8, 0])
    (inb : ∀ k, ∀ a : Fin 3, off k a + (![1, 32, 672] : Fin 3 → ℕ) a ≤ (⟨3, ![28, 48, 672]⟩ : Shape).size a)
    (w : Fin 24 → (⟨3, ![1, 32, 672]⟩ : Shape).Idx → Val e)
    (h : ∀ k : Fin 24, P (k.val + 1) = (⟨Rect.unit (s := ⟨3, ![28, 48, 672]⟩) (off k) (![1, 32, 672] : Fin 3 → ℕ) (inb k), w k⟩ : View.Piece Val (⟨3, ![28, 48, 672]⟩ : Shape) e) :: P k.val)
    (r' : Fin 28) (y : Fin 48) (ch : Fin 672) (ho : ¬ (2 ≤ r'.val ∧ r'.val < 26 ∧ 8 ≤ y.val ∧ y.val < 40)) :
    ∀ n, n ≤ 24 → v.read Val (v.writes Val f (P n ++ L)) (ix3 r' y ch) = v.read Val (v.writes Val f L) (ix3 r' y ch) := by
  intro n
  induction n with
  | zero => intro _; rw [h0]; rfl
  | succ n ih =>
    intro hn
    have hP := h ⟨n, by omega⟩
    rw [hP, List.cons_append]
    refine Eq.trans ?_ (ih (by omega))
    by_cases hc : y.val < 8 ∨ 40 ≤ y.val
    · exact View.read_writes_cons_unit_of_not_mem v f (inb _) (w _) (P n ++ L) _ (hoff _) (1 : Fin 3) (show y.val < 8 ∨ 8 + 32 ≤ y.val by omega)
    · exact View.read_writes_cons_unit_of_not_mem v f (inb _) (w _) (P n ++ L) _ (hoff _) (0 : Fin 3) (show r'.val < n + 2 ∨ (n + 2) + 1 ≤ r'.val by omega)

end Cert.V
end
-- ==== Proof.V.Math.lean ====
/- The quantiser, the swish activation and the integer sums, at the extended reals. -/
module

public import Idealize.ShloMosaic.PureOps.Ideal
public import Mathlib.Data.BitVec

@[expose] public section

noncomputable section

namespace Cert.V

open Idealize.ShloMosaic

theorem lo_eq : Ideal.ofBits .f32 0xC2FE0000#32 = ((-127 : ℝ) : EReal) := by
  simp [Ideal.ofBits, Ideal.ieee, -EReal.coe_mul]; norm_num
theorem hi_eq : Ideal.ofBits .f32 0x42FE0000#32 = ((127 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = (1 : EReal) := by
  simp [Ideal.ofBits, Ideal.ieee, -EReal.coe_mul]; norm_num
theorem zero_eq : Ideal.ofBits .f32 0x00000000#32 = (0 : EReal) := by
  simp [Ideal.ofBits, Ideal.ieee]
theorem top_eq : Ideal.ofBits .f32 0x7F800000#32 = (⊤ : EReal) := by
  simp [Ideal.ofBits, Ideal.ieee]

/-! ## Rounding -/

theorem rhe_mono {a b : ℝ} (h : a ≤ b) : Ideal.roundHalfEven a ≤ Ideal.roundHalfEven b := by
  have hf : ⌊a⌋ ≤ ⌊b⌋ := Int.floor_le_floor h
  rcases hf.lt_or_eq with hlt | heq
  · have h1 : Ideal.roundHalfEven a ≤ ⌊a⌋ + 1 := by unfold Ideal.roundHalfEven; dsimp only; split_ifs <;> omega
    have h2 : ⌊b⌋ ≤ Ideal.roundHalfEven b := by unfold Ideal.roundHalfEven; dsimp only; split_ifs <;> omega
    omega
  · unfold Ideal.roundHalfEven; dsimp only; rw [heq]
    split_ifs <;> first | omega | (exfalso; linarith) | (exfalso; simp_all)

theorem rhe_int (n : ℤ) : Ideal.roundHalfEven (n : ℝ) = n := by
  unfold Ideal.roundHalfEven; simp

theorem lr_mono : Monotone (Ideal.liftRound Ideal.roundHalfEven) := by
  intro a b h
  induction a with
  | bot => exact bot_le
  | top => rw [top_le_iff] at h; subst h; exact le_rfl
  | coe a =>
    induction b with
    | bot => exact absurd h (by simp)
    | top => exact le_top
    | coe b =>
      simp only [Ideal.liftRound_coe]
      exact_mod_cast rhe_mono (by exact_mod_cast h)

theorem lr_int (n : ℤ) : Ideal.liftRound Ideal.roundHalfEven ((n : ℝ) : EReal) = ((n : ℝ) : EReal) := by
  rw [Ideal.liftRound_coe, rhe_int]

/-! ## The quantiser -/

/-- The kernel's quantiser before the conversion: clamp, then round. -/
def qk (x : EReal) : EReal := Ideal.liftRound Ideal.roundHalfEven
  (min (Ideal.ofBits .f32 0x42FE0000#32) (max (Ideal.ofBits .f32 0xC2FE0000#32) x))
/-- The kernel's code. -/
def qc (x : EReal) : BitVec 8 := Ideal.fptosi 8 (qk x)
/-- The reference's quantiser before the conversions: round, then clamp. -/
def rk (x : EReal) : EReal := min (((127#32).toInt : ℝ) : EReal) (max (((4294967169#32).toInt : ℝ) : EReal) (Ideal.liftRound Ideal.roundHalfEven x))
/-- The reference's code. -/
def rc (x : EReal) : BitVec 8 := (Ideal.fptosi 32 (rk x)).setWidth 8

theorem qk_eq_rk (x : EReal) : qk x = rk x := by
  unfold qk rk
  rw [lr_mono.map_min, lr_mono.map_max, lo_eq, hi_eq]
  rw [show ((127 : ℝ) : EReal) = (((127 : ℤ) : ℝ) : EReal) by norm_num, show ((-127 : ℝ) : EReal) = (((-127 : ℤ) : ℝ) : EReal) by norm_num,
    lr_int, lr_int]
  rfl

/-- A code before its conversion is an integer of at most 127. -/
theorem qk_int (x : EReal) : ∃ n : ℤ, |n| ≤ 127 ∧ qk x = ((n : ℝ) : EReal) := by
  rw [qk_eq_rk]; unfold rk
  rw [show (127#32).toInt = 127 by decide, show (4294967169#32).toInt = -127 by decide]
  induction x with
  | bot => exact ⟨-127, by norm_num, by rw [Ideal.liftRound_bot, max_eq_left bot_le, min_eq_right]; exact EReal.coe_le_coe_iff.mpr (by norm_num)⟩
  | top => exact ⟨127, by norm_num, by simp⟩
  | coe r =>
    refine ⟨min 127 (max (-127) (Ideal.roundHalfEven r)), ?_, ?_⟩
    · rw [abs_le]; omega
    · rw [Ideal.liftRound_coe]
      rw [← EReal.coe_strictMono.monotone.map_max, ← EReal.coe_strictMono.monotone.map_min]
      push_cast; rfl

theorem fptosi_int (w : ℕ) (n : ℤ) (h : -(2 ^ (w - 1) : ℕ) ≤ n) (h' : n ≤ (2 ^ (w - 1) : ℕ) - 1) :
    Ideal.fptosi w ((n : ℝ) : EReal) = BitVec.ofInt w n := by
  unfold Ideal.fptosi
  rw [Ideal.toIntClamped_coe]
  congr 1
  have e : (if (0 : ℝ) ≤ (n : ℝ) then ⌊(n : ℝ)⌋ else ⌈(n : ℝ)⌉) = n := by simp
  rw [e]
  push_cast at h h' ⊢
  omega

theorem qc_int (x : EReal) : ∃ n : ℤ, |n| ≤ 127 ∧ qk x = ((n : ℝ) : EReal) ∧ qc x = BitVec.ofInt 8 n ∧ rc x = BitVec.ofInt 8 n := by
  obtain ⟨n, hn, e⟩ := qk_int x
  have hn' := abs_le.mp hn
  refine ⟨n, hn, e, ?_, ?_⟩
  · unfold qc; rw [e]; exact fptosi_int 8 n (by norm_num; omega) (by norm_num; omega)
  · unfold rc; rw [← qk_eq_rk, e, fptosi_int 32 n (by norm_num; omega) (by norm_num; omega)]
    apply BitVec.eq_of_toInt_eq
    rw [BitVec.toInt_ofInt, BitVec.toInt_setWidth, BitVec.toNat_ofInt]
    have : ((n % (2 ^ 32 : ℕ)).toNat : ℤ) = n % 2 ^ 32 := Int.toNat_of_nonneg (Int.emod_nonneg _ (by norm_num))
    simp only [Int.bmod_def] at *
    omega

theorem rc_eq_qc (x : EReal) : rc x = qc x := by
  obtain ⟨n, -, -, h1, h2⟩ := qc_int x; rw [h1, h2]

theorem toInt_ofInt8 {n : ℤ} (h : |n| ≤ 127) : (BitVec.ofInt 8 n).toInt = n := by
  have := abs_le.mp h
  rw [BitVec.toInt_ofInt, Int.bmod_def]; split <;> omega

/-- A code converted back is what was converted. -/
theorem qk_eq_toInt (x : EReal) : qk x = (((qc x).toInt : ℝ) : EReal) := by
  obtain ⟨n, hn, h0, h1, -⟩ := qc_int x; rw [h0, h1, toInt_ofInt8 hn]

theorem div_eq {s : EReal} (h : s ≠ 0) (v : EReal) : Ideal.div v s = v * Ideal.div 1 s := by
  unfold Ideal.div; rw [if_neg h, if_neg h, one_mul]

/-! ## Finite values -/

/-- A value that is a real number. -/
def Fin' (x : EReal) : Prop := ∃ r : ℝ, x = (r : EReal)
theorem Fin'.coe (r : ℝ) : Fin' (r : EReal) := ⟨r, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {ι : Type*} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem fin'_of_abs_lt {x : EReal} (h : max x (-x) < ⊤) : Fin' x := by
  induction x with
  | bot => simp at h
  | top => simp at h
  | coe r => exact ⟨r, rfl⟩

/-! ## The activation -/

/-- The kernel's swish: `h + h tanh h` at `h = z / 2`. -/
def sw (z : EReal) : EReal :=
  (Ideal.ofBits .f32 0x3F000000#32 * z) + (Ideal.ofBits .f32 0x3F000000#32 * z) * Ideal.tanh (Ideal.ofBits .f32 0x3F000000#32 * z)

theorem sw_eq {z : EReal} (hz : Fin' z) : sw z = z * Ideal.logistic z := by
  obtain ⟨r, rfl⟩ := hz
  unfold sw
  rw [half_eq, ← EReal.coe_mul, Ideal.tanh_coe, Ideal.logistic_coe, ← EReal.coe_mul, ← EReal.coe_add, ← EReal.coe_mul]
  congr 1
  rw [Real.tanh_eq_sinh_div_cosh, Real.sinh_eq, Real.cosh_eq]
  have e : Real.exp (-r) = Real.exp (-(1 / 2 * r)) * Real.exp (-(1 / 2 * r)) := by rw [← Real.exp_add]; congr 1; ring
  have hp : Real.exp (1 / 2 * r) * Real.exp (-(1 / 2 * r)) = 1 := by rw [← Real.exp_add]; simp
  rw [e]
  have ha := Real.exp_pos (1 / 2 * r)
  have hb := Real.exp_pos (-(1 / 2 * r))
  set a := Real.exp (1 / 2 * r)
  set b := Real.exp (-(1 / 2 * r))
  have : a = b⁻¹ := eq_inv_of_mul_eq_one_left hp
  rw [this]
  field_simp
  ring

/-! ## Integer sums -/

/-- The extended real `x` is an integer of at most `k` in size, and the 32-bit word `b` is that integer. -/
def Rep (k : ℕ) (x : EReal) (b : BitVec 32) : Prop := ∃ n : ℤ, |n| ≤ k ∧ x = ((n : ℝ) : EReal) ∧ b = BitVec.ofInt 32 n

theorem Rep.zero : Rep 0 0 0#32 := ⟨0, by simp, by simp, by simp⟩

theorem toInt8_bound (a : BitVec 8) : |a.toInt| ≤ 128 := by
  have h1 := BitVec.toInt_lt (x := a); have h2 := BitVec.le_toInt (x := a)
  norm_num at h1 h2
  rw [abs_le]; omega

theorem signExtend_eq (a : BitVec 8) : a.signExtend 32 = BitVec.ofInt 32 a.toInt := rfl

theorem Rep.add {k l : ℕ} {x y : EReal} {b c : BitVec 32} (hx : Rep k x b) (hy : Rep l y c) : Rep (k + l) (x + y) (b + c) := by
  obtain ⟨n, hn, rfl, rfl⟩ := hx; obtain ⟨m, hm, rfl, rfl⟩ := hy
  refine ⟨n + m, ?_, ?_, ?_⟩
  · push_cast; exact (abs_add_le n m).trans (add_le_add hn hm)
  · rw [← EReal.coe_add]; push_cast; rfl
  · rw [BitVec.ofInt_add]

theorem Rep.code (a : BitVec 8) : Rep 128 ((a.toInt : ℝ) : EReal) (a.signExtend 32) :=
  ⟨a.toInt, toInt8_bound a, rfl, signExtend_eq a⟩

theorem Rep.prod (a w : BitVec 8) : Rep 16384 (((a.toInt : ℝ) : EReal) * ((w.toInt : ℝ) : EReal)) (a.signExtend 32 * w.signExtend 32) := by
  refine ⟨a.toInt * w.toInt, ?_, ?_, ?_⟩
  · rw [abs_mul]
    calc |a.toInt| * |w.toInt| ≤ 128 * 128 := mul_le_mul (toInt8_bound a) (toInt8_bound w) (abs_nonneg _) (by norm_num)
      _ = ((16384 : ℕ) : ℤ) := by norm_num
  · rw [← EReal.coe_mul]; push_cast; rfl
  · rw [signExtend_eq, signExtend_eq, BitVec.ofInt_mul]

theorem Rep.sum {ι : Type*} (s : Finset ι) (k : ℕ) (f : ι → EReal) (g : ι → BitVec 32) (h : ∀ i, Rep k (f i) (g i)) :
    Rep (s.card * k) (∑ i ∈ s, f i) (∑ i ∈ s, g i) := by
  classical
  induction s using Finset.induction_on with
  | empty => simpa using Rep.zero
  | insert a s ha ih =>
    rw [Finset.sum_insert ha, Finset.sum_insert ha, Finset.card_insert_of_notMem ha, Nat.add_mul, Nat.one_mul, Nat.add_comm (_ * _)]
    exact (h a).add ih

theorem Rep.mono {k l : ℕ} (hkl : k ≤ l) {x : EReal} {b : BitVec 32} (h : Rep k x b) : Rep l x b := by
  obtain ⟨n, hn, e⟩ := h; exact ⟨n, hn.trans (by exact_mod_cast hkl), e⟩

/-- The word converted is the integer sum. -/
theorem Rep.toInt {k : ℕ} (hk : k < 2147483648) {x : EReal} {b : BitVec 32} (h : Rep k x b) : x = ((b.toInt : ℝ) : EReal) := by
  obtain ⟨n, hn, rfl, rfl⟩ := h
  have h' := abs_le.mp hn
  have : (BitVec.ofInt 32 n).toInt = n := by
    rw [BitVec.toInt_ofInt, Int.bmod_def]; split <;> omega
  rw [this]

/-- The sum over the 25 taps, in the order they are added. -/
def chain {α : Type} [Add α] (f : Fin 25 → α) : α := f 0 + f 1 + f 2 + f 3 + f 4 + f 5 + f 6 + f 7 + f 8 + f 9 + f 10 + f 11 + f 12 + f 13 + f 14 + f 15 + f 16 + f 17 + f 18 + f 19 + f 20 + f 21 + f 22 + f 23 + f 24

/-- A chain of sums of represented terms is represented. -/
theorem Rep.chain {k : ℕ} {f : Fin 25 → EReal} {g : Fin 25 → BitVec 32} (h : ∀ i, Rep k (f i) (g i)) : Rep (25 * k) (chain f) (chain g) := by
  refine Rep.mono (le_of_eq ?_) ((((((((((((((((((((((((((h 0)).add (h 1)).add (h 2)).add (h 3)).add (h 4)).add (h 5)).add (h 6)).add (h 7)).add (h 8)).add (h 9)).add (h 10)).add (h 11)).add (h 12)).add (h 13)).add (h 14)).add (h 15)).add (h 16)).add (h 17)).add (h 18)).add (h 19)).add (h 20)).add (h 21)).add (h 22)).add (h 23)).add (h 24))
  ring

end Cert.V
end
-- ==== Proof.V.R0.lean ====
/- The value of the expand-and-depthwise call (call 0). -/
module

public import proofs.«01_k».proof.Proof.KI.Body
public import proofs.«01_k».proof.Proof.V.Util
public import proofs.«01_k».proof.Proof.V.Math
public import Idealize.ShloMosaic.Lib.Pointwise

@[expose] public section

set_option maxRecDepth 16384

noncomputable section

namespace Cert.KernelIdeal.V0

open Cert.KernelIdeal Cert.KernelIdeal.Gen Idealize.ShloMosaic Idealize.ShloMosaic.TcCoe Idealize.ShloMosaic.Rounds
open Idealize.SL Idealize.SL.RA Idealize.SL.BI Idealize.SL.Sem
open Idealize.ShloMosaic.Pipeline (Dat)
open Cert.V
open Cert.KernelIdeal.R0

section Pay
/-- The expanded value before its swish. -/
def expd (xr : Fin 112 → EReal) (w : Vec Ideal S112x672 .i8) (a b : Vec Ideal S1x672 .f32) (ch : Fin 672) : EReal :=
  (∑ k : Fin 112, xr k * (((w (ix2 k ch)).toInt : ℝ) : EReal)) * a (ix2 (n0 := 1) 0 ch) + b (ix2 (n0 := 1) 0 ch)
theorem pay2_apply (v0 : Elt Ideal .f32) (v13 : Vec Ideal S1x1x32x112 .i8) (v16 : Vec Ideal S112x672 .i8) (v19 : Vec Ideal S1x672 .f32) (v23 : Vec Ideal S1x672 .f32) (x : Fin 32) (ch : Fin 672) :
    k0_pay2 (F := Ideal) v0 v13 v16 v19 v23 (ix2 x ch) = qk (sw (expd (fun k => (((v13 (ix4 (n0 := 1) (n1 := 1) 0 0 x k)).toInt : ℝ) : EReal)) v16 v19 v23 ch) * v0) := by
  unfold k0_pay2
  pointwise
  rfl
theorem pay3_apply (v0 : Elt Ideal .f32) (v13 : Vec Ideal S1x1x32x112 .i8) (v16 : Vec Ideal S112x672 .i8) (v19 : Vec Ideal S1x672 .f32) (v23 : Vec Ideal S1x672 .f32) (x : Fin 32) (ch : Fin 672) :
    k0_pay3 (F := Ideal) v0 v13 v16 v19 v23 (ix4 (n0 := 1) (n1 := 1) 0 0 x ch) = qc (sw (expd (fun k => (((v13 (ix4 (n0 := 1) (n1 := 1) 0 0 x k)).toInt : ℝ) : EReal)) v16 v19 v23 ch) * v0) := by
  exact (by unfold k0_pay3; pointwise : k0_pay3 (F := Ideal) v0 v13 v16 v19 v23 (ix4 (n0 := 1) (n1 := 1) 0 0 x ch) = FloatOps.fptosi (F := Ideal) (φ := .f32) 8 (k0_pay2 (F := Ideal) v0 v13 v16 v19 v23 (ix2 x ch))).trans (congrArg (FloatOps.fptosi (F := Ideal) (φ := .f32) 8) (pay2_apply v0 v13 v16 v19 v23 x ch))
theorem pay4_apply (v0 : Elt Ideal .f32) (v13 : Vec Ideal S1x1x32x112 .i8) (v16 : Vec Ideal S112x672 .i8) (v19 : Vec Ideal S1x672 .f32) (v23 : Vec Ideal S1x672 .f32) (x : Fin 32) (ch : Fin 672) :
    k0_pay4 (F := Ideal) v0 v13 v16 v19 v23 (ix3 (n0 := 1) 0 x ch) = qk (sw (expd (fun k => (((v13 (ix4 (n0 := 1) (n1 := 1) 0 0 x k)).toInt : ℝ) : EReal)) v16 v19 v23 ch) * v0) := by
  exact (by unfold k0_pay4; pointwise : k0_pay4 (F := Ideal) v0 v13 v16 v19 v23 (ix3 (n0 := 1) 0 x ch) = k0_pay2 (F := Ideal) v0 v13 v16 v19 v23 (ix2 x ch)).trans (pay2_apply v0 v13 v16 v19 v23 x ch)
theorem pay6_apply (v1 : Elt Ideal .f32) (v297 : FVec Ideal S32x672 .f32) (v299 : FVec Ideal S32x672 .f32) (x : Fin 32) (ch : Fin 672) :
    k0_pay6 (F := Ideal) v1 v297 v299 (ix2 x ch) = qk (((v297 (ix2 x ch) : EReal) + (v299 (ix2 x ch) : EReal)) * v1) := by
  unfold k0_pay6
  pointwise
  rfl
theorem pay7_apply (v1 : Elt Ideal .f32) (v297 : FVec Ideal S32x672 .f32) (v299 : FVec Ideal S32x672 .f32) (x : Fin 32) (ch : Fin 672) :
    k0_pay7 (F := Ideal) v1 v297 v299 (ix4 (n0 := 1) (n1 := 1) 0 0 x ch) = qc (((v297 (ix2 x ch) : EReal) + (v299 (ix2 x ch) : EReal)) * v1) := by
  exact (by unfold k0_pay7; pointwise : k0_pay7 (F := Ideal) v1 v297 v299 (ix4 (n0 := 1) (n1 := 1) 0 0 x ch) = FloatOps.fptosi (F := Ideal) (φ := .f32) 8 (k0_pay6 (F := Ideal) v1 v297 v299 (ix2 x ch))).trans (congrArg (FloatOps.fptosi (F := Ideal) (φ := .f32) 8) (pay6_apply v1 v297 v299 x ch))
theorem pay8_apply (v1 : Elt Ideal .f32) (arg14 : FVec Ideal S1x672 .f32) (v297 : FVec Ideal S32x672 .f32) (v299 : FVec Ideal S32x672 .f32) (ch : Fin 672) :
    k0_pay8 (F := Ideal) v1 arg14 v297 v299 (ix2 (n0 := 1) 0 ch) = (arg14 (ix2 (n0 := 1) 0 ch) : EReal) + ∑ x : Fin 32, qk (((v297 (ix2 x ch) : EReal) + (v299 (ix2 x ch) : EReal)) * v1) := by
  exact (by unfold k0_pay8; pointwise : k0_pay8 (F := Ideal) v1 arg14 v297 v299 (ix2 (n0 := 1) 0 ch) = arg14 (ix2 (n0 := 1) 0 ch) + ∑ x : Fin 32, (k0_pay6 (F := Ideal) v1 v297 v299 (ix2 x ch) : EReal)).trans (congrArg (arg14 (ix2 (n0 := 1) 0 ch) + ·) (Finset.sum_congr rfl fun x _ => pay6_apply v1 v297 v299 x ch))
theorem pay9_apply (v8 : FVec Ideal S1x672 .f32) (ch : Fin 672) :
    k0_pay9 (F := Ideal) v8 (ix3 (n0 := 1) (n1 := 1) 0 0 ch) = v8 (ix2 (n0 := 1) 0 ch) := by
  unfold k0_pay9
  pointwise
theorem pay10_apply (v15 : Vec Ideal S1x32x672 .f32) (v17 : Vec Ideal S1x672 .i8) (v26 : Vec Ideal S1x32x672 .f32) (v28 : Vec Ideal S1x672 .i8) (v37 : Vec Ideal S1x32x672 .f32) (v39 : Vec Ideal S1x672 .i8) (x : Fin 32) (ch : Fin 672) :
    k0_pay10 (F := Ideal) v15 v17 v26 v28 v37 v39 (ix2 x ch) = v15 (ix3 (n0 := 1) 0 x ch) * (((v17 (ix2 (n0 := 1) 0 ch)).toInt : ℝ) : EReal) + v26 (ix3 (n0 := 1) 0 x ch) * (((v28 (ix2 (n0 := 1) 0 ch)).toInt : ℝ) : EReal) + v37 (ix3 (n0 := 1) 0 x ch) * (((v39 (ix2 (n0 := 1) 0 ch)).toInt : ℝ) : EReal) := by
  unfold k0_pay10
  pointwise
  rfl
theorem pay11_apply (v48 : Vec Ideal S1x32x672 .f32) (x : Fin 32) (ch : Fin 672) :
    k0_pay11 (F := Ideal) v48 (ix2 x ch) = v48 (ix3 (n0 := 1) 0 x ch) := by
  unfold k0_pay11
  pointwise
theorem pay12_apply (v45 : FVec Ideal S32x672 .f32) (v49 : FVec Ideal S32x672 .f32) (v50 : Vec Ideal S1x672 .i8) (v59 : Vec Ideal S1x32x672 .f32) (v61 : Vec Ideal S1x672 .i8) (v70 : Vec Ideal S1x32x672 .f32) (v72 : Vec Ideal S1x672 .i8) (v81 : Vec Ideal S1x32x672 .f32) (v83 : Vec Ideal S1x672 .i8) (x : Fin 32) (ch : Fin 672) :
    k0_pay12 (F := Ideal) v45 v49 v50 v59 v61 v70 v72 v81 v83 (ix2 x ch) = (v45 (ix2 x ch) : EReal) + (v49 (ix2 x ch) : EReal) * (((v50 (ix2 (n0 := 1) 0 ch)).toInt : ℝ) : EReal) + v59 (ix3 (n0 := 1) 0 x ch) * (((v61 (ix2 (n0 := 1) 0 ch)).toInt : ℝ) : EReal) + v70 (ix3 (n0 := 1) 0 x ch) * (((v72 (ix2 (n0 := 1) 0 ch)).toInt : ℝ) : EReal) + v81 (ix3 (n0 := 1) 0 x ch) * (((v83 (ix2 (n0 := 1) 0 ch)).toInt : ℝ) : EReal) := by
  unfold k0_pay12
  pointwise
  rfl
theorem pay13_apply (v89 : FVec Ideal S32x672 .f32) (v92 : Vec Ideal S1x32x672 .f32) (v94 : Vec Ideal S1x672 .i8) (v103 : Vec Ideal S1x32x672 .f32) (v105 : Vec Ideal S1x672 .i8) (v114 : Vec Ideal S1x32x672 .f32) (v116 : Vec Ideal S1x672 .i8) (v125 : Vec Ideal S1x32x672 .f32) (v127 : Vec Ideal S1x672 .i8) (x : Fin 32) (ch : Fin 672) :
    k0_pay13 (F := Ideal) v89 v92 v94 v103 v105 v114 v116 v125 v127 (ix2 x ch) = (v89 (ix2 x ch) : EReal) + v92 (ix3 (n0 := 1) 0 x ch) * (((v94 (ix2 (n0 := 1) 0 ch)).toInt : ℝ) : EReal) + v103 (ix3 (n0 := 1) 0 x ch) * (((v105 (ix2 (n0 := 1) 0 ch)).toInt : ℝ) : EReal) + v114 (ix3 (n0 := 1) 0 x ch) * (((v116 (ix2 (n0 := 1) 0 ch)).toInt : ℝ) : EReal) + v125 (ix3 (n0 := 1) 0 x ch) * (((v127 (ix2 (n0 := 1) 0 ch)).toInt : ℝ) : EReal) := by
  unfold k0_pay13
  pointwise
  rfl
theorem pay14_apply (v133 : FVec Ideal S32x672 .f32) (v136 : Vec Ideal S1x32x672 .f32) (v138 : Vec Ideal S1x672 .i8) (v147 : Vec Ideal S1x32x672 .f32) (v149 : Vec Ideal S1x672 .i8) (v158 : Vec Ideal S1x32x672 .f32) (v160 : Vec Ideal S1x672 .i8) (x : Fin 32) (ch : Fin 672) :
    k0_pay14 (F := Ideal) v133 v136 v138 v147 v149 v158 v160 (ix2 x ch) = (v133 (ix2 x ch) : EReal) + v136 (ix3 (n0 := 1) 0 x ch) * (((v138 (ix2 (n0 := 1) 0 ch)).toInt : ℝ) : EReal) + v147 (ix3 (n0 := 1) 0 x ch) * (((v149 (ix2 (n0 := 1) 0 ch)).toInt : ℝ) : EReal) + v158 (ix3 (n0 := 1) 0 x ch) * (((v160 (ix2 (n0 := 1) 0 ch)).toInt : ℝ) : EReal) := by
  unfold k0_pay14
  pointwise
  rfl
theorem pay15_apply (v169 : Vec Ideal S1x32x672 .f32) (x : Fin 32) (ch : Fin 672) :
    k0_pay15 (F := Ideal) v169 (ix2 x ch) = v169 (ix3 (n0 := 1) 0 x ch) := by
  unfold k0_pay15
  pointwise
theorem pay16_apply (v171 : Vec Ideal S1x672 .i8) (ch : Fin 672) :
    k0_pay16 (F := Ideal) v171 (ix2 (n0 := 1) 0 ch) = (((v171 (ix2 (n0 := 1) 0 ch)).toInt : ℝ) : EReal) := by
  unfold k0_pay16
  pointwise
  rfl
theorem pay17_apply (v166 : FVec Ideal S32x672 .f32) (v170 : FVec Ideal S32x672 .f32) (v174 : FVec Ideal S1x672 .f32) (v180 : Vec Ideal S1x32x672 .f32) (v182 : Vec Ideal S1x672 .i8) (v191 : Vec Ideal S1x32x672 .f32) (v193 : Vec Ideal S1x672 .i8) (v202 : Vec Ideal S1x32x672 .f32) (v204 : Vec Ideal S1x672 .i8) (x : Fin 32) (ch : Fin 672) :
    k0_pay17 (F := Ideal) v166 v170 v174 v180 v182 v191 v193 v202 v204 (ix2 x ch) = (v166 (ix2 x ch) : EReal) + (v170 (ix2 x ch) : EReal) * (v174 (ix2 (n0 := 1) 0 ch) : EReal) + v180 (ix3 (n0 := 1) 0 x ch) * (((v182 (ix2 (n0 := 1) 0 ch)).toInt : ℝ) : EReal) + v191 (ix3 (n0 := 1) 0 x ch) * (((v193 (ix2 (n0 := 1) 0 ch)).toInt : ℝ) : EReal) + v202 (ix3 (n0 := 1) 0 x ch) * (((v204 (ix2 (n0 := 1) 0 ch)).toInt : ℝ) : EReal) := by
  unfold k0_pay17
  pointwise
  rfl
theorem pay18_apply (v213 : Vec Ideal S1x32x672 .f32) (x : Fin 32) (ch : Fin 672) :
    k0_pay18 (F := Ideal) v213 (ix2 x ch) = v213 (ix3 (n0 := 1) 0 x ch) := by
  unfold k0_pay18
  pointwise
theorem pay19_apply (v210 : FVec Ideal S32x672 .f32) (v214 : FVec Ideal S32x672 .f32) (v215 : Vec Ideal S1x672 .i8) (v224 : Vec Ideal S1x32x672 .f32) (v226 : Vec Ideal S1x672 .i8) (v235 : Vec Ideal S1x32x672 .f32) (v237 : Vec Ideal S1x672 .i8) (v246 : Vec Ideal S1x32x672 .f32) (v248 : Vec Ideal S1x672 .i8) (x : Fin 32) (ch : Fin 672) :
    k0_pay19 (F := Ideal) v210 v214 v215 v224 v226 v235 v237 v246 v248 (ix2 x ch) = (v210 (ix2 x ch) : EReal) + (v214 (ix2 x ch) : EReal) * (((v215 (ix2 (n0 := 1) 0 ch)).toInt : ℝ) : EReal) + v224 (ix3 (n0 := 1) 0 x ch) * (((v226 (ix2 (n0 := 1) 0 ch)).toInt : ℝ) : EReal) + v235 (ix3 (n0 := 1) 0 x ch) * (((v237 (ix2 (n0 := 1) 0 ch)).toInt : ℝ) : EReal) + v246 (ix3 (n0 := 1) 0 x ch) * (((v248 (ix2 (n0 := 1) 0 ch)).toInt : ℝ) : EReal) := by
  unfold k0_pay19
  pointwise
  rfl
theorem pay20_apply (v254 : FVec Ideal S32x672 .f32) (v257 : Vec Ideal S1x32x672 .f32) (v259 : Vec Ideal S1x672 .i8) (v268 : Vec Ideal S1x32x672 .f32) (v270 : Vec Ideal S1x672 .i8) (v279 : Vec Ideal S1x32x672 .f32) (v281 : Vec Ideal S1x672 .i8) (v288 : Vec Ideal S1x672 .f32) (v292 : Vec Ideal S1x672 .f32) (x : Fin 32) (ch : Fin 672) :
    k0_pay20 (F := Ideal) v254 v257 v259 v268 v270 v279 v281 v288 v292 (ix2 x ch) = Ideal.ofBits .f32 0x3F000000#32 * (((v254 (ix2 x ch) : EReal) + v257 (ix3 (n0 := 1) 0 x ch) * (((v259 (ix2 (n0 := 1) 0 ch)).toInt : ℝ) : EReal) + v268 (ix3 (n0 := 1) 0 x ch) * (((v270 (ix2 (n0 := 1) 0 ch)).toInt : ℝ) : EReal) + v279 (ix3 (n0 := 1) 0 x ch) * (((v281 (ix2 (n0 := 1) 0 ch)).toInt : ℝ) : EReal)) * v288 (ix2 (n0 := 1) 0 ch) + v292 (ix2 (n0 := 1) 0 ch)) := by
  unfold k0_pay20
  pointwise
  rfl
theorem pay21_apply (v254 : FVec Ideal S32x672 .f32) (v257 : Vec Ideal S1x32x672 .f32) (v259 : Vec Ideal S1x672 .i8) (v268 : Vec Ideal S1x32x672 .f32) (v270 : Vec Ideal S1x672 .i8) (v279 : Vec Ideal S1x32x672 .f32) (v281 : Vec Ideal S1x672 .i8) (v288 : Vec Ideal S1x672 .f32) (v292 : Vec Ideal S1x672 .f32) (x : Fin 32) (ch : Fin 672) :
    k0_pay21 (F := Ideal) v254 v257 v259 v268 v270 v279 v281 v288 v292 (ix2 x ch) = (Ideal.ofBits .f32 0x3F000000#32 * (((v254 (ix2 x ch) : EReal) + v257 (ix3 (n0 := 1) 0 x ch) * (((v259 (ix2 (n0 := 1) 0 ch)).toInt : ℝ) : EReal) + v268 (ix3 (n0 := 1) 0 x ch) * (((v270 (ix2 (n0 := 1) 0 ch)).toInt : ℝ) : EReal) + v279 (ix3 (n0 := 1) 0 x ch) * (((v281 (ix2 (n0 := 1) 0 ch)).toInt : ℝ) : EReal)) * v288 (ix2 (n0 := 1) 0 ch) + v292 (ix2 (n0 := 1) 0 ch))) * Ideal.tanh (Ideal.ofBits .f32 0x3F000000#32 * (((v254 (ix2 x ch) : EReal) + v257 (ix3 (n0 := 1) 0 x ch) * (((v259 (ix2 (n0 := 1) 0 ch)).toInt : ℝ) : EReal) + v268 (ix3 (n0 := 1) 0 x ch) * (((v270 (ix2 (n0 := 1) 0 ch)).toInt : ℝ) : EReal) + v279 (ix3 (n0 := 1) 0 x ch) * (((v281 (ix2 (n0 := 1) 0 ch)).toInt : ℝ) : EReal)) * v288 (ix2 (n0 := 1) 0 ch) + v292 (ix2 (n0 := 1) 0 ch))) := by
  exact (by unfold k0_pay21; pointwise : k0_pay21 (F := Ideal) v254 v257 v259 v268 v270 v279 v281 v288 v292 (ix2 x ch) = k0_pay20 (F := Ideal) v254 v257 v259 v268 v270 v279 v281 v288 v292 (ix2 x ch) * Ideal.tanh (k0_pay20 (F := Ideal) v254 v257 v259 v268 v270 v279 v281 v288 v292 (ix2 x ch))).trans (by rw [pay20_apply])
theorem pay1_apply (r : Fin 28) (y : Fin 48) (ch : Fin 672) : k0_pay1 (F := Ideal) (ix3 r y ch) = (0 : EReal) := by
  unfold k0_pay1
  pointwise
theorem pay5_apply (a : Fin 1) (ch : Fin 672) : k0_pay5 (F := Ideal) (ix2 a ch) = (0 : EReal) := by
  unfold k0_pay5
  pointwise
end Pay

section Trip
variable (𝒱 : Variants) (c : Dev nD) (bd : Option 𝒱.V) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole)
variable (v0 v1 : Elt Ideal .f32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
 (X5 : BufTy.Contents (Elt Ideal) arg5.view.ty) (X6 : BufTy.Contents (Elt Ideal) arg6.view.ty) (X7 : BufTy.Contents (Elt Ideal) arg7.view.ty) (X12 : BufTy.Contents (Elt Ideal) arg12.view.ty)
abbrev xrow (k : Fin k0_t1_loop.trips) : Vec Ideal S1x1x32x112 .i8 := arg1.view.readAt (Elt Ideal) (Rect.unit (s := S1x24x32x112) (k0_off1 k) S1x1x32x112.size (k0_off1_inb k)).toLoadRect X1
abbrev wexp : Vec Ideal S112x672 .i8 := arg2.view.readAt (Elt Ideal) (Rect.unit (s := S112x672) ![0, 0] S112x672.size inb_S112x672_S112x672_0_0).toLoadRect X2
abbrev aexp : Vec Ideal S1x672 .f32 := arg3.view.readAt (Elt Ideal) (Rect.unit (s := S1x672) ![0, 0] S1x672.size inb_S1x672_S1x672_0_0).toLoadRect X3
abbrev bexp : Vec Ideal S1x672 .f32 := arg4.view.readAt (Elt Ideal) (Rect.unit (s := S1x672) ![0, 0] S1x672.size inb_S1x672_S1x672_0_0).toLoadRect X4

theorem trip_e (k : Fin k0_t1_loop.trips) : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X1 X2 X3 X4 k).1
    = [⟨Rect.unit (s := S1x24x32x672) (k0_off2 k) S1x1x32x672.size (k0_off2_inb k), k0_pay3 v0 (xrow arg1 X1 k) (wexp arg2 X2) (aexp arg3 X3) (bexp arg4 X4)⟩] := by
  unfold trip_k0_t1
  rfl
theorem trip_s (k : Fin k0_t1_loop.trips) : (trip_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X1 X2 X3 X4 k).2.1
    = [⟨Rect.unit (s := S28x48x672) (k0_off3 k) S1x32x672.size (k0_off3_inb k), k0_pay4 v0 (xrow arg1 X1 k) (wexp arg2 X2) (aexp arg3 X3) (bexp arg4 X4)⟩] := by
  unfold trip_k0_t1
  rfl
abbrev PB (n : ℕ) := pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 X1 X2 X3 X4 n
theorem read_e (v : View sig .tc .vmem S1x24x32x672 .i8) (f : v.ty.Contents (Elt Ideal)) (a : Fin 1) (r : Fin 24) (x : Fin 32) (ch : Fin 672) :
    v.read (Elt Ideal) (v.writes (Elt Ideal) f (PB 𝒱 c bd i arg1 harg1 arg2 harg2 arg3 harg3 arg4 harg4 arg5 harg5 arg6 harg6 arg7 harg7 arg8 harg8 arg9 harg9 arg10 harg10 arg11 harg11 arg12 harg12 v0 X1 X2 X3 X4 24).1) (ix4 a r x ch)
      = k0_pay3 v0 (xrow arg1 X1 r) (wexp arg2 X2) (aexp arg3 X3) (bexp arg4 X4) (ix4 (n0 := 1) (n1 := 1) (n2 := 32) (n3 := 672) 0 0 x ch) :=
  read_rows (N := 24) (W := 32) (C := 672) v f (fun n => (PB 𝒱 c bd i arg1 harg1 arg2 harg2 arg3 harg3 arg4 harg4 arg5 harg5 arg6 harg6 arg7 harg7 arg8 harg8 arg9 harg9 arg10 harg10 arg11 harg11 arg12 harg12 v0 X1 X2 X3 X4 n).1) (fun k => k0_off2 k) (fun k => k0_off2_eq k)
    (fun k => k0_off2_inb k) (fun k => k0_pay3 v0 (xrow arg1 X1 k) (wexp arg2 X2) (aexp arg3 X3) (bexp arg4 X4))
    (fun k => (congrArg (fun p => p.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v0 X1 X2 X3 X4 k)).trans (congrArg (· ++ _) (trip_e 𝒱 c bd i arg1 harg1 arg2 harg2 arg3 harg3 arg4 harg4 arg5 harg5 arg6 harg6 arg7 harg7 arg8 harg8 arg9 harg9 arg10 harg10 arg11 harg11 arg12 harg12 v0 X1 X2 X3 X4 k))) 24 le_rfl a r x ch r.isLt
theorem pb_s (k : Fin 24) : (PB 𝒱 c bd i arg1 harg1 arg2 harg2 arg3 harg3 arg4 harg4 arg5 harg5 arg6 harg6 arg7 harg7 arg8 harg8 arg9 harg9 arg10 harg10 arg11 harg11 arg12 harg12 v0 X1 X2 X3 X4 (k.val + 1)).2
    = ⟨Rect.unit (s := S28x48x672) (k0_off3 k) S1x32x672.size (k0_off3_inb k), k0_pay4 v0 (xrow arg1 X1 k) (wexp arg2 X2) (aexp arg3 X3) (bexp arg4 X4)⟩ :: (PB 𝒱 c bd i arg1 harg1 arg2 harg2 arg3 harg3 arg4 harg4 arg5 harg5 arg6 harg6 arg7 harg7 arg8 harg8 arg9 harg9 arg10 harg10 arg11 harg11 arg12 harg12 v0 X1 X2 X3 X4 k.val).2 :=
  (congrArg (fun p => p.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 v0 X1 X2 X3 X4 k)).trans (congrArg (· ++ _) (trip_s 𝒱 c bd i arg1 harg1 arg2 harg2 arg3 harg3 arg4 harg4 arg5 harg5 arg6 harg6 arg7 harg7 arg8 harg8 arg9 harg9 arg10 harg10 arg11 harg11 arg12 harg12 v0 X1 X2 X3 X4 k))

/-- The padded image of the codes: `E` inside, zero on the border. -/
def padded (E : Fin 24 → Fin 32 → Fin 672 → EReal) (r : Fin 28) (y : Fin 48) (ch : Fin 672) : EReal :=
  if h : 2 ≤ r.val ∧ r.val < 26 ∧ 8 ≤ y.val ∧ y.val < 40 then E ⟨r.val - 2, by omega⟩ ⟨y.val - 8, by omega⟩ ch else 0

theorem read_s (v : View sig .tc .vmem S28x48x672 .f32) (f : v.ty.Contents (Elt Ideal)) (L : List (View.Piece (Elt Ideal) S28x48x672 .f32))
    (hL : ∀ (r : Fin 28) (y : Fin 48) (ch : Fin 672), ¬ (2 ≤ r.val ∧ r.val < 26 ∧ 8 ≤ y.val ∧ y.val < 40) → v.read (Elt Ideal) (v.writes (Elt Ideal) f L) (ix3 r y ch) = (0 : EReal))
    (r : Fin 28) (y : Fin 48) (ch : Fin 672) :
    v.read (Elt Ideal) (v.writes (Elt Ideal) f ((PB 𝒱 c bd i arg1 harg1 arg2 harg2 arg3 harg3 arg4 harg4 arg5 harg5 arg6 harg6 arg7 harg7 arg8 harg8 arg9 harg9 arg10 harg10 arg11 harg11 arg12 harg12 v0 X1 X2 X3 X4 24).2 ++ L)) (ix3 r y ch)
      = padded (fun r x ch => k0_pay4 v0 (xrow arg1 X1 r) (wexp arg2 X2) (aexp arg3 X3) (bexp arg4 X4) (ix3 (n0 := 1) 0 x ch)) r y ch := by
  unfold padded
  by_cases h : 2 ≤ r.val ∧ r.val < 26 ∧ 8 ≤ y.val ∧ y.val < 40
  · rw [dif_pos h]
    exact read_inside v f (fun n => (PB 𝒱 c bd i arg1 harg1 arg2 harg2 arg3 harg3 arg4 harg4 arg5 harg5 arg6 harg6 arg7 harg7 arg8 harg8 arg9 harg9 arg10 harg10 arg11 harg11 arg12 harg12 v0 X1 X2 X3 X4 n).2) L (fun k => k0_off3 k) (fun k => k0_off3_eq k) (fun k => k0_off3_inb k)
      (fun k => k0_pay4 v0 (xrow arg1 X1 k) (wexp arg2 X2) (aexp arg3 X3) (bexp arg4 X4)) (fun k => pb_s 𝒱 c bd i arg1 harg1 arg2 harg2 arg3 harg3 arg4 harg4 arg5 harg5 arg6 harg6 arg7 harg7 arg8 harg8 arg9 harg9 arg10 harg10 arg11 harg11 arg12 harg12 v0 X1 X2 X3 X4 k)
      24 le_rfl ⟨r.val - 2, by omega⟩ ⟨y.val - 8, by omega⟩ ch r y (show r.val = r.val - 2 + 2 by omega) (show y.val = y.val - 8 + 8 by omega) (show r.val - 2 < 24 by omega)
  · rw [dif_neg h]
    exact (read_outside v f (fun n => (PB 𝒱 c bd i arg1 harg1 arg2 harg2 arg3 harg3 arg4 harg4 arg5 harg5 arg6 harg6 arg7 harg7 arg8 harg8 arg9 harg9 arg10 harg10 arg11 harg11 arg12 harg12 v0 X1 X2 X3 X4 n).2) L rfl (fun k => k0_off3 k) (fun k => k0_off3_eq k) (fun k => k0_off3_inb k)
      (fun k => k0_pay4 v0 (xrow arg1 X1 k) (wexp arg2 X2) (aexp arg3 X3) (bexp arg4 X4)) (fun k => pb_s 𝒱 c bd i arg1 harg1 arg2 harg2 arg3 harg3 arg4 harg4 arg5 harg5 arg6 harg6 arg7 harg7 arg8 harg8 arg9 harg9 arg10 harg10 arg11 harg11 arg12 harg12 v0 X1 X2 X3 X4 k)
      r y ch h 24 le_rfl).trans (hL r y ch h)

/-! ### The second loop -/
theorem tap0 (k : Fin 24) (r : Fin 5) (x : Fin 32) (ch : Fin 672) (r' : Fin 28) (y : Fin 48) (hr : r'.val = k.val + r.val) (hy : y.val = 6 + x.val) :
    arg12.view.readAt (Elt Ideal) (Rect.unit (s := S28x48x672) (k0_off4 k (BitVec.ofNat 32 r.val)) S1x32x672.size (k0_off4_inb k r)).toLoadRect X12 (ix3 (n0 := 1) 0 x ch)
      = arg12.view.read (Elt Ideal) X12 (ix3 r' y ch) :=
  readAt_read arg12.view X12 (k0_off4_inb k r) _ _ (k0_off4_eq k r) (fun b => by
    match b with
    | ⟨0, _⟩ => exact hr
    | ⟨1, _⟩ => exact hy
    | ⟨2, _⟩ => exact (Nat.zero_add _).symm)
theorem tap1 (k : Fin 24) (r : Fin 5) (x : Fin 32) (ch : Fin 672) (r' : Fin 28) (y : Fin 48) (hr : r'.val = k.val + r.val) (hy : y.val = 7 + x.val) :
    arg12.view.readAt (Elt Ideal) (Rect.unit (s := S28x48x672) (k0_off5 k (BitVec.ofNat 32 r.val)) S1x32x672.size (k0_off5_inb k r)).toLoadRect X12 (ix3 (n0 := 1) 0 x ch)
      = arg12.view.read (Elt Ideal) X12 (ix3 r' y ch) :=
  readAt_read arg12.view X12 (k0_off5_inb k r) _ _ (k0_off5_eq k r) (fun b => by
    match b with
    | ⟨0, _⟩ => exact hr
    | ⟨1, _⟩ => exact hy
    | ⟨2, _⟩ => exact (Nat.zero_add _).symm)
theorem tap2 (k : Fin 24) (r : Fin 5) (x : Fin 32) (ch : Fin 672) (r' : Fin 28) (y : Fin 48) (hr : r'.val = k.val + r.val) (hy : y.val = 8 + x.val) :
    arg12.view.readAt (Elt Ideal) (Rect.unit (s := S28x48x672) (k0_off6 k (BitVec.ofNat 32 r.val)) S1x32x672.size (k0_off6_inb k r)).toLoadRect X12 (ix3 (n0 := 1) 0 x ch)
      = arg12.view.read (Elt Ideal) X12 (ix3 r' y ch) :=
  readAt_read arg12.view X12 (k0_off6_inb k r) _ _ (k0_off6_eq k r) (fun b => by
    match b with
    | ⟨0, _⟩ => exact hr
    | ⟨1, _⟩ => exact hy
    | ⟨2, _⟩ => exact (Nat.zero_add _).symm)
theorem tap3 (k : Fin 24) (r : Fin 5) (x : Fin 32) (ch : Fin 672) (r' : Fin 28) (y : Fin 48) (hr : r'.val = k.val + r.val) (hy : y.val = 9 + x.val) :
    arg12.view.readAt (Elt Ideal) (Rect.unit (s := S28x48x672) (k0_off7 k (BitVec.ofNat 32 r.val)) S1x32x672.size (k0_off7_inb k r)).toLoadRect X12 (ix3 (n0 := 1) 0 x ch)
      = arg12.view.read (Elt Ideal) X12 (ix3 r' y ch) :=
  readAt_read arg12.view X12 (k0_off7_inb k r) _ _ (k0_off7_eq k r) (fun b => by
    match b with
    | ⟨0, _⟩ => exact hr
    | ⟨1, _⟩ => exact hy
    | ⟨2, _⟩ => exact (Nat.zero_add _).symm)
theorem tap4 (k : Fin 24) (r : Fin 5) (x : Fin 32) (ch : Fin 672) (r' : Fin 28) (y : Fin 48) (hr : r'.val = k.val + r.val) (hy : y.val = 10 + x.val) :
    arg12.view.readAt (Elt Ideal) (Rect.unit (s := S28x48x672) (k0_off8 k (BitVec.ofNat 32 r.val)) S1x32x672.size (k0_off8_inb k r)).toLoadRect X12 (ix3 (n0 := 1) 0 x ch)
      = arg12.view.read (Elt Ideal) X12 (ix3 r' y ch) :=
  readAt_read arg12.view X12 (k0_off8_inb k r) _ _ (k0_off8_eq k r) (fun b => by
    match b with
    | ⟨0, _⟩ => exact hr
    | ⟨1, _⟩ => exact hy
    | ⟨2, _⟩ => exact (Nat.zero_add _).symm)
theorem w0 (ch : Fin 672) : arg5.view.readAt (Elt Ideal) (Rect.unit (s := S25x672) ![0, 0] S1x672.size inb_S25x672_S1x672_0_0).toLoadRect X5 (ix2 (n0 := 1) 0 ch)
      = arg5.view.read (Elt Ideal) X5 (ix2 (n0 := 25) 0 ch) :=
  readAt_read arg5.view X5 _ _ _ rfl (fun b => by match b with | ⟨0, _⟩ => rfl | ⟨1, _⟩ => exact (Nat.zero_add _).symm)
theorem w1 (ch : Fin 672) : arg5.view.readAt (Elt Ideal) (Rect.unit (s := S25x672) ![1, 0] S1x672.size inb_S25x672_S1x672_1_0).toLoadRect X5 (ix2 (n0 := 1) 0 ch)
      = arg5.view.read (Elt Ideal) X5 (ix2 (n0 := 25) 1 ch) :=
  readAt_read arg5.view X5 _ _ _ rfl (fun b => by match b with | ⟨0, _⟩ => rfl | ⟨1, _⟩ => exact (Nat.zero_add _).symm)
theorem w2 (ch : Fin 672) : arg5.view.readAt (Elt Ideal) (Rect.unit (s := S25x672) ![2, 0] S1x672.size inb_S25x672_S1x672_2_0).toLoadRect X5 (ix2 (n0 := 1) 0 ch)
      = arg5.view.read (Elt Ideal) X5 (ix2 (n0 := 25) 2 ch) :=
  readAt_read arg5.view X5 _ _ _ rfl (fun b => by match b with | ⟨0, _⟩ => rfl | ⟨1, _⟩ => exact (Nat.zero_add _).symm)
theorem w3 (ch : Fin 672) : arg5.view.readAt (Elt Ideal) (Rect.unit (s := S25x672) ![3, 0] S1x672.size inb_S25x672_S1x672_3_0).toLoadRect X5 (ix2 (n0 := 1) 0 ch)
      = arg5.view.read (Elt Ideal) X5 (ix2 (n0 := 25) 3 ch) :=
  readAt_read arg5.view X5 _ _ _ rfl (fun b => by match b with | ⟨0, _⟩ => rfl | ⟨1, _⟩ => exact (Nat.zero_add _).symm)
theorem w4 (ch : Fin 672) : arg5.view.readAt (Elt Ideal) (Rect.unit (s := S25x672) ![4, 0] S1x672.size inb_S25x672_S1x672_4_0).toLoadRect X5 (ix2 (n0 := 1) 0 ch)
      = arg5.view.read (Elt Ideal) X5 (ix2 (n0 := 25) 4 ch) :=
  readAt_read arg5.view X5 _ _ _ rfl (fun b => by match b with | ⟨0, _⟩ => rfl | ⟨1, _⟩ => exact (Nat.zero_add _).symm)
theorem w5 (ch : Fin 672) : arg5.view.readAt (Elt Ideal) (Rect.unit (s := S25x672) ![5, 0] S1x672.size inb_S25x672_S1x672_5_0).toLoadRect X5 (ix2 (n0 := 1) 0 ch)
      = arg5.view.read (Elt Ideal) X5 (ix2 (n0 := 25) 5 ch) :=
  readAt_read arg5.view X5 _ _ _ rfl (fun b => by match b with | ⟨0, _⟩ => rfl | ⟨1, _⟩ => exact (Nat.zero_add _).symm)
theorem w6 (ch : Fin 672) : arg5.view.readAt (Elt Ideal) (Rect.unit (s := S25x672) ![6, 0] S1x672.size inb_S25x672_S1x672_6_0).toLoadRect X5 (ix2 (n0 := 1) 0 ch)
      = arg5.view.read (Elt Ideal) X5 (ix2 (n0 := 25) 6 ch) :=
  readAt_read arg5.view X5 _ _ _ rfl (fun b => by match b with | ⟨0, _⟩ => rfl | ⟨1, _⟩ => exact (Nat.zero_add _).symm)
theorem w7 (ch : Fin 672) : arg5.view.readAt (Elt Ideal) (Rect.unit (s := S25x672) ![7, 0] S1x672.size inb_S25x672_S1x672_7_0).toLoadRect X5 (ix2 (n0 := 1) 0 ch)
      = arg5.view.read (Elt Ideal) X5 (ix2 (n0 := 25) 7 ch) :=
  readAt_read arg5.view X5 _ _ _ rfl (fun b => by match b with | ⟨0, _⟩ => rfl | ⟨1, _⟩ => exact (Nat.zero_add _).symm)
theorem w8 (ch : Fin 672) : arg5.view.readAt (Elt Ideal) (Rect.unit (s := S25x672) ![8, 0] S1x672.size inb_S25x672_S1x672_8_0).toLoadRect X5 (ix2 (n0 := 1) 0 ch)
      = arg5.view.read (Elt Ideal) X5 (ix2 (n0 := 25) 8 ch) :=
  readAt_read arg5.view X5 _ _ _ rfl (fun b => by match b with | ⟨0, _⟩ => rfl | ⟨1, _⟩ => exact (Nat.zero_add _).symm)
theorem w9 (ch : Fin 672) : arg5.view.readAt (Elt Ideal) (Rect.unit (s := S25x672) ![9, 0] S1x672.size inb_S25x672_S1x672_9_0).toLoadRect X5 (ix2 (n0 := 1) 0 ch)
      = arg5.view.read (Elt Ideal) X5 (ix2 (n0 := 25) 9 ch) :=
  readAt_read arg5.view X5 _ _ _ rfl (fun b => by match b with | ⟨0, _⟩ => rfl | ⟨1, _⟩ => exact (Nat.zero_add _).symm)
theorem w10 (ch : Fin 672) : arg5.view.readAt (Elt Ideal) (Rect.unit (s := S25x672) ![10, 0] S1x672.size inb_S25x672_S1x672_10_0).toLoadRect X5 (ix2 (n0 := 1) 0 ch)
      = arg5.view.read (Elt Ideal) X5 (ix2 (n0 := 25) 10 ch) :=
  readAt_read arg5.view X5 _ _ _ rfl (fun b => by match b with | ⟨0, _⟩ => rfl | ⟨1, _⟩ => exact (Nat.zero_add _).symm)
theorem w11 (ch : Fin 672) : arg5.view.readAt (Elt Ideal) (Rect.unit (s := S25x672) ![11, 0] S1x672.size inb_S25x672_S1x672_11_0).toLoadRect X5 (ix2 (n0 := 1) 0 ch)
      = arg5.view.read (Elt Ideal) X5 (ix2 (n0 := 25) 11 ch) :=
  readAt_read arg5.view X5 _ _ _ rfl (fun b => by match b with | ⟨0, _⟩ => rfl | ⟨1, _⟩ => exact (Nat.zero_add _).symm)
theorem w12 (ch : Fin 672) : arg5.view.readAt (Elt Ideal) (Rect.unit (s := S25x672) ![12, 0] S1x672.size inb_S25x672_S1x672_12_0).toLoadRect X5 (ix2 (n0 := 1) 0 ch)
      = arg5.view.read (Elt Ideal) X5 (ix2 (n0 := 25) 12 ch) :=
  readAt_read arg5.view X5 _ _ _ rfl (fun b => by match b with | ⟨0, _⟩ => rfl | ⟨1, _⟩ => exact (Nat.zero_add _).symm)
theorem w13 (ch : Fin 672) : arg5.view.readAt (Elt Ideal) (Rect.unit (s := S25x672) ![13, 0] S1x672.size inb_S25x672_S1x672_13_0).toLoadRect X5 (ix2 (n0 := 1) 0 ch)
      = arg5.view.read (Elt Ideal) X5 (ix2 (n0 := 25) 13 ch) :=
  readAt_read arg5.view X5 _ _ _ rfl (fun b => by match b with | ⟨0, _⟩ => rfl | ⟨1, _⟩ => exact (Nat.zero_add _).symm)
theorem w14 (ch : Fin 672) : arg5.view.readAt (Elt Ideal) (Rect.unit (s := S25x672) ![14, 0] S1x672.size inb_S25x672_S1x672_14_0).toLoadRect X5 (ix2 (n0 := 1) 0 ch)
      = arg5.view.read (Elt Ideal) X5 (ix2 (n0 := 25) 14 ch) :=
  readAt_read arg5.view X5 _ _ _ rfl (fun b => by match b with | ⟨0, _⟩ => rfl | ⟨1, _⟩ => exact (Nat.zero_add _).symm)
theorem w15 (ch : Fin 672) : arg5.view.readAt (Elt Ideal) (Rect.unit (s := S25x672) ![15, 0] S1x672.size inb_S25x672_S1x672_15_0).toLoadRect X5 (ix2 (n0 := 1) 0 ch)
      = arg5.view.read (Elt Ideal) X5 (ix2 (n0 := 25) 15 ch) :=
  readAt_read arg5.view X5 _ _ _ rfl (fun b => by match b with | ⟨0, _⟩ => rfl | ⟨1, _⟩ => exact (Nat.zero_add _).symm)
theorem w16 (ch : Fin 672) : arg5.view.readAt (Elt Ideal) (Rect.unit (s := S25x672) ![16, 0] S1x672.size inb_S25x672_S1x672_16_0).toLoadRect X5 (ix2 (n0 := 1) 0 ch)
      = arg5.view.read (Elt Ideal) X5 (ix2 (n0 := 25) 16 ch) :=
  readAt_read arg5.view X5 _ _ _ rfl (fun b => by match b with | ⟨0, _⟩ => rfl | ⟨1, _⟩ => exact (Nat.zero_add _).symm)
theorem w17 (ch : Fin 672) : arg5.view.readAt (Elt Ideal) (Rect.unit (s := S25x672) ![17, 0] S1x672.size inb_S25x672_S1x672_17_0).toLoadRect X5 (ix2 (n0 := 1) 0 ch)
      = arg5.view.read (Elt Ideal) X5 (ix2 (n0 := 25) 17 ch) :=
  readAt_read arg5.view X5 _ _ _ rfl (fun b => by match b with | ⟨0, _⟩ => rfl | ⟨1, _⟩ => exact (Nat.zero_add _).symm)
theorem w18 (ch : Fin 672) : arg5.view.readAt (Elt Ideal) (Rect.unit (s := S25x672) ![18, 0] S1x672.size inb_S25x672_S1x672_18_0).toLoadRect X5 (ix2 (n0 := 1) 0 ch)
      = arg5.view.read (Elt Ideal) X5 (ix2 (n0 := 25) 18 ch) :=
  readAt_read arg5.view X5 _ _ _ rfl (fun b => by match b with | ⟨0, _⟩ => rfl | ⟨1, _⟩ => exact (Nat.zero_add _).symm)
theorem w19 (ch : Fin 672) : arg5.view.readAt (Elt Ideal) (Rect.unit (s := S25x672) ![19, 0] S1x672.size inb_S25x672_S1x672_19_0).toLoadRect X5 (ix2 (n0 := 1) 0 ch)
      = arg5.view.read (Elt Ideal) X5 (ix2 (n0 := 25) 19 ch) :=
  readAt_read arg5.view X5 _ _ _ rfl (fun b => by match b with | ⟨0, _⟩ => rfl | ⟨1, _⟩ => exact (Nat.zero_add _).symm)
theorem w20 (ch : Fin 672) : arg5.view.readAt (Elt Ideal) (Rect.unit (s := S25x672) ![20, 0] S1x672.size inb_S25x672_S1x672_20_0).toLoadRect X5 (ix2 (n0 := 1) 0 ch)
      = arg5.view.read (Elt Ideal) X5 (ix2 (n0 := 25) 20 ch) :=
  readAt_read arg5.view X5 _ _ _ rfl (fun b => by match b with | ⟨0, _⟩ => rfl | ⟨1, _⟩ => exact (Nat.zero_add _).symm)
theorem w21 (ch : Fin 672) : arg5.view.readAt (Elt Ideal) (Rect.unit (s := S25x672) ![21, 0] S1x672.size inb_S25x672_S1x672_21_0).toLoadRect X5 (ix2 (n0 := 1) 0 ch)
      = arg5.view.read (Elt Ideal) X5 (ix2 (n0 := 25) 21 ch) :=
  readAt_read arg5.view X5 _ _ _ rfl (fun b => by match b with | ⟨0, _⟩ => rfl | ⟨1, _⟩ => exact (Nat.zero_add _).symm)
theorem w22 (ch : Fin 672) : arg5.view.readAt (Elt Ideal) (Rect.unit (s := S25x672) ![22, 0] S1x672.size inb_S25x672_S1x672_22_0).toLoadRect X5 (ix2 (n0 := 1) 0 ch)
      = arg5.view.read (Elt Ideal) X5 (ix2 (n0 := 25) 22 ch) :=
  readAt_read arg5.view X5 _ _ _ rfl (fun b => by match b with | ⟨0, _⟩ => rfl | ⟨1, _⟩ => exact (Nat.zero_add _).symm)
theorem w23 (ch : Fin 672) : arg5.view.readAt (Elt Ideal) (Rect.unit (s := S25x672) ![23, 0] S1x672.size inb_S25x672_S1x672_23_0).toLoadRect X5 (ix2 (n0 := 1) 0 ch)
      = arg5.view.read (Elt Ideal) X5 (ix2 (n0 := 25) 23 ch) :=
  readAt_read arg5.view X5 _ _ _ rfl (fun b => by match b with | ⟨0, _⟩ => rfl | ⟨1, _⟩ => exact (Nat.zero_add _).symm)
theorem w24 (ch : Fin 672) : arg5.view.readAt (Elt Ideal) (Rect.unit (s := S25x672) ![24, 0] S1x672.size inb_S25x672_S1x672_24_0).toLoadRect X5 (ix2 (n0 := 1) 0 ch)
      = arg5.view.read (Elt Ideal) X5 (ix2 (n0 := 25) 24 ch) :=
  readAt_read arg5.view X5 _ _ _ rfl (fun b => by match b with | ⟨0, _⟩ => rfl | ⟨1, _⟩ => exact (Nat.zero_add _).symm)
theorem ad_read (ch : Fin 672) : arg6.view.readAt (Elt Ideal) (Rect.unit (s := S1x672) ![0, 0] S1x672.size inb_S1x672_S1x672_0_0).toLoadRect X6 (ix2 (n0 := 1) 0 ch)
      = arg6.view.read (Elt Ideal) X6 (ix2 (n0 := 1) 0 ch) :=
  readAt_read arg6.view X6 _ _ _ rfl (fun b => by match b with | ⟨0, _⟩ => rfl | ⟨1, _⟩ => exact (Nat.zero_add _).symm)
theorem bd_read (ch : Fin 672) : arg7.view.readAt (Elt Ideal) (Rect.unit (s := S1x672) ![0, 0] S1x672.size inb_S1x672_S1x672_0_0).toLoadRect X7 (ix2 (n0 := 1) 0 ch)
      = arg7.view.read (Elt Ideal) X7 (ix2 (n0 := 1) 0 ch) :=
  readAt_read arg7.view X7 _ _ _ rfl (fun b => by match b with | ⟨0, _⟩ => rfl | ⟨1, _⟩ => exact (Nat.zero_add _).symm)

/-- Tap `t` of the window at a pixel of the padded image. -/
def tapV (S : Vec Ideal S28x48x672 .f32) (w : Vec Ideal S25x672 .i8) (k : Fin 24) (x : Fin 32) (ch : Fin 672) (t : Fin 25) : EReal :=
  S (ix3 (n0 := 28) ⟨k.val + t.val / 5, by omega⟩ (⟨6 + t.val % 5 + x.val, by omega⟩ : Fin 48) ch) * (((w (ix2 t ch)).toInt : ℝ) : EReal)
/-- The depthwise value before its swish. -/
def dwV (S : Vec Ideal S28x48x672 .f32) (w : Vec Ideal S25x672 .i8) (a b : Vec Ideal S1x672 .f32) (k : Fin 24) (x : Fin 32) (ch : Fin 672) : EReal :=
  chain (tapV S w k x ch) * a (ix2 (n0 := 1) 0 ch) + b (ix2 (n0 := 1) 0 ch)
theorem step {a a' s s' : EReal} {w w' : BitVec 8} (h : a = a') (hs : s = s') (hw : w = w') :
    a + s * ((w.toInt : ℝ) : EReal) = a' + s' * ((w'.toInt : ℝ) : EReal) := by rw [h, hs, hw]
theorem step0 {s s' : EReal} {w w' : BitVec 8} (hs : s = s') (hw : w = w') :
    s * ((w.toInt : ℝ) : EReal) = s' * ((w'.toInt : ℝ) : EReal) := by rw [hs, hw]
theorem r10_apply (k : Fin 24) (x : Fin 32) (ch : Fin 672) : trip_k0_t2.sl.r_10 (F := Ideal) arg5 arg6 arg7 arg12 X5 X6 X7 X12 k (ix2 x ch)
    = Ideal.ofBits .f32 0x3F000000#32 * dwV (arg12.view.read (Elt Ideal) X12) (arg5.view.read (Elt Ideal) X5) (arg6.view.read (Elt Ideal) X6) (arg7.view.read (Elt Ideal) X7) k x ch := by
  unfold trip_k0_t2.sl.r_10
  rw [pay20_apply, ad_read, bd_read]
  unfold trip_k0_t2.sl.r_9
  rw [pay19_apply]
  unfold trip_k0_t2.sl.r_8 trip_k0_t2.sl.r_7
  rw [pay18_apply, pay17_apply]
  unfold trip_k0_t2.sl.r_6 trip_k0_t2.sl.r_5 trip_k0_t2.sl.r_4
  rw [pay16_apply, pay15_apply, pay14_apply]
  unfold trip_k0_t2.sl.r_3
  rw [pay13_apply]
  unfold trip_k0_t2.sl.r_2
  rw [pay12_apply]
  unfold trip_k0_t2.sl.r_1 trip_k0_t2.sl.r
  rw [pay11_apply, pay10_apply]
  exact congrArg (fun z => _ * (z * _ + _)) (step (step (step (step (step (step (step (step (step (step (step (step (step (step (step (step (step (step (step (step (step (step (step (step (step0 (tap0 arg12 X12 k 0 x ch _ _ rfl rfl) (w0 arg5 X5 ch)) (tap1 arg12 X12 k 0 x ch _ _ rfl rfl) (w1 arg5 X5 ch)) (tap2 arg12 X12 k 0 x ch _ _ rfl rfl) (w2 arg5 X5 ch)) (tap3 arg12 X12 k 0 x ch _ _ rfl rfl) (w3 arg5 X5 ch)) (tap4 arg12 X12 k 0 x ch _ _ rfl rfl) (w4 arg5 X5 ch)) (tap0 arg12 X12 k 1 x ch _ _ rfl rfl) (w5 arg5 X5 ch)) (tap1 arg12 X12 k 1 x ch _ _ rfl rfl) (w6 arg5 X5 ch)) (tap2 arg12 X12 k 1 x ch _ _ rfl rfl) (w7 arg5 X5 ch)) (tap3 arg12 X12 k 1 x ch _ _ rfl rfl) (w8 arg5 X5 ch)) (tap4 arg12 X12 k 1 x ch _ _ rfl rfl) (w9 arg5 X5 ch)) (tap0 arg12 X12 k 2 x ch _ _ rfl rfl) (w10 arg5 X5 ch)) (tap1 arg12 X12 k 2 x ch _ _ rfl rfl) (w11 arg5 X5 ch)) (tap2 arg12 X12 k 2 x ch _ _ rfl rfl) (w12 arg5 X5 ch)) (tap3 arg12 X12 k 2 x ch _ _ rfl rfl) (w13 arg5 X5 ch)) (tap4 arg12 X12 k 2 x ch _ _ rfl rfl) (w14 arg5 X5 ch)) (tap0 arg12 X12 k 3 x ch _ _ rfl rfl) (w15 arg5 X5 ch)) (tap1 arg12 X12 k 3 x ch _ _ rfl rfl) (w16 arg5 X5 ch)) (tap2 arg12 X12 k 3 x ch _ _ rfl rfl) (w17 arg5 X5 ch)) (tap3 arg12 X12 k 3 x ch _ _ rfl rfl) (w18 arg5 X5 ch)) (tap4 arg12 X12 k 3 x ch _ _ rfl rfl) (w19 arg5 X5 ch)) (tap0 arg12 X12 k 4 x ch _ _ rfl rfl) (w20 arg5 X5 ch)) (tap1 arg12 X12 k 4 x ch _ _ rfl rfl) (w21 arg5 X5 ch)) (tap2 arg12 X12 k 4 x ch _ _ rfl rfl) (w22 arg5 X5 ch)) (tap3 arg12 X12 k 4 x ch _ _ rfl rfl) (w23 arg5 X5 ch)) (tap4 arg12 X12 k 4 x ch _ _ rfl rfl) (w24 arg5 X5 ch))
theorem r11_apply (k : Fin 24) (x : Fin 32) (ch : Fin 672) : trip_k0_t2.sl.r_11 (F := Ideal) arg5 arg6 arg7 arg12 X5 X6 X7 X12 k (ix2 x ch)
    = Ideal.ofBits .f32 0x3F000000#32 * dwV (arg12.view.read (Elt Ideal) X12) (arg5.view.read (Elt Ideal) X5) (arg6.view.read (Elt Ideal) X6) (arg7.view.read (Elt Ideal) X7) k x ch
      * Ideal.tanh (Ideal.ofBits .f32 0x3F000000#32 * dwV (arg12.view.read (Elt Ideal) X12) (arg5.view.read (Elt Ideal) X5) (arg6.view.read (Elt Ideal) X6) (arg7.view.read (Elt Ideal) X7) k x ch) := by
  refine Eq.trans ?_ (congrArg (fun z => z * Ideal.tanh z) (r10_apply arg5 arg6 arg7 arg12 X5 X6 X7 X12 k x ch))
  unfold trip_k0_t2.sl.r_11 trip_k0_t2.sl.r_10
  rw [pay21_apply, pay20_apply]
end Trip

section Values
variable (𝒱 : Variants) (c : Dev nD) (bd : Option 𝒱.V) (i : grid0.Coords) (arg1 : Memref sig .tc .vmem S1x24x32x112 .i8) (harg1 : arg1.IsWhole) (arg2 : Memref sig .tc .vmem S112x672 .i8) (harg2 : arg2.IsWhole) (arg3 : Memref sig .tc .vmem S1x672 .f32) (harg3 : arg3.IsWhole) (arg4 : Memref sig .tc .vmem S1x672 .f32) (harg4 : arg4.IsWhole) (arg5 : Memref sig .tc .vmem S25x672 .i8) (harg5 : arg5.IsWhole) (arg6 : Memref sig .tc .vmem S1x672 .f32) (harg6 : arg6.IsWhole) (arg7 : Memref sig .tc .vmem S1x672 .f32) (harg7 : arg7.IsWhole) (arg8 : Memref sig .tc .smem S2 .f32) (harg8 : arg8.IsWhole) (arg9 : Memref sig .tc .vmem S1x24x32x672 .i8) (harg9 : arg9.IsWhole) (arg10 : Memref sig .tc .vmem S1x24x32x672 .i8) (harg10 : arg10.IsWhole) (arg11 : Memref sig .tc .vmem S1x1x672 .f32) (harg11 : arg11.IsWhole) (arg12 : Memref sig .tc .vmem S28x48x672 .f32) (harg12 : arg12.IsWhole)
 (x0 : Vec Ideal S1x24x32x112 .i8) (x1 : Vec Ideal S112x672 .i8) (x2 : Vec Ideal S1x672 .f32) (x3 : Vec Ideal S1x672 .f32) (x4 : Vec Ideal S25x672 .i8) (x5 : Vec Ideal S1x672 .f32) (x6 : Vec Ideal S1x672 .f32) (x7 : Vec Ideal S2 .f32) (v0 v1 : Elt Ideal .f32)

/-- An expanded code before it is rounded. -/
def eE (x0 : Vec Ideal S1x24x32x112 .i8) (x1 : Vec Ideal S112x672 .i8) (x2 x3 : Vec Ideal S1x672 .f32) (s : Elt Ideal .f32) (r : Fin 24) (x : Fin 32) (ch : Fin 672) : EReal :=
  sw (expd (fun k => (((x0 (ix4 (n0 := 1) 0 r x k)).toInt : ℝ) : EReal)) x1 x2 x3 ch) * s
/-- The padded image of a block. -/
def pE (x0 : Vec Ideal S1x24x32x112 .i8) (x1 : Vec Ideal S112x672 .i8) (x2 x3 : Vec Ideal S1x672 .f32) (s : Elt Ideal .f32) : Vec Ideal S28x48x672 .f32 :=
  fun j => padded (fun r x ch => qk (eE x0 x1 x2 x3 s r x ch)) (j 0) (j 1) (j 2)

theorem xrow_at (r : Fin 24) (x : Fin 32) (k : Fin 112) : xrow arg1 (harg1.unread x0) r (ix4 (n0 := 1) (n1 := 1) 0 0 x k) = x0 (ix4 (n0 := 1) 0 r x k) :=
  readAt_unread harg1 x0 _ _ _ (k0_off1_eq r) (fun b => by
    match b with
    | ⟨0, _⟩ => exact (Nat.zero_add _).symm
    | ⟨1, _⟩ => exact (Nat.add_zero _).symm
    | ⟨2, _⟩ => exact (Nat.zero_add _).symm
    | ⟨3, _⟩ => exact (Nat.zero_add _).symm)
theorem wexp_at : wexp arg2 (harg2.unread x1) = x1 := readAt_whole harg2 x1 _ zero2
theorem aexp_at : aexp arg3 (harg3.unread x2) = x2 := readAt_whole harg3 x2 _ zero2
theorem bexp_at : bexp arg4 (harg4.unread x3) = x3 := readAt_whole harg4 x3 _ zero2
theorem eE_at (r : Fin 24) (x : Fin 32) (ch : Fin 672) :
    sw (expd (fun k => (((xrow arg1 (harg1.unread x0) r (ix4 (n0 := 1) (n1 := 1) 0 0 x k)).toInt : ℝ) : EReal)) (wexp arg2 (harg2.unread x1)) (aexp arg3 (harg3.unread x2)) (bexp arg4 (harg4.unread x3)) ch) * v0
      = eE x0 x1 x2 x3 v0 r x ch := by
  rw [wexp_at, aexp_at, bexp_at]
  exact congrArg (fun z => sw (expd z x1 x2 x3 ch) * v0) (funext fun k => by rw [xrow_at])

abbrev PU (n : ℕ) := PB 𝒱 c bd i arg1 harg1 arg2 harg2 arg3 harg3 arg4 harg4 arg5 harg5 arg6 harg6 arg7 harg7 arg8 harg8 arg9 harg9 arg10 harg10 arg11 harg11 arg12 harg12 v0 (harg1.unread x0) (harg2.unread x1) (harg3.unread x2) (harg4.unread x3) n

theorem e_read (v : View sig .tc .vmem S1x24x32x672 .i8) (f : v.ty.Contents (Elt Ideal)) (a : Fin 1) (r : Fin 24) (x : Fin 32) (ch : Fin 672) :
    v.read (Elt Ideal) (v.writes (Elt Ideal) f (PU 𝒱 c bd i arg1 harg1 arg2 harg2 arg3 harg3 arg4 harg4 arg5 harg5 arg6 harg6 arg7 harg7 arg8 harg8 arg9 harg9 arg10 harg10 arg11 harg11 arg12 harg12 x0 x1 x2 x3 v0 24).1) (ix4 a r x ch) = qc (eE x0 x1 x2 x3 v0 r x ch) := by
  refine (read_e 𝒱 c bd i arg1 harg1 arg2 harg2 arg3 harg3 arg4 harg4 arg5 harg5 arg6 harg6 arg7 harg7 arg8 harg8 arg9 harg9 arg10 harg10 arg11 harg11 arg12 harg12 v0 _ _ _ _ v f a r x ch).trans ?_
  rw [pay3_apply]
  exact congrArg qc (eE_at arg1 harg1 arg2 harg2 arg3 harg3 arg4 harg4 x0 x1 x2 x3 v0 r x ch)

theorem s_read (v : View sig .tc .vmem S28x48x672 .f32) (f : v.ty.Contents (Elt Ideal)) (L : List (View.Piece (Elt Ideal) S28x48x672 .f32))
    (hL : ∀ (r : Fin 28) (y : Fin 48) (ch : Fin 672), ¬ (2 ≤ r.val ∧ r.val < 26 ∧ 8 ≤ y.val ∧ y.val < 40) → v.read (Elt Ideal) (v.writes (Elt Ideal) f L) (ix3 r y ch) = (0 : EReal)) :
    v.read (Elt Ideal) (v.writes (Elt Ideal) f ((PU 𝒱 c bd i arg1 harg1 arg2 harg2 arg3 harg3 arg4 harg4 arg5 harg5 arg6 harg6 arg7 harg7 arg8 harg8 arg9 harg9 arg10 harg10 arg11 harg11 arg12 harg12 x0 x1 x2 x3 v0 24).2 ++ L)) = pE x0 x1 x2 x3 v0 := by
  refine funext fun j => ?_
  obtain ⟨r, y, ch, rfl⟩ : ∃ (r : Fin 28) (y : Fin 48) (ch : Fin 672), j = ix3 r y ch :=
    ⟨j 0, j 1, j 2, funext fun b => by match b with | ⟨0, _⟩ => rfl | ⟨1, _⟩ => rfl | ⟨2, _⟩ => rfl⟩
  refine (read_s 𝒱 c bd i arg1 harg1 arg2 harg2 arg3 harg3 arg4 harg4 arg5 harg5 arg6 harg6 arg7 harg7 arg8 harg8 arg9 harg9 arg10 harg10 arg11 harg11 arg12 harg12 v0 _ _ _ _ v f L hL r y ch).trans ?_
  refine congrArg (fun E => padded E r y ch) ?_
  funext r x ch
  rw [pay4_apply]
  exact congrArg qk (eE_at arg1 harg1 arg2 harg2 arg3 harg3 arg4 harg4 x0 x1 x2 x3 v0 r x ch)

section Loop2
variable (X12 : BufTy.Contents (Elt Ideal) arg12.view.ty) (init : FVec Ideal S1x672 .f32)
abbrev ST (n : ℕ) := st_k0_t2 (F := Ideal) 𝒱 c bd i arg1 harg1 arg2 harg2 arg3 harg3 arg4 harg4 arg5 harg5 arg6 harg6 arg7 harg7 arg8 harg8 arg9 harg9 arg10 harg10 arg11 harg11 arg12 harg12 v1 (harg5.unread x4) (harg6.unread x5) (harg7.unread x6) X12 init n
abbrev R10 (k : Fin 24) : FVec Ideal S32x672 .f32 := trip_k0_t2.sl.r_10 (F := Ideal) arg5 arg6 arg7 arg12 (harg5.unread x4) (harg6.unread x5) (harg7.unread x6) X12 k
abbrev R11 (k : Fin 24) : FVec Ideal S32x672 .f32 := trip_k0_t2.sl.r_11 (F := Ideal) arg5 arg6 arg7 arg12 (harg5.unread x4) (harg6.unread x5) (harg7.unread x6) X12 k

/-- A depthwise code before it is rounded. -/
def uU (S : Vec Ideal S28x48x672 .f32) (w : Vec Ideal S25x672 .i8) (a b : Vec Ideal S1x672 .f32) (s : Elt Ideal .f32) (r : Fin 24) (x : Fin 32) (ch : Fin 672) : EReal :=
  sw (dwV S w a b r x ch) * s

theorem R_add (k : Fin 24) (x : Fin 32) (ch : Fin 672) :
    ((R10 arg5 harg5 arg6 harg6 arg7 harg7 arg12 x4 x5 x6 X12 k (ix2 x ch) : EReal) + R11 arg5 harg5 arg6 harg6 arg7 harg7 arg12 x4 x5 x6 X12 k (ix2 x ch)) * v1
      = uU (arg12.view.read (Elt Ideal) X12) x4 x5 x6 v1 k x ch := by
  unfold uU sw
  refine congrArg (· * v1) ?_
  refine (congrArg₂ (· + ·) (r10_apply arg5 arg6 arg7 arg12 _ _ _ X12 k x ch) (r11_apply arg5 arg6 arg7 arg12 _ _ _ X12 k x ch)).trans ?_
  rw [harg5.read_unread, harg6.read_unread, harg7.read_unread]

theorem st_r (k : Fin k0_t2_loop.trips) (acc : FVec Ideal S1x672 .f32) : tripR_k0_t2 (F := Ideal) 𝒱 c bd i arg1 harg1 arg2 harg2 arg3 harg3 arg4 harg4 arg5 harg5 arg6 harg6 arg7 harg7 arg8 harg8 arg9 harg9 arg10 harg10 arg11 harg11 arg12 harg12 v1 (harg5.unread x4) (harg6.unread x5) (harg7.unread x6) X12 k acc
    = k0_pay8 v1 acc (R10 arg5 harg5 arg6 harg6 arg7 harg7 arg12 x4 x5 x6 X12 k) (R11 arg5 harg5 arg6 harg6 arg7 harg7 arg12 x4 x5 x6 X12 k) := by
  unfold tripR_k0_t2 trip_k0_t2
  rfl
theorem st_l (k : Fin k0_t2_loop.trips) (acc : FVec Ideal S1x672 .f32) : tripL_k0_t2 (F := Ideal) 𝒱 c bd i arg1 harg1 arg2 harg2 arg3 harg3 arg4 harg4 arg5 harg5 arg6 harg6 arg7 harg7 arg8 harg8 arg9 harg9 arg10 harg10 arg11 harg11 arg12 harg12 v1 (harg5.unread x4) (harg6.unread x5) (harg7.unread x6) X12 k acc
    = [⟨Rect.unit (s := S1x24x32x672) (k0_off9 k) S1x1x32x672.size (k0_off9_inb k), k0_pay7 v1 (R10 arg5 harg5 arg6 harg6 arg7 harg7 arg12 x4 x5 x6 X12 k) (R11 arg5 harg5 arg6 harg6 arg7 harg7 arg12 x4 x5 x6 X12 k)⟩] := by
  unfold tripL_k0_t2 trip_k0_t2
  rfl
theorem u_read (v : View sig .tc .vmem S1x24x32x672 .i8) (f : v.ty.Contents (Elt Ideal)) (a : Fin 1) (r : Fin 24) (x : Fin 32) (ch : Fin 672) :
    v.read (Elt Ideal) (v.writes (Elt Ideal) f (ST 𝒱 c bd i arg1 harg1 arg2 harg2 arg3 harg3 arg4 harg4 arg5 harg5 arg6 harg6 arg7 harg7 arg8 harg8 arg9 harg9 arg10 harg10 arg11 harg11 arg12 harg12 x4 x5 x6 v1 X12 init 24).2) (ix4 a r x ch)
      = qc (uU (arg12.view.read (Elt Ideal) X12) x4 x5 x6 v1 r x ch) := by
  refine (read_rows (N := 24) (W := 32) (C := 672) v f (fun n => (ST 𝒱 c bd i arg1 harg1 arg2 harg2 arg3 harg3 arg4 harg4 arg5 harg5 arg6 harg6 arg7 harg7 arg8 harg8 arg9 harg9 arg10 harg10 arg11 harg11 arg12 harg12 x4 x5 x6 v1 X12 init n).2) (fun k => k0_off9 k) (fun k => k0_off9_eq k)
    (fun k => k0_off9_inb k) (fun k => k0_pay7 v1 (R10 arg5 harg5 arg6 harg6 arg7 harg7 arg12 x4 x5 x6 X12 k) (R11 arg5 harg5 arg6 harg6 arg7 harg7 arg12 x4 x5 x6 X12 k))
    (fun k => (congrArg (fun p => p.2) (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 v1 (harg5.unread x4) (harg6.unread x5) (harg7.unread x6) X12 init k)).trans
      (congrArg (· ++ _) (st_l 𝒱 c bd i arg1 harg1 arg2 harg2 arg3 harg3 arg4 harg4 arg5 harg5 arg6 harg6 arg7 harg7 arg8 harg8 arg9 harg9 arg10 harg10 arg11 harg11 arg12 harg12 x4 x5 x6 v1 X12 k _))) 24 le_rfl a r x ch r.isLt).trans ?_
  refine (pay7_apply _ _ _ x ch).trans (congrArg qc ?_)
  exact R_add arg5 harg5 arg6 harg6 arg7 harg7 arg12 x4 x5 x6 v1 X12 r x ch
theorem acc_at (ch : Fin 672) : ∀ n : ℕ, n ≤ 24 → (ST 𝒱 c bd i arg1 harg1 arg2 harg2 arg3 harg3 arg4 harg4 arg5 harg5 arg6 harg6 arg7 harg7 arg8 harg8 arg9 harg9 arg10 harg10 arg11 harg11 arg12 harg12 x4 x5 x6 v1 X12 init n).1 (ix2 (n0 := 1) 0 ch)
    = (init (ix2 (n0 := 1) 0 ch) : EReal) + ∑ r ∈ Finset.range n, (if h : r < 24 then ∑ x : Fin 32, qk (uU (arg12.view.read (Elt Ideal) X12) x4 x5 x6 v1 ⟨r, h⟩ x ch) else 0)
  | 0, _ => (add_zero _).symm
  | n + 1, hn => by
    have hn' : n < 24 := hn
    rw [Finset.sum_range_succ, dif_pos hn', ← add_assoc]
    refine (congrFun ((congrArg (fun p => p.1) (st_k0_t2_succ (F := Ideal) 𝒱 c bd i arg1 harg1 arg2 harg2 arg3 harg3 arg4 harg4 arg5 harg5 arg6 harg6 arg7 harg7 arg8 harg8 arg9 harg9 arg10 harg10 arg11 harg11 arg12 harg12 v1 (harg5.unread x4) (harg6.unread x5) (harg7.unread x6) X12 init ⟨n, hn'⟩)).trans
      (st_r 𝒱 c bd i arg1 harg1 arg2 harg2 arg3 harg3 arg4 harg4 arg5 harg5 arg6 harg6 arg7 harg7 arg8 harg8 arg9 harg9 arg10 harg10 arg11 harg11 arg12 harg12 x4 x5 x6 v1 X12 ⟨n, hn'⟩ _)) _).trans ?_
    refine (pay8_apply _ _ _ _ ch).trans ?_
    refine congrArg₂ (· + ·) (acc_at ch n (by omega)) (Finset.sum_congr rfl fun x _ => congrArg qk ?_)
    exact R_add arg5 harg5 arg6 harg6 arg7 harg7 arg12 x4 x5 x6 v1 X12 ⟨n, hn'⟩ x ch
/-- The sum of a block's depthwise codes. -/
def psV (S : Vec Ideal S28x48x672 .f32) (w : Vec Ideal S25x672 .i8) (a b : Vec Ideal S1x672 .f32) (s : Elt Ideal .f32) (ch : Fin 672) : EReal :=
  ∑ r : Fin 24, ∑ x : Fin 32, qk (uU S w a b s r x ch)
theorem acc_sum (ch : Fin 672) : (ST 𝒱 c bd i arg1 harg1 arg2 harg2 arg3 harg3 arg4 harg4 arg5 harg5 arg6 harg6 arg7 harg7 arg8 harg8 arg9 harg9 arg10 harg10 arg11 harg11 arg12 harg12 x4 x5 x6 v1 X12 k0_pay5 24).1 (ix2 (n0 := 1) 0 ch)
    = psV (arg12.view.read (Elt Ideal) X12) x4 x5 x6 v1 ch := by
  unfold psV
  rw [acc_at 𝒱 c bd i arg1 harg1 arg2 harg2 arg3 harg3 arg4 harg4 arg5 harg5 arg6 harg6 arg7 harg7 arg8 harg8 arg9 harg9 arg10 harg10 arg11 harg11 arg12 harg12 x4 x5 x6 v1 X12 k0_pay5 ch 24 le_rfl, pay5_apply, zero_add, Finset.sum_range]
  exact Finset.sum_congr rfl fun r _ => dif_pos r.isLt
end Loop2

/-! ### The body, first point and later points -/
section Point
variable (xs0 : Vec Ideal S28x48x672 .f32)
theorem slA0 : kernelRun0_A.sl.r (F := Ideal) c arg8 harg8 x7 = x7 (ix1 (n0 := 2) 0) := by
  unfold kernelRun0_A.sl.r
  exact readAt_unread harg8 x7 inb_S2_S1_0 _ _ rfl (fun b => by match b with | ⟨0, _⟩ => rfl)
theorem slA1 : kernelRun0_A.sl.r_1 (F := Ideal) c arg8 harg8 x7 = x7 (ix1 (n0 := 2) 1) := by
  unfold kernelRun0_A.sl.r_1
  exact readAt_unread harg8 x7 inb_S2_S1_1 _ _ rfl (fun b => by match b with | ⟨0, _⟩ => rfl)
theorem slB0 : kernelRun0_B.sl.r (F := Ideal) c arg8 harg8 x7 = x7 (ix1 (n0 := 2) 0) := by
  unfold kernelRun0_B.sl.r
  exact readAt_unread harg8 x7 inb_S2_S1_0 _ _ rfl (fun b => by match b with | ⟨0, _⟩ => rfl)
theorem slB1 : kernelRun0_B.sl.r_1 (F := Ideal) c arg8 harg8 x7 = x7 (ix1 (n0 := 2) 1) := by
  unfold kernelRun0_B.sl.r_1
  exact readAt_unread harg8 x7 inb_S2_S1_1 _ _ rfl (fun b => by match b with | ⟨0, _⟩ => rfl)
theorem whole_store {sig : RefSig} {κ : Kind} {sp : Space} {s : Shape} {e : EltTy} (v : View sig κ sp s e) (f : v.ty.Contents (Elt Ideal)) {off : Fin s.rank → ℕ} (hz : off = fun _ => 0)
    (inb : ∀ a, off a + s.size a ≤ s.size a) (w : s.Idx → Elt Ideal e) :
    v.read (Elt Ideal) (v.writes (Elt Ideal) f [⟨Rect.unit off s.size inb, w⟩]) = w := by
  refine (View.read_writes_eq_canon v f _ (fun y => ⟨_, List.mem_singleton_self _, ?_⟩)).trans (View.canon_unit_zero hz inb w)
  subst hz
  exact (Rect.unit (s := s) (fun _ => 0) s.size inb).mem_set.mpr fun a => ⟨y a, (y a).isLt, by show (y a).val = 0 + 1 * (y a).val; omega⟩
theorem zero_store (v : View sig .tc .vmem S28x48x672 .f32) (f : v.ty.Contents (Elt Ideal)) (r : Fin 28) (y : Fin 48) (ch : Fin 672) :
    v.read (Elt Ideal) (v.writes (Elt Ideal) f kernelRun0_A.sl.HS0_1) (ix3 r y ch) = (0 : EReal) := by
  unfold kernelRun0_A.sl.HS0_1
  exact (congrFun (whole_store v f zero3 _ _) _).trans (pay1_apply r y ch)
theorem AX : arg12.view.read (Elt Ideal) (arg12.view.writes (Elt Ideal) arg12.view.junk ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) 24).2 ++ kernelRun0_A.sl.HS0_1)) = (pE x0 x1 x2 x3 (x7 (ix1 (n0 := 2) 0))) := by
  rw [← slA0 c arg8 harg8 x7]
  exact s_read Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) arg12.view arg12.view.junk kernelRun0_A.sl.HS0_1 (fun r y ch _ => zero_store _ _ r y ch)
theorem A9 (h) (a : Fin 1) (r : Fin 24) (x : Fin 32) (ch : Fin 672) : out0_A_9 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 (ix4 a r x ch) = qc (uU (pE x0 x1 x2 x3 (x7 (ix1 (n0 := 2) 0))) x4 x5 x6 (x7 (ix1 (n0 := 2) 1)) r x ch) := by
  rw [← AX c i arg1 harg1 arg2 harg2 arg3 harg3 arg4 harg4 arg5 harg5 arg6 harg6 arg7 harg7 arg8 harg8 arg9 harg9 arg10 harg10 arg11 harg11 arg12 harg12 x0 x1 x2 x3 x7, ← slA1 c arg8 harg8 x7]
  unfold out0_A_9 kernelRun0_A
  dsimp only
  exact u_read Variants.none c none i arg1 harg1 arg2 harg2 arg3 harg3 arg4 harg4 arg5 harg5 arg6 harg6 arg7 harg7 arg8 harg8 arg9 harg9 arg10 harg10 arg11 harg11 arg12 harg12 x4 x5 x6 (kernelRun0_A.sl.r_1 (F := Ideal) c arg8 harg8 x7) (arg12.view.writes (Elt Ideal) arg12.view.junk ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) 24).2 ++ kernelRun0_A.sl.HS0_1)) k0_pay5 VO0_9 VO0_9.junk a r x ch
theorem A10 (h) (ch : Fin 672) : out0_A_10 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 (ix3 (n0 := 1) (n1 := 1) 0 0 ch) = psV (pE x0 x1 x2 x3 (x7 (ix1 (n0 := 2) 0))) x4 x5 x6 (x7 (ix1 (n0 := 2) 1)) ch := by
  rw [← AX c i arg1 harg1 arg2 harg2 arg3 harg3 arg4 harg4 arg5 harg5 arg6 harg6 arg7 harg7 arg8 harg8 arg9 harg9 arg10 harg10 arg11 harg11 arg12 harg12 x0 x1 x2 x3 x7, ← slA1 c arg8 harg8 x7]
  unfold out0_A_10 kernelRun0_A
  dsimp only
  refine (congrFun (whole_store VO0_10 VO0_10.junk zero3 _ _) _).trans ?_
  refine (pay9_apply _ ch).trans ?_
  exact acc_sum Variants.none c none i arg1 harg1 arg2 harg2 arg3 harg3 arg4 harg4 arg5 harg5 arg6 harg6 arg7 harg7 arg8 harg8 arg9 harg9 arg10 harg10 arg11 harg11 arg12 harg12 x4 x5 x6 (kernelRun0_A.sl.r_1 (F := Ideal) c arg8 harg8 x7) (arg12.view.writes (Elt Ideal) arg12.view.junk ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) 24).2 ++ kernelRun0_A.sl.HS0_1)) ch
theorem AS (h) : sout0_A_0 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 = (pE x0 x1 x2 x3 (x7 (ix1 (n0 := 2) 0))) := by
  unfold sout0_A_0 kernelRun0_A
  dsimp only
  rw [← slA0 c arg8 harg8 x7]
  exact s_read Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) VS0_0 VS0_0.junk kernelRun0_A.sl.HS0_1 (fun r y ch _ => zero_store _ _ r y ch)
theorem A8 (h) (a : Fin 1) (r : Fin 24) (x : Fin 32) (ch : Fin 672) : out0_A_8 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 (ix4 a r x ch) = qc (eE x0 x1 x2 x3 (x7 (ix1 (n0 := 2) 0)) r x ch) := by
  unfold out0_A_8 kernelRun0_A
  dsimp only
  rw [← slA0 c arg8 harg8 x7]
  exact e_read Variants.none c none i arg1 harg1 arg2 harg2 arg3 harg3 arg4 harg4 arg5 harg5 arg6 harg6 arg7 harg7 arg8 harg8 arg9 harg9 arg10 harg10 arg11 harg11 arg12 harg12 x0 x1 x2 x3 (kernelRun0_A.sl.r (F := Ideal) c arg8 harg8 x7) VO0_8 VO0_8.junk a r x ch
theorem BX (hb : ∀ (r : Fin 28) (y : Fin 48) (ch : Fin 672), ¬ (2 ≤ r.val ∧ r.val < 26 ∧ 8 ≤ y.val ∧ y.val < 40) → xs0 (ix3 r y ch) = (0 : EReal)) : arg12.view.read (Elt Ideal) (arg12.view.writes (Elt Ideal) (harg12.unread xs0) ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_B.sl.r (F := Ideal) c arg8 harg8 x7) 24).2)) = (pE x0 x1 x2 x3 (x7 (ix1 (n0 := 2) 0))) := by
  rw [← slB0 c arg8 harg8 x7]
  exact (congrArg (fun L => arg12.view.read (Elt Ideal) (arg12.view.writes (Elt Ideal) (harg12.unread xs0) L)) (List.append_nil _).symm).trans (s_read Variants.none c none i arg1 harg1 arg2 harg2 arg3 harg3 arg4 harg4 arg5 harg5 arg6 harg6 arg7 harg7 arg8 harg8 arg9 harg9 arg10 harg10 arg11 harg11 arg12 harg12 x0 x1 x2 x3 (kernelRun0_B.sl.r (F := Ideal) c arg8 harg8 x7) arg12.view (harg12.unread xs0) [] (fun r y ch hh => (congrFun (harg12.read_unread xs0) _).trans (hb r y ch hh)))
theorem B9 (h) (hb : ∀ (r : Fin 28) (y : Fin 48) (ch : Fin 672), ¬ (2 ≤ r.val ∧ r.val < 26 ∧ 8 ≤ y.val ∧ y.val < 40) → xs0 (ix3 r y ch) = (0 : EReal)) (a : Fin 1) (r : Fin 24) (x : Fin 32) (ch : Fin 672) : out0_B_9 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 xs0 (ix4 a r x ch) = qc (uU (pE x0 x1 x2 x3 (x7 (ix1 (n0 := 2) 0))) x4 x5 x6 (x7 (ix1 (n0 := 2) 1)) r x ch) := by
  rw [← BX c i arg1 harg1 arg2 harg2 arg3 harg3 arg4 harg4 arg5 harg5 arg6 harg6 arg7 harg7 arg8 harg8 arg9 harg9 arg10 harg10 arg11 harg11 arg12 harg12 x0 x1 x2 x3 x7 xs0 hb, ← slB1 c arg8 harg8 x7]
  unfold out0_B_9 kernelRun0_B
  dsimp only
  exact u_read Variants.none c none i arg1 harg1 arg2 harg2 arg3 harg3 arg4 harg4 arg5 harg5 arg6 harg6 arg7 harg7 arg8 harg8 arg9 harg9 arg10 harg10 arg11 harg11 arg12 harg12 x4 x5 x6 (kernelRun0_B.sl.r_1 (F := Ideal) c arg8 harg8 x7) (arg12.view.writes (Elt Ideal) (harg12.unread xs0) ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_B.sl.r (F := Ideal) c arg8 harg8 x7) 24).2)) k0_pay5 VO0_9 VO0_9.junk a r x ch
theorem B10 (h) (hb : ∀ (r : Fin 28) (y : Fin 48) (ch : Fin 672), ¬ (2 ≤ r.val ∧ r.val < 26 ∧ 8 ≤ y.val ∧ y.val < 40) → xs0 (ix3 r y ch) = (0 : EReal)) (ch : Fin 672) : out0_B_10 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 xs0 (ix3 (n0 := 1) (n1 := 1) 0 0 ch) = psV (pE x0 x1 x2 x3 (x7 (ix1 (n0 := 2) 0))) x4 x5 x6 (x7 (ix1 (n0 := 2) 1)) ch := by
  rw [← BX c i arg1 harg1 arg2 harg2 arg3 harg3 arg4 harg4 arg5 harg5 arg6 harg6 arg7 harg7 arg8 harg8 arg9 harg9 arg10 harg10 arg11 harg11 arg12 harg12 x0 x1 x2 x3 x7 xs0 hb, ← slB1 c arg8 harg8 x7]
  unfold out0_B_10 kernelRun0_B
  dsimp only
  refine (congrFun (whole_store VO0_10 VO0_10.junk zero3 _ _) _).trans ?_
  refine (pay9_apply _ ch).trans ?_
  exact acc_sum Variants.none c none i arg1 harg1 arg2 harg2 arg3 harg3 arg4 harg4 arg5 harg5 arg6 harg6 arg7 harg7 arg8 harg8 arg9 harg9 arg10 harg10 arg11 harg11 arg12 harg12 x4 x5 x6 (kernelRun0_B.sl.r_1 (F := Ideal) c arg8 harg8 x7) (arg12.view.writes (Elt Ideal) (harg12.unread xs0) ((PU Variants.none c none i arg1 harg1 arg2 harg2 arg3 harg3 arg4 harg4 arg5 harg5 arg6 harg6 arg7 harg7 arg8 harg8 arg9 harg9 arg10 harg10 arg11 harg11 arg12 harg12 x0 x1 x2 x3 (kernelRun0_B.sl.r (F := Ideal) c arg8 harg8 x7) 24).2)) ch
theorem BS (h) (hb : ∀ (r : Fin 28) (y : Fin 48) (ch : Fin 672), ¬ (2 ≤ r.val ∧ r.val < 26 ∧ 8 ≤ y.val ∧ y.val < 40) → xs0 (ix3 r y ch) = (0 : EReal)) : sout0_B_0 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 xs0 = (pE x0 x1 x2 x3 (x7 (ix1 (n0 := 2) 0))) := by
  unfold sout0_B_0 kernelRun0_B
  dsimp only

  exact BX c i arg1 harg1 arg2 harg2 arg3 harg3 arg4 harg4 arg5 harg5 arg6 harg6 arg7 harg7 arg8 harg8 arg9 harg9 arg10 harg10 arg11 harg11 arg12 harg12 x0 x1 x2 x3 x7 xs0 hb
theorem B8 (h) (a : Fin 1) (r : Fin 24) (x : Fin 32) (ch : Fin 672) : out0_B_8 (F := Ideal) c i arg1 harg1 arg2 harg2 arg3 harg3 arg4 harg4 arg5 harg5 arg6 harg6 arg7 harg7 arg8 harg8 arg9 harg9 arg10 harg10 arg11 harg11 arg12 harg12 h x0 x1 x2 x3 x4 x5 x6 x7 xs0 (ix4 a r x ch) = qc (eE x0 x1 x2 x3 (x7 (ix1 (n0 := 2) 0)) r x ch) := by
  unfold out0_B_8 kernelRun0_B
  dsimp only
  rw [← slB0 c arg8 harg8 x7]
  exact e_read Variants.none c none i arg1 harg1 arg2 harg2 arg3 harg3 arg4 harg4 arg5 harg5 arg6 harg6 arg7 harg7 arg8 harg8 arg9 harg9 arg10 harg10 arg11 harg11 arg12 harg12 x0 x1 x2 x3 (kernelRun0_B.sl.r (F := Ideal) c arg8 harg8 x7) VO0_8 VO0_8.junk a r x ch
end Point
end Values

/-! ### The arrays the call leaves -/
section Arrays
variable (V : (c : Dev nD) → (b : Ref sig .tc) → Buf (Elt Ideal) ((c : Thread nD τ).loc b)) (c : Dev nD)
/-- Block `n` of the activation. -/
def blkOf (A : Vec Ideal S64x24x32x112 .i8) (n : Fin 64) : Vec Ideal S1x24x32x112 .i8 := fun j => A (ix4 n (j 1) (j 2) (j 3))
theorem idx0 : ∀ t : Fin cfg0.N, win0_0.index t = ![t.val, 0, 0, 0] := (by decide +kernel : ∀ t : Fin grid0.N, win0_0.index t = ![t.val, 0, 0, 0])
theorem blk0 (t : Fin 64) : iblk (F := Ideal) V c 0 t = blkOf (V c main_arg0) t := by
  have hi := idx0 t
  refine funext fun (j : S1x24x32x112.Idx) => ?_
  unfold iblk
  rw [View.read_apply]
  show V c main_arg0 _ = V c main_arg0 _
  exact congrArg (V c main_arg0) (funext fun a => Fin.ext (by
    match a with
    | ⟨0, _⟩ => show win0_0.index t 0 * 1 + 1 * (j 0).val = t.val; rw [hi]; show t.val * 1 + 1 * (j 0).val = t.val; have := (j 0).isLt; have h1 : (j 0).val < 1 := this; omega
    | ⟨1, _⟩ => show win0_0.index t 1 * 24 + 1 * (j 1).val = (j 1).val; rw [hi]; show 0 * 24 + 1 * (j 1).val = (j 1).val; omega
    | ⟨2, _⟩ => show win0_0.index t 2 * 32 + 1 * (j 2).val = (j 2).val; rw [hi]; show 0 * 32 + 1 * (j 2).val = (j 2).val; omega
    | ⟨3, _⟩ => show win0_0.index t 3 * 112 + 1 * (j 3).val = (j 3).val; rw [hi]; show 0 * 112 + 1 * (j 3).val = (j 3).val; omega))
theorem idx1 : ∀ t : Fin cfg0.N, win0_1.index t = ![0, 0] := (by decide +kernel : ∀ t : Fin grid0.N, win0_1.index t = ![0, 0])
theorem blk1 (t : Fin 64) : iblk (F := Ideal) V c 1 t = V c main_arg2 := by
  have hi := idx1 t
  refine funext fun (j : S112x672.Idx) => ?_
  unfold iblk
  rw [View.read_apply]
  show V c main_arg2 _ = V c main_arg2 _
  exact congrArg (V c main_arg2) (funext fun a => Fin.ext (by
    match a with
    | ⟨0, _⟩ => show win0_1.index t 0 * 112 + 1 * (j 0).val = (j 0).val; rw [hi]; show 0 * 112 + 1 * (j 0).val = (j 0).val; omega
    | ⟨1, _⟩ => show win0_1.index t 1 * 672 + 1 * (j 1).val = (j 1).val; rw [hi]; show 0 * 672 + 1 * (j 1).val = (j 1).val; omega))
theorem idx2 : ∀ t : Fin cfg0.N, win0_2.index t = ![0, 0] := (by decide +kernel : ∀ t : Fin grid0.N, win0_2.index t = ![0, 0])
theorem blk2 (t : Fin 64) : iblk (F := Ideal) V c 2 t = V c main_v2 := by
  have hi := idx2 t
  refine funext fun (j : S1x672.Idx) => ?_
  unfold iblk
  rw [View.read_apply]
  show V c main_v2 _ = V c main_v2 _
  exact congrArg (V c main_v2) (funext fun a => Fin.ext (by
    match a with
    | ⟨0, _⟩ => show win0_2.index t 0 * 1 + 1 * (j 0).val = (j 0).val; rw [hi]; show 0 * 1 + 1 * (j 0).val = (j 0).val; omega
    | ⟨1, _⟩ => show win0_2.index t 1 * 672 + 1 * (j 1).val = (j 1).val; rw [hi]; show 0 * 672 + 1 * (j 1).val = (j 1).val; omega))
theorem idx3 : ∀ t : Fin cfg0.N, win0_3.index t = ![0, 0] := (by decide +kernel : ∀ t : Fin grid0.N, win0_3.index t = ![0, 0])
theorem blk3 (t : Fin 64) : iblk (F := Ideal) V c 3 t = V c main_v3 := by
  have hi := idx3 t
  refine funext fun (j : S1x672.Idx) => ?_
  unfold iblk
  rw [View.read_apply]
  show V c main_v3 _ = V c main_v3 _
  exact congrArg (V c main_v3) (funext fun a => Fin.ext (by
    match a with
    | ⟨0, _⟩ => show win0_3.index t 0 * 1 + 1 * (j 0).val = (j 0).val; rw [hi]; show 0 * 1 + 1 * (j 0).val = (j 0).val; omega
    | ⟨1, _⟩ => show win0_3.index t 1 * 672 + 1 * (j 1).val = (j 1).val; rw [hi]; show 0 * 672 + 1 * (j 1).val = (j 1).val; omega))
theorem idx4 : ∀ t : Fin cfg0.N, win0_4.index t = ![0, 0] := (by decide +kernel : ∀ t : Fin grid0.N, win0_4.index t = ![0, 0])
theorem blk4 (t : Fin 64) : iblk (F := Ideal) V c 4 t = V c main_arg6 := by
  have hi := idx4 t
  refine funext fun (j : S25x672.Idx) => ?_
  unfold iblk
  rw [View.read_apply]
  show V c main_arg6 _ = V c main_arg6 _
  exact congrArg (V c main_arg6) (funext fun a => Fin.ext (by
    match a with
    | ⟨0, _⟩ => show win0_4.index t 0 * 25 + 1 * (j 0).val = (j 0).val; rw [hi]; show 0 * 25 + 1 * (j 0).val = (j 0).val; omega
    | ⟨1, _⟩ => show win0_4.index t 1 * 672 + 1 * (j 1).val = (j 1).val; rw [hi]; show 0 * 672 + 1 * (j 1).val = (j 1).val; omega))
theorem idx5 : ∀ t : Fin cfg0.N, win0_5.index t = ![0, 0] := (by decide +kernel : ∀ t : Fin grid0.N, win0_5.index t = ![0, 0])
theorem blk5 (t : Fin 64) : iblk (F := Ideal) V c 5 t = V c main_v6 := by
  have hi := idx5 t
  refine funext fun (j : S1x672.Idx) => ?_
  unfold iblk
  rw [View.read_apply]
  show V c main_v6 _ = V c main_v6 _
  exact congrArg (V c main_v6) (funext fun a => Fin.ext (by
    match a with
    | ⟨0, _⟩ => show win0_5.index t 0 * 1 + 1 * (j 0).val = (j 0).val; rw [hi]; show 0 * 1 + 1 * (j 0).val = (j 0).val; omega
    | ⟨1, _⟩ => show win0_5.index t 1 * 672 + 1 * (j 1).val = (j 1).val; rw [hi]; show 0 * 672 + 1 * (j 1).val = (j 1).val; omega))
theorem idx6 : ∀ t : Fin cfg0.N, win0_6.index t = ![0, 0] := (by decide +kernel : ∀ t : Fin grid0.N, win0_6.index t = ![0, 0])
theorem blk6 (t : Fin 64) : iblk (F := Ideal) V c 6 t = V c main_v7 := by
  have hi := idx6 t
  refine funext fun (j : S1x672.Idx) => ?_
  unfold iblk
  rw [View.read_apply]
  show V c main_v7 _ = V c main_v7 _
  exact congrArg (V c main_v7) (funext fun a => Fin.ext (by
    match a with
    | ⟨0, _⟩ => show win0_6.index t 0 * 1 + 1 * (j 0).val = (j 0).val; rw [hi]; show 0 * 1 + 1 * (j 0).val = (j 0).val; omega
    | ⟨1, _⟩ => show win0_6.index t 1 * 672 + 1 * (j 1).val = (j 1).val; rw [hi]; show 0 * 672 + 1 * (j 1).val = (j 1).val; omega))
theorem idx7 : ∀ t : Fin cfg0.N, win0_7.index t = ![0] := (by decide +kernel : ∀ t : Fin grid0.N, win0_7.index t = ![0])
theorem blk7 (t : Fin 64) : iblk (F := Ideal) V c 7 t = V c main_v12 := by
  have hi := idx7 t
  refine funext fun (j : S2.Idx) => ?_
  unfold iblk
  rw [View.read_apply]
  show V c main_v12 _ = V c main_v12 _
  exact congrArg (V c main_v12) (funext fun a => Fin.ext (by
    match a with
    | ⟨0, _⟩ => show win0_7.index t 0 * 2 + 1 * (j 0).val = (j 0).val; rw [hi]; show 0 * 2 + 1 * (j 0).val = (j 0).val; omega))
theorem idx8 : ∀ t : Fin cfg0.N, win0_8.index t = ![t.val, 0, 0, 0] := (by decide +kernel : ∀ t : Fin grid0.N, win0_8.index t = ![t.val, 0, 0, 0])
theorem flush8 : ∀ t : Fin cfg0.N, (cfg0.win 8).flush t = true := (by decide +kernel : ∀ t : Fin grid0.N, (cfg0.win 8).flush t = true)
theorem disj8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (by
    have h0 := congrFun h (0 : Fin 4)
    have e1 := congrFun (idx8 t) (0 : Fin 4); have e2 := congrFun (idx8 t') (0 : Fin 4)
    exact e1.symm.trans (h0.trans e2)))
theorem arr8 (n : Fin 64) (r : Fin 24) (x : Fin 32) (ch : Fin 672) :
    (dat0 V c).arrAt 8 cfg0.N (ix4 (n : Fin 64) (r : Fin 24) (x : Fin 32) (ch : Fin 672)) = (outsAt0 V c n.val n.isLt).1 (ix4 (n0 := 1) 0 (r : Fin 24) (x : Fin 32) (ch : Fin 672)) := by
  have hi := idx8 n
  have he : ((cfg0.win 8).blk n).view.emb (ix4 (n0 := 1) 0 (r : Fin 24) (x : Fin 32) (ch : Fin 672)) = (ix4 (n : Fin 64) (r : Fin 24) (x : Fin 32) (ch : Fin 672)) := funext fun a => Fin.ext (by
    match a with
    | ⟨0, _⟩ => show win0_8.index n 0 * 1 + 1 * 0 = n.val; rw [hi]; show n.val * 1 + 1 * 0 = n.val; omega
    | ⟨1, _⟩ => show win0_8.index n 1 * 24 + 1 * r.val = r.val; rw [hi]; show 0 * 24 + 1 * r.val = r.val; omega
    | ⟨2, _⟩ => show win0_8.index n 2 * 32 + 1 * x.val = x.val; rw [hi]; show 0 * 32 + 1 * x.val = x.val; omega
    | ⟨3, _⟩ => show win0_8.index n 3 * 672 + 1 * ch.val = ch.val; rw [hi]; show 0 * 672 + 1 * ch.val = ch.val; omega)
  have h := (dat0 V c).arrAt_emb_eq_flushed 8 disj8 n (flush8 n) (ix4 (n0 := 1) 0 (r : Fin 24) (x : Fin 32) (ch : Fin 672))
  rw [he] at h
  refine h.trans ?_
  exact congrFun (after0_8 (F := Ideal) V c n) _
theorem idx9 : ∀ t : Fin cfg0.N, win0_9.index t = ![t.val, 0, 0, 0] := (by decide +kernel : ∀ t : Fin grid0.N, win0_9.index t = ![t.val, 0, 0, 0])
theorem flush9 : ∀ t : Fin cfg0.N, (cfg0.win 9).flush t = true := (by decide +kernel : ∀ t : Fin grid0.N, (cfg0.win 9).flush t = true)
theorem disj9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (by
    have h0 := congrFun h (0 : Fin 4)
    have e1 := congrFun (idx9 t) (0 : Fin 4); have e2 := congrFun (idx9 t') (0 : Fin 4)
    exact e1.symm.trans (h0.trans e2)))
theorem arr9 (n : Fin 64) (r : Fin 24) (x : Fin 32) (ch : Fin 672) :
    (dat0 V c).arrAt 9 cfg0.N (ix4 (n : Fin 64) (r : Fin 24) (x : Fin 32) (ch : Fin 672)) = (outsAt0 V c n.val n.isLt).2.1 (ix4 (n0 := 1) 0 (r : Fin 24) (x : Fin 32) (ch : Fin 672)) := by
  have hi := idx9 n
  have he : ((cfg0.win 9).blk n).view.emb (ix4 (n0 := 1) 0 (r : Fin 24) (x : Fin 32) (ch : Fin 672)) = (ix4 (n : Fin 64) (r : Fin 24) (x : Fin 32) (ch : Fin 672)) := funext fun a => Fin.ext (by
    match a with
    | ⟨0, _⟩ => show win0_9.index n 0 * 1 + 1 * 0 = n.val; rw [hi]; show n.val * 1 + 1 * 0 = n.val; omega
    | ⟨1, _⟩ => show win0_9.index n 1 * 24 + 1 * r.val = r.val; rw [hi]; show 0 * 24 + 1 * r.val = r.val; omega
    | ⟨2, _⟩ => show win0_9.index n 2 * 32 + 1 * x.val = x.val; rw [hi]; show 0 * 32 + 1 * x.val = x.val; omega
    | ⟨3, _⟩ => show win0_9.index n 3 * 672 + 1 * ch.val = ch.val; rw [hi]; show 0 * 672 + 1 * ch.val = ch.val; omega)
  have h := (dat0 V c).arrAt_emb_eq_flushed 9 disj9 n (flush9 n) (ix4 (n0 := 1) 0 (r : Fin 24) (x : Fin 32) (ch : Fin 672))
  rw [he] at h
  refine h.trans ?_
  exact congrFun (after0_9 (F := Ideal) V c n) _
theorem idx10 : ∀ t : Fin cfg0.N, win0_10.index t = ![t.val, 0, 0] := (by decide +kernel : ∀ t : Fin grid0.N, win0_10.index t = ![t.val, 0, 0])
theorem flush10 : ∀ t : Fin cfg0.N, (cfg0.win 10).flush t = true := (by decide +kernel : ∀ t : Fin grid0.N, (cfg0.win 10).flush t = true)
theorem disj10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (Fin.ext (by
    have h0 := congrFun h (0 : Fin 3)
    have e1 := congrFun (idx10 t) (0 : Fin 3); have e2 := congrFun (idx10 t') (0 : Fin 3)
    exact e1.symm.trans (h0.trans e2)))
theorem arr10 (n : Fin 64) (x1 : Fin 1) (ch : Fin 672) :
    (dat0 V c).arrAt 10 cfg0.N (ix3 (n : Fin 64) (x1 : Fin 1) (ch : Fin 672)) = (outsAt0 V c n.val n.isLt).2.2.1 (ix3 (n0 := 1) 0 (x1 : Fin 1) (ch : Fin 672)) := by
  have hi := idx10 n
  have he : ((cfg0.win 10).blk n).view.emb (ix3 (n0 := 1) 0 (x1 : Fin 1) (ch : Fin 672)) = (ix3 (n : Fin 64) (x1 : Fin 1) (ch : Fin 672)) := funext fun a => Fin.ext (by
    match a with
    | ⟨0, _⟩ => show win0_10.index n 0 * 1 + 1 * 0 = n.val; rw [hi]; show n.val * 1 + 1 * 0 = n.val; omega
    | ⟨1, _⟩ => show win0_10.index n 1 * 1 + 1 * x1.val = x1.val; rw [hi]; show 0 * 1 + 1 * x1.val = x1.val; omega
    | ⟨2, _⟩ => show win0_10.index n 2 * 672 + 1 * ch.val = ch.val; rw [hi]; show 0 * 672 + 1 * ch.val = ch.val; omega)
  have h := (dat0 V c).arrAt_emb_eq_flushed 10 disj10 n (flush10 n) (ix3 (n0 := 1) 0 (x1 : Fin 1) (ch : Fin 672))
  rw [he] at h
  refine h.trans ?_
  exact congrFun (after0_10 (F := Ideal) V c n) _
theorem border (x0 x1 x2 x3 v) (r : Fin 28) (y : Fin 48) (ch : Fin 672) (h : ¬ (2 ≤ r.val ∧ r.val < 26 ∧ 8 ≤ y.val ∧ y.val < 40)) : pE x0 x1 x2 x3 v (ix3 r y ch) = (0 : EReal) := by
  unfold pE padded
  exact dif_neg h
theorem scr : ∀ (n : ℕ) (t : Fin cfg0.N), t.val = n → (outsAt0 V c t.val t.isLt).2.2.2 = pE (iblk V c 0 t) (iblk V c 1 t) (iblk V c 2 t) (iblk V c 3 t) ((iblk V c 7 t : Vec Ideal S2 .f32) (ix1 (n0 := 2) 0)) := by
  intro n
  induction n with
  | zero =>
    intro t ht
    have h0 : t.val % 64 = 0 := by rw [ht]
    rw [outsAt0_A V c t h0]
    exact AS _ _ _ _ _ _ _ _ _ _ _ _ _ _ _ _ _ _ _ _ _ _ _ _ _ _ _ _ _ _ _ _ _ _ _
  | succ n ih =>
    intro t ht
    have h0 : ¬ t.val % 64 = 0 := by have := t.isLt; have h64 : t.val < 64 := this; omega
    rw [outsAt0_B V c t h0]
    dsimp only
    have hp := ih ⟨t.val - 1, Nat.lt_of_le_of_lt (Nat.sub_le _ _) t.isLt⟩ (by show t.val - 1 = n; omega)
    have hb : ∀ (r : Fin 28) (y : Fin 48) (ch : Fin 672), ¬ (2 ≤ r.val ∧ r.val < 26 ∧ 8 ≤ y.val ∧ y.val < 40) →
        (outsAt0 V c (t.val - 1) (Nat.lt_of_le_of_lt (Nat.sub_le _ _) t.isLt)).2.2.2 (ix3 r y ch) = (0 : EReal) :=
      fun r y ch hh => (congrFun hp _).trans (border _ _ _ _ _ r y ch hh)
    exact BS _ _ _ _ _ _ _ _ _ _ _ _ _ _ _ _ _ _ _ _ _ _ _ _ _ _ _ _ _ _ _ _ _ _ _ _ hb
theorem hprev (t : Fin cfg0.N) (r : Fin 28) (y : Fin 48) (ch : Fin 672) (h : ¬ (2 ≤ r.val ∧ r.val < 26 ∧ 8 ≤ y.val ∧ y.val < 40)) :
    (outsAt0 V c (t.val - 1) (Nat.lt_of_le_of_lt (Nat.sub_le _ _) t.isLt)).2.2.2 (ix3 r y ch) = (0 : EReal) :=
  (congrFun (scr V c _ ⟨t.val - 1, Nat.lt_of_le_of_lt (Nat.sub_le _ _) t.isLt⟩ rfl) _).trans (border _ _ _ _ _ r y ch h)
/-- The codes `e` the call leaves. -/
theorem e_end (n : Fin 64) (r : Fin 24) (x : Fin 32) (ch : Fin 672) : (dat0 V c).arrAt 8 cfg0.N (ix4 n r x ch)
    = qc (eE (blkOf (V c main_arg0) n) (V c main_arg2) (V c main_v2) (V c main_v3) ((V c main_v12 : Vec Ideal S2 .f32) (ix1 (n0 := 2) 0)) r x ch) := by
  refine (arr8 V c n r x ch).trans ?_
  rw [← blk0 V c n, ← blk1 V c n, ← blk2 V c n, ← blk3 V c n, ← blk7 V c n]
  by_cases h0 : n.val % 64 = 0
  · rw [outsAt0_A V c n h0]
    dsimp only
    exact A8 _ _ _ _ _ _ _ _ _ _ _ _ _ _ _ _ _ _ _ _ _ _ _ _ _ _ _ _ _ _ _ _ _ _ _ 0 r x ch
  · rw [outsAt0_B V c n h0]
    dsimp only
    exact B8 _ _ _ _ _ _ _ _ _ _ _ _ _ _ _ _ _ _ _ _ _ _ _ _ _ _ _ _ _ _ _ _ _ _ _ _ 0 r x ch
/-- The codes `u` the call leaves. -/
theorem u_end (n : Fin 64) (r : Fin 24) (x : Fin 32) (ch : Fin 672) : (dat0 V c).arrAt 9 cfg0.N (ix4 n r x ch)
    = qc (uU (pE (blkOf (V c main_arg0) n) (V c main_arg2) (V c main_v2) (V c main_v3) ((V c main_v12 : Vec Ideal S2 .f32) (ix1 (n0 := 2) 0))) (V c main_arg6) (V c main_v6) (V c main_v7) ((V c main_v12 : Vec Ideal S2 .f32) (ix1 (n0 := 2) 1)) r x ch) := by
  refine (arr9 V c n r x ch).trans ?_
  rw [← blk0 V c n, ← blk1 V c n, ← blk2 V c n, ← blk3 V c n, ← blk4 V c n, ← blk5 V c n, ← blk6 V c n, ← blk7 V c n]
  by_cases h0 : n.val % 64 = 0
  · rw [outsAt0_A V c n h0]
    dsimp only
    exact A9 _ _ _ _ _ _ _ _ _ _ _ _ _ _ _ _ _ _ _ _ _ _ _ _ _ _ _ _ _ _ _ _ _ _ _ 0 r x ch
  · rw [outsAt0_B V c n h0]
    dsimp only
    exact B9 _ _ _ _ _ _ _ _ _ _ _ _ _ _ _ _ _ _ _ _ _ _ _ _ _ _ _ _ _ _ _ _ _ _ _ _ (hprev V c n) 0 r x ch
/-- The sums of the codes `u` the call leaves. -/
theorem s_end (n : Fin 64) (ch : Fin 672) : (dat0 V c).arrAt 10 cfg0.N (ix3 n (0 : Fin 1) ch)
    = psV (pE (blkOf (V c main_arg0) n) (V c main_arg2) (V c main_v2) (V c main_v3) ((V c main_v12 : Vec Ideal S2 .f32) (ix1 (n0 := 2) 0))) (V c main_arg6) (V c main_v6) (V c main_v7) ((V c main_v12 : Vec Ideal S2 .f32) (ix1 (n0 := 2) 1)) ch := by
  refine (arr10 V c n 0 ch).trans ?_
  rw [← blk0 V c n, ← blk1 V c n, ← blk2 V c n, ← blk3 V c n, ← blk4 V c n, ← blk5 V c n, ← blk6 V c n, ← blk7 V c n]
  by_cases h0 : n.val % 64 = 0
  · rw [outsAt0_A V c n h0]
    dsimp only
    exact A10 _ _ _ _ _ _ _ _ _ _ _ _ _ _ _ _ _ _ _ _ _ _ _ _ _ _ _ _ _ _ _ _ _ _ _ ch
  · rw [outsAt0_B V c n h0]
    dsimp only
    exact B10 _ _ _ _ _ _ _ _ _ _ _ _ _ _ _ _ _ _ _ _ _ _ _ _ _ _ _ _ _ _ _ _ _ _ _ _ (hprev V c n) ch
end Arrays
end Cert.KernelIdeal.V0
end
-- ==== Proof.V.R1.lean ====
/- The value of the squeeze-and-excite call (call 1). -/
module

public import proofs.«01_k».proof.Proof.Gen.Own.KernelIdeal.K1.Frame
public import proofs.«01_k».proof.Proof.V.Util
public import proofs.«01_k».proof.Proof.V.Math
public import Idealize.ShloMosaic.Lib.Pointwise

@[expose] public section

set_option maxRecDepth 16384

noncomputable section

namespace Cert.KernelIdeal.V1

open Cert.KernelIdeal Cert.KernelIdeal.Gen Idealize.ShloMosaic Idealize.ShloMosaic.TcCoe Idealize.ShloMosaic.Rounds
open Idealize.SL Idealize.SL.RA Idealize.SL.BI Idealize.SL.Sem
open Idealize.ShloMosaic.Pipeline (Dat)
open Cert.V

section Pay
/-- The pooled value over its scale. -/
def pool (s : EReal) (u p : EReal) : EReal := Ideal.div (s * u) (Scalar.ofBits (F := Ideal) .f32 0x44400000#32) * p
theorem pay4_apply (v0 v1 : Elt Ideal .f32) (v3 : Vec Ideal S64x672 .f32) (n : Fin 64) (k : Fin 672) :
    k1_pay4 (F := Ideal) v0 v1 v3 (ix2 n k) = qk (pool (v3 (ix2 n k)) v0 v1) := by
  unfold k1_pay4
  pointwise
  rfl
theorem pay5_apply (v0 v1 : Elt Ideal .f32) (v3 : Vec Ideal S64x672 .f32) (n : Fin 64) (k : Fin 672) :
    k1_pay5 (F := Ideal) v0 v1 v3 (ix2 n k) = qc (pool (v3 (ix2 n k)) v0 v1) := by
  unfold k1_pay5
  pointwise
  rw [pay4_apply]
  rfl
/-- The squeezed value before its swish. -/
def sqz (v0 v1 : EReal) (v3 : Vec Ideal S64x672 .f32) (w : Vec Ideal S672x28 .i8) (a b : Vec Ideal S1x28 .f32) (n : Fin 64) (j : Fin 28) : EReal :=
  (∑ k : Fin 672, qk (pool (v3 (ix2 n k)) v0 v1) * (((w (ix2 k j)).toInt : ℝ) : EReal)) * a (ix2 (n0 := 1) 0 j) + b (ix2 (n0 := 1) 0 j)
theorem pay16_apply (v0 v1 v2 : Elt Ideal .f32) (v3 : Vec Ideal S64x672 .f32) (w : Vec Ideal S672x28 .i8) (a b : Vec Ideal S1x28 .f32) (n : Fin 64) (j : Fin 28) :
    k1_pay1 (F := Ideal) (Scalar.ofBits .f32 0x42FE0000#32) (k1_pay6 (F := Ideal) v0 v1 v2 v3 w a b) (ix2 n j) = qk (sw (sqz v0 v1 v3 w a b n j) * v2) := by
  unfold k1_pay1 k1_pay6
  pointwise
  simp only [pay4_apply]
  rfl
theorem pay26_apply (v0 v1 v2 : Elt Ideal .f32) (v3 : Vec Ideal S64x672 .f32) (w : Vec Ideal S672x28 .i8) (a b : Vec Ideal S1x28 .f32) (n : Fin 64) (j : Fin 28) :
    k1_pay2 (F := Ideal) (Scalar.ofBits .f32 0x42FE0000#32) (k1_pay6 (F := Ideal) v0 v1 v2 v3 w a b) (ix2 n j) = qc (sw (sqz v0 v1 v3 w a b n j) * v2) := by
  exact (congrArg (FloatOps.fptosi (F := Ideal) (φ := .f32) 8) (pay16_apply v0 v1 v2 v3 w a b n j)).trans rfl
theorem pay3_apply (q : Elt Ideal .f32) (v : FVec Ideal S64x28 .f32)
    (w2 : Vec Ideal S28x672 .i8) (a2 b2 : Vec Ideal S1x672 .f32) (n : Fin 64) (k : Fin 672) :
    k1_pay3 (F := Ideal) q v w2 a2 b2 (ix2 n k)
      = Ideal.logistic ((∑ j : Fin 28, (k1_pay1 (F := Ideal) q v (ix2 n j) : EReal) * (((w2 (ix2 j k)).toInt : ℝ) : EReal)) * a2 (ix2 (n0 := 1) 0 k) + b2 (ix2 (n0 := 1) 0 k)) := by
  unfold k1_pay3
  pointwise
  rfl
theorem pay36_apply (v0 v1 v2 : Elt Ideal .f32) (v3 : Vec Ideal S64x672 .f32) (w : Vec Ideal S672x28 .i8) (a b : Vec Ideal S1x28 .f32)
    (w2 : Vec Ideal S28x672 .i8) (a2 b2 : Vec Ideal S1x672 .f32) (n : Fin 64) (k : Fin 672) :
    k1_pay3 (F := Ideal) (Scalar.ofBits .f32 0x42FE0000#32) (k1_pay6 (F := Ideal) v0 v1 v2 v3 w a b) w2 a2 b2 (ix2 n k)
      = Ideal.logistic ((∑ j : Fin 28, qk (sw (sqz v0 v1 v3 w a b n j) * v2) * (((w2 (ix2 j k)).toInt : ℝ) : EReal)) * a2 (ix2 (n0 := 1) 0 k) + b2 (ix2 (n0 := 1) 0 k)) := by
  refine (pay3_apply _ _ w2 a2 b2 n k).trans ?_
  refine congrArg (fun z => Ideal.logistic (z * _ + _)) (Finset.sum_congr rfl fun j _ => ?_)
  rw [pay16_apply]
end Pay

section Out
variable (𝒱 : Variants) (c : Dev nD) (arg0 : Memref sig .tc .vmem S64x672 .f32) (harg0 : arg0.IsWhole) (arg1 : Memref sig .tc .vmem S672x28 .i8) (harg1 : arg1.IsWhole) (arg2 : Memref sig .tc .vmem S1x28 .f32) (harg2 : arg2.IsWhole) (arg3 : Memref sig .tc .vmem S1x28 .f32) (harg3 : arg3.IsWhole) (arg4 : Memref sig .tc .vmem S28x672 .i8) (harg4 : arg4.IsWhole) (arg5 : Memref sig .tc .vmem S1x672 .f32) (harg5 : arg5.IsWhole) (arg6 : Memref sig .tc .vmem S1x672 .f32) (harg6 : arg6.IsWhole) (arg7 : Memref sig .tc .smem S3 .f32) (harg7 : arg7.IsWhole) (arg8 : Memref sig .tc .vmem S64x672 .i8) (harg8 : arg8.IsWhole) (arg9 : Memref sig .tc .vmem S64x28 .i8) (harg9 : arg9.IsWhole) (arg10 : Memref sig .tc .vmem S64x672 .f32) (harg10 : arg10.IsWhole)
  (x0 : Vec Ideal S64x672 .f32) (x1 : Vec Ideal S672x28 .i8) (x2 : Vec Ideal S1x28 .f32) (x3 : Vec Ideal S1x28 .f32) (x4 : Vec Ideal S28x672 .i8) (x5 : Vec Ideal S1x672 .f32) (x6 : Vec Ideal S1x672 .f32) (x7 : Vec Ideal S3 .f32)
theorem sl0 : Own.K1.kernelRun1_A.sl.r (F := Ideal) c arg7 harg7 x7 = x7 (ix1 (n0 := 3) 0) := by
  unfold Own.K1.kernelRun1_A.sl.r
  exact readAt_unread harg7 x7 inb_S3_S1_0 _ _ rfl (fun b => by match b with | ⟨0, _⟩ => rfl)
theorem sl1 : Own.K1.kernelRun1_A.sl.r_1 (F := Ideal) c arg7 harg7 x7 = x7 (ix1 (n0 := 3) 1) := by
  unfold Own.K1.kernelRun1_A.sl.r_1
  exact readAt_unread harg7 x7 inb_S3_S1_1 _ _ rfl (fun b => by match b with | ⟨0, _⟩ => rfl)
theorem sl2 : Own.K1.kernelRun1_A.sl.r_2 (F := Ideal) c arg7 harg7 x7 = x7 (ix1 (n0 := 3) 2) := by
  unfold Own.K1.kernelRun1_A.sl.r_2
  exact readAt_unread harg7 x7 inb_S3_S1_2 _ _ rfl (fun b => by match b with | ⟨0, _⟩ => rfl)
theorem sl3 : Own.K1.kernelRun1_A.sl.r_3 (F := Ideal) c arg0 harg0 arg1 harg1 arg2 harg2 arg3 harg3 arg7 harg7 x0 x1 x2 x3 x7
    = k1_pay6 (F := Ideal) (x7 (ix1 (n0 := 3) 0)) (x7 (ix1 (n0 := 3) 1)) (x7 (ix1 (n0 := 3) 2)) x0 x1 x2 x3 := by
  unfold Own.K1.kernelRun1_A.sl.r_3
  rw [sl0, sl1, sl2, readAt_whole harg0 x0 _ zero2, readAt_whole harg1 x1 _ zero2, readAt_whole harg2 x2 _ zero2, readAt_whole harg3 x3 _ zero2]
theorem out_p : Own.K1.out1_A_8 (F := Ideal) (Ix := Unit) (U := UR sig nD τ) (Lvl := ℕ) 𝒱 c arg0 harg0 arg1 harg1 arg2 harg2 arg3 harg3 arg4 harg4 arg5 harg5 arg6 harg6 arg7 harg7 arg8 harg8 arg9 harg9 arg10 harg10 x0 x1 x2 x3 x4 x5 x6 x7 = k1_pay5 (F := Ideal) (x7 (ix1 (n0 := 3) 0)) (x7 (ix1 (n0 := 3) 1)) x0 := by
  unfold Own.K1.out1_A_8
  rw [View.read_writes_eq_canon _ _ _ (Own.K1.cover1_A_8 𝒱 c arg0 harg0 arg1 harg1 arg2 harg2 arg3 harg3 arg4 harg4 arg5 harg5 arg6 harg6 arg7 harg7 arg8 harg8 arg9 harg9 arg10 harg10 x0 x1 x2 x3 x4 x5 x6 x7)]
  unfold Own.K1.kernelRun1_A
  dsimp only
  rw [View.canon_unit_zero zero2]
  rw [sl0, sl1, readAt_whole harg0 x0 _ zero2]
theorem out_h : Own.K1.out1_A_9 (F := Ideal) (Ix := Unit) (U := UR sig nD τ) (Lvl := ℕ) 𝒱 c arg0 harg0 arg1 harg1 arg2 harg2 arg3 harg3 arg4 harg4 arg5 harg5 arg6 harg6 arg7 harg7 arg8 harg8 arg9 harg9 arg10 harg10 x0 x1 x2 x3 x4 x5 x6 x7 = k1_pay2 (F := Ideal) (Scalar.ofBits .f32 0x42FE0000#32) (k1_pay6 (F := Ideal) (x7 (ix1 (n0 := 3) 0)) (x7 (ix1 (n0 := 3) 1)) (x7 (ix1 (n0 := 3) 2)) x0 x1 x2 x3) := by
  unfold Own.K1.out1_A_9
  rw [View.read_writes_eq_canon _ _ _ (Own.K1.cover1_A_9 𝒱 c arg0 harg0 arg1 harg1 arg2 harg2 arg3 harg3 arg4 harg4 arg5 harg5 arg6 harg6 arg7 harg7 arg8 harg8 arg9 harg9 arg10 harg10 x0 x1 x2 x3 x4 x5 x6 x7)]
  unfold Own.K1.kernelRun1_A
  dsimp only
  rw [View.canon_unit_zero zero2]
  rw [sl3]
  rfl
theorem out_g : Own.K1.out1_A_10 (F := Ideal) (Ix := Unit) (U := UR sig nD τ) (Lvl := ℕ) 𝒱 c arg0 harg0 arg1 harg1 arg2 harg2 arg3 harg3 arg4 harg4 arg5 harg5 arg6 harg6 arg7 harg7 arg8 harg8 arg9 harg9 arg10 harg10 x0 x1 x2 x3 x4 x5 x6 x7 = k1_pay3 (F := Ideal) (Scalar.ofBits .f32 0x42FE0000#32) (k1_pay6 (F := Ideal) (x7 (ix1 (n0 := 3) 0)) (x7 (ix1 (n0 := 3) 1)) (x7 (ix1 (n0 := 3) 2)) x0 x1 x2 x3) x4 x5 x6 := by
  unfold Own.K1.out1_A_10
  rw [View.read_writes_eq_canon _ _ _ (Own.K1.cover1_A_10 𝒱 c arg0 harg0 arg1 harg1 arg2 harg2 arg3 harg3 arg4 harg4 arg5 harg5 arg6 harg6 arg7 harg7 arg8 harg8 arg9 harg9 arg10 harg10 x0 x1 x2 x3 x4 x5 x6 x7)]
  unfold Own.K1.kernelRun1_A
  dsimp only
  rw [View.canon_unit_zero zero2]
  rw [sl3, readAt_whole harg4 x4 _ zero2, readAt_whole harg5 x5 _ zero2, readAt_whole harg6 x6 _ zero2]
  rfl
end Out

/-! ## The arrays the call leaves -/
section Arr
variable (V : (c : Dev nD) → (b : Ref sig .tc) → Buf (Elt Ideal) ((c : Thread nD τ).loc b)) (c : Dev nD)
local notation "D1" => (Own.K1.dat (F := Ideal) (Ix := Unit) (U := UR sig nD τ) (Lvl := ℕ) Variants.none V (fun _ => 0) c)

theorem flush8 : ∀ t : Fin cfg1.N, (cfg1.win 8).flush t = true := (by decide +kernel : ∀ t : Fin grid1.N, (cfg1.win 8).flush t = true)
theorem arr8 (n : Fin 64) (k : Fin 672) :
    (D1).arrAt 8 cfg1.N (ix2 n k) = (Own.K1.outsAt1 (F := Ideal) (Ix := Unit) (U := UR sig nD τ) (Lvl := ℕ) Variants.none V c (0 : Fin 1)).1 (ix2 n k) := by
  have he : ((cfg1.win 8).blk (0 : Fin 1)).view.emb (ix2 n k) = (ix2 n k) := funext fun a => Fin.ext (by
    match a with
    | ⟨0, _⟩ => show 0 * 64 + 1 * n.val = n.val; omega
    | ⟨1, _⟩ => show 0 * 672 + 1 * k.val = k.val; omega)
  have h := (D1).arrAt_emb_eq_flushed 8 (fun t t' _ _ hne => absurd (Subsingleton.elim (α := Fin 1) t t') hne) (0 : Fin 1) (flush8 (0 : Fin 1)) (ix2 n k)
  rw [he] at h
  refine h.trans ?_
  exact congrFun (Own.K1.after1_8 (F := Ideal) (Ix := Unit) (U := UR sig nD τ) (Lvl := ℕ) Variants.none V (fun _ => 0) c (0 : Fin 1)) _

theorem flush9 : ∀ t : Fin cfg1.N, (cfg1.win 9).flush t = true := (by decide +kernel : ∀ t : Fin grid1.N, (cfg1.win 9).flush t = true)
theorem arr9 (n : Fin 64) (k : Fin 28) :
    (D1).arrAt 9 cfg1.N (ix2 n k) = (Own.K1.outsAt1 (F := Ideal) (Ix := Unit) (U := UR sig nD τ) (Lvl := ℕ) Variants.none V c (0 : Fin 1)).2.1 (ix2 n k) := by
  have he : ((cfg1.win 9).blk (0 : Fin 1)).view.emb (ix2 n k) = (ix2 n k) := funext fun a => Fin.ext (by
    match a with
    | ⟨0, _⟩ => show 0 * 64 + 1 * n.val = n.val; omega
    | ⟨1, _⟩ => show 0 * 28 + 1 * k.val = k.val; omega)
  have h := (D1).arrAt_emb_eq_flushed 9 (fun t t' _ _ hne => absurd (Subsingleton.elim (α := Fin 1) t t') hne) (0 : Fin 1) (flush9 (0 : Fin 1)) (ix2 n k)
  rw [he] at h
  refine h.trans ?_
  exact congrFun (Own.K1.after1_9 (F := Ideal) (Ix := Unit) (U := UR sig nD τ) (Lvl := ℕ) Variants.none V (fun _ => 0) c (0 : Fin 1)) _

theorem flush10 : ∀ t : Fin cfg1.N, (cfg1.win 10).flush t = true := (by decide +kernel : ∀ t : Fin grid1.N, (cfg1.win 10).flush t = true)
theorem arr10 (n : Fin 64) (k : Fin 672) :
    (D1).arrAt 10 cfg1.N (ix2 n k) = (Own.K1.outsAt1 (F := Ideal) (Ix := Unit) (U := UR sig nD τ) (Lvl := ℕ) Variants.none V c (0 : Fin 1)).2.2 (ix2 n k) := by
  have he : ((cfg1.win 10).blk (0 : Fin 1)).view.emb (ix2 n k) = (ix2 n k) := funext fun a => Fin.ext (by
    match a with
    | ⟨0, _⟩ => show 0 * 64 + 1 * n.val = n.val; omega
    | ⟨1, _⟩ => show 0 * 672 + 1 * k.val = k.val; omega)
  have h := (D1).arrAt_emb_eq_flushed 10 (fun t t' _ _ hne => absurd (Subsingleton.elim (α := Fin 1) t t') hne) (0 : Fin 1) (flush10 (0 : Fin 1)) (ix2 n k)
  rw [he] at h
  refine h.trans ?_
  exact congrFun (Own.K1.after1_10 (F := Ideal) (Ix := Unit) (U := UR sig nD τ) (Lvl := ℕ) Variants.none V (fun _ => 0) c (0 : Fin 1)) _

theorem blk0 : Own.K1.iblk (F := Ideal) V c 0 (0 : Fin 1) = V c main_v14 := by
  funext y
  unfold Own.K1.iblk
  rw [View.read_apply]
  show V c main_v14 _ = V c main_v14 _
  exact congrArg (V c main_v14) (funext fun a => Fin.ext (by
    match a with
    | ⟨0, _⟩ => show 0 * 64 + 1 * (y 0).val = (y 0).val; omega
    | ⟨1, _⟩ => show 0 * 672 + 1 * (y 1).val = (y 1).val; omega))

theorem blk1 : Own.K1.iblk (F := Ideal) V c 1 (0 : Fin 1) = V c main_arg11 := by
  funext y
  unfold Own.K1.iblk
  rw [View.read_apply]
  show V c main_arg11 _ = V c main_arg11 _
  exact congrArg (V c main_arg11) (funext fun a => Fin.ext (by
    match a with
    | ⟨0, _⟩ => show 0 * 672 + 1 * (y 0).val = (y 0).val; omega
    | ⟨1, _⟩ => show 0 * 28 + 1 * (y 1).val = (y 1).val; omega))

theorem blk2 : Own.K1.iblk (F := Ideal) V c 2 (0 : Fin 1) = V c main_v17 := by
  funext y
  unfold Own.K1.iblk
  rw [View.read_apply]
  show V c main_v17 _ = V c main_v17 _
  exact congrArg (V c main_v17) (funext fun a => Fin.ext (by
    match a with
    | ⟨0, _⟩ => show 0 * 1 + 1 * (y 0).val = (y 0).val; omega
    | ⟨1, _⟩ => show 0 * 28 + 1 * (y 1).val = (y 1).val; omega))

theorem blk3 : Own.K1.iblk (F := Ideal) V c 3 (0 : Fin 1) = V c main_v18 := by
  funext y
  unfold Own.K1.iblk
  rw [View.read_apply]
  show V c main_v18 _ = V c main_v18 _
  exact congrArg (V c main_v18) (funext fun a => Fin.ext (by
    match a with
    | ⟨0, _⟩ => show 0 * 1 + 1 * (y 0).val = (y 0).val; omega
    | ⟨1, _⟩ => show 0 * 28 + 1 * (y 1).val = (y 1).val; omega))

theorem blk4 : Own.K1.iblk (F := Ideal) V c 4 (0 : Fin 1) = V c main_arg15 := by
  funext y
  unfold Own.K1.iblk
  rw [View.read_apply]
  show V c main_arg15 _ = V c main_arg15 _
  exact congrArg (V c main_arg15) (funext fun a => Fin.ext (by
    match a with
    | ⟨0, _⟩ => show 0 * 28 + 1 * (y 0).val = (y 0).val; omega
    | ⟨1, _⟩ => show 0 * 672 + 1 * (y 1).val = (y 1).val; omega))

theorem blk5 : Own.K1.iblk (F := Ideal) V c 5 (0 : Fin 1) = V c main_v21 := by
  funext y
  unfold Own.K1.iblk
  rw [View.read_apply]
  show V c main_v21 _ = V c main_v21 _
  exact congrArg (V c main_v21) (funext fun a => Fin.ext (by
    match a with
    | ⟨0, _⟩ => show 0 * 1 + 1 * (y 0).val = (y 0).val; omega
    | ⟨1, _⟩ => show 0 * 672 + 1 * (y 1).val = (y 1).val; omega))

theorem blk6 : Own.K1.iblk (F := Ideal) V c 6 (0 : Fin 1) = V c main_v22 := by
  funext y
  unfold Own.K1.iblk
  rw [View.read_apply]
  show V c main_v22 _ = V c main_v22 _
  exact congrArg (V c main_v22) (funext fun a => Fin.ext (by
    match a with
    | ⟨0, _⟩ => show 0 * 1 + 1 * (y 0).val = (y 0).val; omega
    | ⟨1, _⟩ => show 0 * 672 + 1 * (y 1).val = (y 1).val; omega))

theorem blk7 : Own.K1.iblk (F := Ideal) V c 7 (0 : Fin 1) = V c main_v28 := by
  funext y
  unfold Own.K1.iblk
  rw [View.read_apply]
  show V c main_v28 _ = V c main_v28 _
  exact congrArg (V c main_v28) (funext fun a => Fin.ext (by
    match a with
    | ⟨0, _⟩ => show 0 * 3 + 1 * (y 0).val = (y 0).val; omega))

/-- The squeezed value over its scale, of the arrays the call finds. -/
def hV (U : Vec Ideal S64x672 .f32) (w : Vec Ideal S672x28 .i8) (a b : Vec Ideal S1x28 .f32) (S : Vec Ideal S3 .f32) (n : Fin 64) (j : Fin 28) : EReal :=
  sw (sqz (S (ix1 (n0 := 3) 0)) (S (ix1 (n0 := 3) 1)) U w a b n j) * S (ix1 (n0 := 3) 2)
/-- The gate, of the arrays the call finds. -/
def gV (U : Vec Ideal S64x672 .f32) (w : Vec Ideal S672x28 .i8) (a b : Vec Ideal S1x28 .f32) (S : Vec Ideal S3 .f32) (w2 : Vec Ideal S28x672 .i8) (a2 b2 : Vec Ideal S1x672 .f32)
    (n : Fin 64) (k : Fin 672) : EReal :=
  Ideal.logistic ((∑ j : Fin 28, qk (hV U w a b S n j) * (((w2 (ix2 j k)).toInt : ℝ) : EReal)) * a2 (ix2 (n0 := 1) 0 k) + b2 (ix2 (n0 := 1) 0 k))
/-- The pooled value over its scale, of the arrays the call finds. -/
def poolV (U : Vec Ideal S64x672 .f32) (S : Vec Ideal S3 .f32) (n : Fin 64) (k : Fin 672) : EReal := pool (U (ix2 n k)) (S (ix1 (n0 := 3) 0)) (S (ix1 (n0 := 3) 1))
theorem p_end (n : Fin 64) (k : Fin 672) : (D1).arrAt 8 cfg1.N (ix2 n k) = qc (poolV (V c main_v14) (V c main_v28) n k) := by
  refine (arr8 V c n k).trans ?_
  unfold Own.K1.outsAt1
  dsimp only
  rw [out_p, pay5_apply, blk0, blk7]
  rfl
theorem h_end (n : Fin 64) (j : Fin 28) : (D1).arrAt 9 cfg1.N (ix2 n j) = qc (hV (V c main_v14) (V c main_arg11) (V c main_v17) (V c main_v18) (V c main_v28) n j) := by
  refine (arr9 V c n j).trans ?_
  unfold Own.K1.outsAt1
  dsimp only
  rw [out_h, pay26_apply, blk0, blk1, blk2, blk3, blk7]
  rfl
theorem g_end (n : Fin 64) (k : Fin 672) : (D1).arrAt 10 cfg1.N (ix2 n k) = gV (V c main_v14) (V c main_arg11) (V c main_v17) (V c main_v18) (V c main_v28) (V c main_arg15) (V c main_v21) (V c main_v22) n k := by
  refine (arr10 V c n k).trans ?_
  unfold Own.K1.outsAt1
  dsimp only
  rw [out_g, pay36_apply, blk0, blk1, blk2, blk3, blk4, blk5, blk6, blk7]
  rfl
end Arr
end Cert.KernelIdeal.V1
-- ==== Proof.V.R2.lean ====
/- The value of the gate-and-project call (call 2). -/
module

public import proofs.«01_k».proof.Proof.Gen.Own.KernelIdeal.K2.Frame
public import proofs.«01_k».proof.Proof.V.Util
public import proofs.«01_k».proof.Proof.V.Math
public import Idealize.ShloMosaic.Lib.Pointwise

@[expose] public section

set_option maxRecDepth 16384

noncomputable section

namespace Cert.KernelIdeal.V2

open Cert.KernelIdeal Cert.KernelIdeal.Gen Idealize.ShloMosaic Idealize.ShloMosaic.TcCoe Idealize.ShloMosaic.Rounds
open Idealize.SL Idealize.SL.RA Idealize.SL.BI Idealize.SL.Sem
open Idealize.ShloMosaic.Pipeline (Dat)
open Cert.V

section Body
variable {F : FTy → Type} [FloatOps F]
variable (𝒱 : Variants) (c : Dev nD) (bd : Option 𝒱.V) (i : grid2.Coords)
  (arg1 : Memref sig .tc .vmem S1x24x32x672 .i8) (harg1 : arg1.IsWhole) (arg2 : Memref sig .tc .vmem S1x1x672 .f32) (harg2 : arg2.IsWhole)
  (arg3 : Memref sig .tc .vmem S672x112 .i8) (harg3 : arg3.IsWhole) (arg4 : Memref sig .tc .vmem S1x112 .f32) (harg4 : arg4.IsWhole)
  (arg5 : Memref sig .tc .vmem S1x112 .f32) (harg5 : arg5.IsWhole) (arg6 : Memref sig .tc .vmem S1x24x32x112 .i8) (harg6 : arg6.IsWhole)
  (arg7 : Memref sig .tc .smem S4 .f32) (harg7 : arg7.IsWhole) (arg8 : Memref sig .tc .vmem S1x24x32x672 .i8) (harg8 : arg8.IsWhole)
  (arg9 : Memref sig .tc .vmem S1x24x32x112 .f32) (harg9 : arg9.IsWhole) (arg10 : Memref sig .tc .vmem S1x24x32x112 .i8) (harg10 : arg10.IsWhole)

section Trip
variable (v0 v1 v2 v3 : Elt F .f32) (v4 : Vec F S1x1x672 .f32) (X1 : BufTy.Contents (Elt F) arg1.view.ty)
  (X3 : BufTy.Contents (Elt F) arg3.view.ty) (X4 : BufTy.Contents (Elt F) arg4.view.ty) (X5 : BufTy.Contents (Elt F) arg5.view.ty)
  (X6 : BufTy.Contents (Elt F) arg6.view.ty) (k : Fin k2_t1_loop.trips)

/-- Row `k` of the input, and the projection of it. -/
abbrev row1 : Vec F S1x1x32x672 .i8 := arg1.view.readAt (Elt F) (Rect.unit (s := S1x24x32x672) (k2_off1 k) S1x1x32x672.size (k2_off1_inb k)).toLoadRect X1
abbrev rowy : FVec F S32x112 .f32 := k2_pay6 v2 (k2_pay1 v0 v1 v4) (row1 arg1 X1 k)
  (arg3.view.readAt (Elt F) (Rect.unit (s := S672x112) ![0, 0] S672x112.size inb_S672x112_S672x112_0_0).toLoadRect X3)
  (arg4.view.readAt (Elt F) (Rect.unit (s := S1x112) ![0, 0] S1x112.size inb_S1x112_S1x112_0_0).toLoadRect X4)
  (arg5.view.readAt (Elt F) (Rect.unit (s := S1x112) ![0, 0] S1x112.size inb_S1x112_S1x112_0_0).toLoadRect X5)
  (arg6.view.readAt (Elt F) (Rect.unit (s := S1x24x32x112) (k2_off2 k) S1x1x32x112.size (k2_off2_inb k)).toLoadRect X6)

theorem trip_v : (Own.K2.trip_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k).1
    = [⟨Rect.unit (s := S1x24x32x672) (k2_off1 k) S1x1x32x672.size (k2_off1_inb k), k2_pay5 (k2_pay1 v0 v1 v4) (row1 arg1 X1 k)⟩] := by
  unfold Own.K2.trip_k2_t1
  rfl
theorem trip_y : (Own.K2.trip_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k).2.1
    = [⟨Rect.unit (s := S1x24x32x112) (k2_off2 k) S1x1x32x112.size (k2_off2_inb k), k2_pay2 (rowy arg1 arg3 arg4 arg5 arg6 v0 v1 v2 v4 X1 X3 X4 X5 X6 k)⟩] := by
  unfold Own.K2.trip_k2_t1
  rfl
theorem trip_o : (Own.K2.trip_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k).2.2.1
    = [⟨Rect.unit (s := S1x24x32x112) (k2_off2 k) S1x1x32x112.size (k2_off2_inb k), k2_pay3 v3 (rowy arg1 arg3 arg4 arg5 arg6 v0 v1 v2 v4 X1 X3 X4 X5 X6 k)⟩] := by
  unfold Own.K2.trip_k2_t1
  rfl

theorem read_v (v : View sig .tc .vmem S1x24x32x672 .i8) (f : v.ty.Contents (Elt F)) (a : Fin 1) (r : Fin 24) (x : Fin 32) (ch : Fin 672) :
    v.read (Elt F) (v.writes (Elt F) f (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k2_t1_loop.trips).1) (ix4 a r x ch)
      = k2_pay5 (k2_pay1 v0 v1 v4) (row1 arg1 X1 r) (ix4 (n0 := 1) (n1 := 1) (n2 := 32) (n3 := 672) 0 0 x ch) :=
  read_rows (N := 24) (W := 32) (C := 672) v f (fun n => (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 n).1) (fun k => k2_off1 k) (fun k => k2_off1_eq k)
    (fun k => k2_off1_inb k) (fun k => k2_pay5 (k2_pay1 v0 v1 v4) (row1 arg1 X1 k))
    (fun k => (congrArg (fun p => p.1) (Own.K2.pb_k2_t1_succ (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k)).trans (congrArg (· ++ _) (trip_v 𝒱 c bd i arg1 harg1 arg2 harg2 arg3 harg3 arg4 harg4 arg5 harg5 arg6 harg6 arg7 harg7 arg8 harg8 arg9 harg9 arg10 harg10 v0 v1 v2 v3 v4 X1 X3 X4 X5 X6 k))) 24 le_rfl a r x ch r.isLt
theorem read_y (v : View sig .tc .vmem S1x24x32x112 .f32) (f : v.ty.Contents (Elt F)) (a : Fin 1) (r : Fin 24) (x : Fin 32) (ch : Fin 112) :
    v.read (Elt F) (v.writes (Elt F) f (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k2_t1_loop.trips).2.1) (ix4 a r x ch)
      = k2_pay2 (rowy arg1 arg3 arg4 arg5 arg6 v0 v1 v2 v4 X1 X3 X4 X5 X6 r) (ix4 (n0 := 1) (n1 := 1) (n2 := 32) (n3 := 112) 0 0 x ch) :=
  read_rows (N := 24) (W := 32) (C := 112) v f (fun n => (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 n).2.1) (fun k => k2_off2 k) (fun k => k2_off2_eq k)
    (fun k => k2_off2_inb k) (fun k => k2_pay2 (rowy arg1 arg3 arg4 arg5 arg6 v0 v1 v2 v4 X1 X3 X4 X5 X6 k))
    (fun k => (congrArg (fun p => p.2.1) (Own.K2.pb_k2_t1_succ (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k)).trans (congrArg (· ++ _) (trip_y 𝒱 c bd i arg1 harg1 arg2 harg2 arg3 harg3 arg4 harg4 arg5 harg5 arg6 harg6 arg7 harg7 arg8 harg8 arg9 harg9 arg10 harg10 v0 v1 v2 v3 v4 X1 X3 X4 X5 X6 k))) 24 le_rfl a r x ch r.isLt
theorem read_o (v : View sig .tc .vmem S1x24x32x112 .i8) (f : v.ty.Contents (Elt F)) (a : Fin 1) (r : Fin 24) (x : Fin 32) (ch : Fin 112) :
    v.read (Elt F) (v.writes (Elt F) f (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k2_t1_loop.trips).2.2) (ix4 a r x ch)
      = k2_pay3 v3 (rowy arg1 arg3 arg4 arg5 arg6 v0 v1 v2 v4 X1 X3 X4 X5 X6 r) (ix4 (n0 := 1) (n1 := 1) (n2 := 32) (n3 := 112) 0 0 x ch) :=
  read_rows (N := 24) (W := 32) (C := 112) v f (fun n => (Own.K2.pb_k2_t1 (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 n).2.2) (fun k => k2_off2 k) (fun k => k2_off2_eq k)
    (fun k => k2_off2_inb k) (fun k => k2_pay3 v3 (rowy arg1 arg3 arg4 arg5 arg6 v0 v1 v2 v4 X1 X3 X4 X5 X6 k))
    (fun k => (congrArg (fun p => p.2.2) (Own.K2.pb_k2_t1_succ (F := F) (Ix := Unit) (U := UR sig nD τ) (Lvl := ℕ) 𝒱 c bd i arg1 harg1 arg2 harg2 arg3 harg3 arg4 harg4 arg5 harg5 arg6 harg6 arg7 harg7 arg8 harg8 arg9 harg9 arg10 harg10 v0 v1 v2 v3 v4 X1 X3 X4 X5 X6 k)).trans (congrArg (· ++ _) (trip_o 𝒱 c bd i arg1 harg1 arg2 harg2 arg3 harg3 arg4 harg4 arg5 harg5 arg6 harg6 arg7 harg7 arg8 harg8 arg9 harg9 arg10 harg10 v0 v1 v2 v3 v4 X1 X3 X4 X5 X6 k))) 24 le_rfl a r x ch r.isLt
end Trip

end Body

/-! ## The stored values at an index -/
section Pay
theorem pay1_apply (v0 v1 : Elt Ideal .f32) (v4 : Vec Ideal S1x1x672 .f32) (ch : Fin 672) :
    k2_pay1 (F := Ideal) v0 v1 v4 (ix2 (n0 := 1) 0 ch) = v4 (ix3 (n0 := 1) (n1 := 1) 0 0 ch) * (v0 * v1) := by
  unfold k2_pay1
  pointwise
theorem pay4_apply (g : FVec Ideal S1x672 .f32) (u : Vec Ideal S1x1x32x672 .i8) (x : Fin 32) (ch : Fin 672) :
    k2_pay4 (F := Ideal) g u (ix2 x ch) = qk (((u (ix4 (n0 := 1) (n1 := 1) 0 0 x ch)).toInt : ℝ) * g (ix2 (n0 := 1) 0 ch)) := by
  unfold k2_pay4
  pointwise
  rfl
theorem pay5_apply (g : FVec Ideal S1x672 .f32) (u : Vec Ideal S1x1x32x672 .i8) (x : Fin 32) (ch : Fin 672) :
    k2_pay5 (F := Ideal) g u (ix4 (n0 := 1) (n1 := 1) 0 0 x ch) = qc (((u (ix4 (n0 := 1) (n1 := 1) 0 0 x ch)).toInt : ℝ) * g (ix2 (n0 := 1) 0 ch)) := by
  unfold k2_pay5
  pointwise
  rw [pay4_apply]; rfl
theorem pay6_apply (v2 : Elt Ideal .f32) (g : FVec Ideal S1x672 .f32) (u : Vec Ideal S1x1x32x672 .i8) (w : Vec Ideal S672x112 .i8)
    (a b : Vec Ideal S1x112 .f32) (z : Vec Ideal S1x1x32x112 .i8) (x : Fin 32) (o : Fin 112) :
    k2_pay6 (F := Ideal) v2 g u w a b z (ix2 x o)
      = (∑ k : Fin 672, qk (((u (ix4 (n0 := 1) (n1 := 1) 0 0 x k)).toInt : ℝ) * g (ix2 (n0 := 1) 0 k)) * (((w (ix2 k o)).toInt : ℝ) : EReal))
          * a (ix2 (n0 := 1) 0 o) + b (ix2 (n0 := 1) 0 o) + (((z (ix4 (n0 := 1) (n1 := 1) 0 0 x o)).toInt : ℝ) : EReal) * v2 := by
  unfold k2_pay6
  pointwise
  simp only [pay4_apply]
  rfl
theorem pay2_apply (y : FVec Ideal S32x112 .f32) (x : Fin 32) (o : Fin 112) :
    k2_pay2 (F := Ideal) y (ix4 (n0 := 1) (n1 := 1) 0 0 x o) = y (ix2 x o) := by
  unfold k2_pay2
  pointwise
theorem pay3_apply (v3 : Elt Ideal .f32) (y : FVec Ideal S32x112 .f32) (x : Fin 32) (o : Fin 112) :
    k2_pay3 (F := Ideal) v3 y (ix4 (n0 := 1) (n1 := 1) 0 0 x o) = qc (y (ix2 x o) * v3) := by
  unfold k2_pay3
  pointwise
  rfl
end Pay

/-! ## The blocks the body leaves -/
section Out
variable (𝒱 : Variants) (c : Dev nD) (i : grid2.Coords)
  (arg1 : Memref sig .tc .vmem S1x24x32x672 .i8) (harg1 : arg1.IsWhole) (arg2 : Memref sig .tc .vmem S1x1x672 .f32) (harg2 : arg2.IsWhole)
  (arg3 : Memref sig .tc .vmem S672x112 .i8) (harg3 : arg3.IsWhole) (arg4 : Memref sig .tc .vmem S1x112 .f32) (harg4 : arg4.IsWhole)
  (arg5 : Memref sig .tc .vmem S1x112 .f32) (harg5 : arg5.IsWhole) (arg6 : Memref sig .tc .vmem S1x24x32x112 .i8) (harg6 : arg6.IsWhole)
  (arg7 : Memref sig .tc .smem S4 .f32) (harg7 : arg7.IsWhole) (arg8 : Memref sig .tc .vmem S1x24x32x672 .i8) (harg8 : arg8.IsWhole)
  (arg9 : Memref sig .tc .vmem S1x24x32x112 .f32) (harg9 : arg9.IsWhole) (arg10 : Memref sig .tc .vmem S1x24x32x112 .i8) (harg10 : arg10.IsWhole)
variable (x0 : Vec Ideal S1x24x32x672 .i8) (x1 : Vec Ideal S1x1x672 .f32) (x2 : Vec Ideal S672x112 .i8) (x3 : Vec Ideal S1x112 .f32) (x4 : Vec Ideal S1x112 .f32) (x5 : Vec Ideal S1x24x32x112 .i8) (x6 : Vec Ideal S4 .f32)

/-- The argument of the gated quantiser at an element. -/
def gated (r : Fin 24) (x : Fin 32) (ch : Fin 672) : EReal :=
  (((x0 (ix4 (n0 := 1) 0 r x ch)).toInt : ℝ) : EReal) * (x1 (ix3 (n0 := 1) (n1 := 1) 0 0 ch) * (x6 (ix1 (n0 := 4) 0) * x6 (ix1 (n0 := 4) 1)))
/-- The projection with the residual at an element. -/
def projd (r : Fin 24) (x : Fin 32) (o : Fin 112) : EReal :=
  (∑ k : Fin 672, qk (gated x0 x1 x6 r x k) * (((x2 (ix2 k o)).toInt : ℝ) : EReal))
    * x3 (ix2 (n0 := 1) 0 o) + x4 (ix2 (n0 := 1) 0 o) + (((x5 (ix4 (n0 := 1) 0 r x o)).toInt : ℝ) : EReal) * x6 (ix1 (n0 := 4) 2)

theorem sl0 : Own.K2.kernelRun2_A.sl.r (F := Ideal) c arg7 harg7 x6 = x6 (ix1 (n0 := 4) 0) := by
  unfold Own.K2.kernelRun2_A.sl.r
  exact readAt_unread harg7 x6 inb_S4_S1_0 _ _ rfl (fun b => by match b with | ⟨0, _⟩ => rfl)
theorem sl1 : Own.K2.kernelRun2_A.sl.r_1 (F := Ideal) c arg7 harg7 x6 = x6 (ix1 (n0 := 4) 1) := by
  unfold Own.K2.kernelRun2_A.sl.r_1
  exact readAt_unread harg7 x6 inb_S4_S1_1 _ _ rfl (fun b => by match b with | ⟨0, _⟩ => rfl)
theorem sl2 : Own.K2.kernelRun2_A.sl.r_2 (F := Ideal) c arg7 harg7 x6 = x6 (ix1 (n0 := 4) 2) := by
  unfold Own.K2.kernelRun2_A.sl.r_2
  exact readAt_unread harg7 x6 inb_S4_S1_2 _ _ rfl (fun b => by match b with | ⟨0, _⟩ => rfl)
theorem sl3 : Own.K2.kernelRun2_A.sl.r_3 (F := Ideal) c arg7 harg7 x6 = x6 (ix1 (n0 := 4) 3) := by
  unfold Own.K2.kernelRun2_A.sl.r_3
  exact readAt_unread harg7 x6 inb_S4_S1_3 _ _ rfl (fun b => by match b with | ⟨0, _⟩ => rfl)
theorem row1_apply (r : Fin 24) (x : Fin 32) (ch : Fin 672) :
    row1 (F := Ideal) arg1 (harg1.unread x0) r (ix4 (n0 := 1) (n1 := 1) 0 0 x ch) = x0 (ix4 (n0 := 1) 0 r x ch) :=
  readAt_unread harg1 x0 (k2_off1_inb r) _ _ (k2_off1_eq r) (fun b => by
    match b with
    | ⟨0, _⟩ => rfl
    | ⟨1, _⟩ => rfl
    | ⟨2, _⟩ => exact (Nat.zero_add _).symm
    | ⟨3, _⟩ => exact (Nat.zero_add _).symm)
theorem row6_apply (r : Fin 24) (x : Fin 32) (ch : Fin 112) :
    arg6.view.readAt (Elt Ideal) (Rect.unit (s := S1x24x32x112) (k2_off2 r) S1x1x32x112.size (k2_off2_inb r)).toLoadRect (harg6.unread x5) (ix4 (n0 := 1) (n1 := 1) 0 0 x ch)
      = x5 (ix4 (n0 := 1) 0 r x ch) :=
  readAt_unread harg6 x5 (k2_off2_inb r) _ _ (k2_off2_eq r) (fun b => by
    match b with
    | ⟨0, _⟩ => rfl
    | ⟨1, _⟩ => rfl
    | ⟨2, _⟩ => exact (Nat.zero_add _).symm
    | ⟨3, _⟩ => exact (Nat.zero_add _).symm)
theorem g_apply (ch : Fin 672) :
    arg2.view.readAt (Elt Ideal) (Rect.unit (s := S1x1x672) ![0, 0, 0] S1x1x672.size inb_S1x1x672_S1x1x672_0_0_0).toLoadRect (harg2.unread x1) (ix3 (n0 := 1) (n1 := 1) 0 0 ch)
      = x1 (ix3 (n0 := 1) (n1 := 1) 0 0 ch) :=
  readAt_unread harg2 x1 inb_S1x1x672_S1x1x672_0_0_0 _ _ rfl (fun b => by
    match b with
    | ⟨0, _⟩ => rfl
    | ⟨1, _⟩ => rfl
    | ⟨2, _⟩ => exact (Nat.zero_add _).symm)
theorem w_apply (k : Fin 672) (o : Fin 112) :
    arg3.view.readAt (Elt Ideal) (Rect.unit (s := S672x112) ![0, 0] S672x112.size inb_S672x112_S672x112_0_0).toLoadRect (harg3.unread x2) (ix2 k o) = x2 (ix2 k o) :=
  readAt_unread harg3 x2 inb_S672x112_S672x112_0_0 _ _ rfl (fun b => by
    match b with
    | ⟨0, _⟩ => exact (Nat.zero_add _).symm
    | ⟨1, _⟩ => exact (Nat.zero_add _).symm)
theorem a_apply (o : Fin 112) :
    arg4.view.readAt (Elt Ideal) (Rect.unit (s := S1x112) ![0, 0] S1x112.size inb_S1x112_S1x112_0_0).toLoadRect (harg4.unread x3) (ix2 (n0 := 1) 0 o) = x3 (ix2 (n0 := 1) 0 o) :=
  readAt_unread harg4 x3 inb_S1x112_S1x112_0_0 _ _ rfl (fun b => by
    match b with
    | ⟨0, _⟩ => rfl
    | ⟨1, _⟩ => exact (Nat.zero_add _).symm)

theorem out_v (a : Fin 1) (r : Fin 24) (x : Fin 32) (ch : Fin 672) :
    Own.K2.out2_A_7 (F := Ideal) (Ix := Unit) (U := UR sig nD τ) (Lvl := ℕ) 𝒱 c i arg1 harg1 arg2 harg2 arg3 harg3 arg4 harg4 arg5 harg5 arg6 harg6 arg7 harg7 arg8 harg8 arg9 harg9 arg10 harg10 x0 x1 x2 x3 x4 x5 x6 (ix4 a r x ch) = qc (gated x0 x1 x6 r x ch) := by
  unfold Own.K2.out2_A_7 Own.K2.kernelRun2_A
  dsimp only
  refine (read_v 𝒱 c none i arg1 harg1 arg2 harg2 arg3 harg3 arg4 harg4 arg5 harg5 arg6 harg6 arg7 harg7 arg8 harg8 arg9 harg9 arg10 harg10 _ _ _ _ _ _ _ _ _ _ _ _ a r x ch).trans ?_
  rw [pay5_apply, pay1_apply, row1_apply, g_apply, sl0, sl1]
  rfl
theorem rowy_apply (r : Fin 24) (x : Fin 32) (ch : Fin 112) :
    rowy (F := Ideal) arg1 arg3 arg4 arg5 arg6 (Own.K2.kernelRun2_A.sl.r c arg7 harg7 x6) (Own.K2.kernelRun2_A.sl.r_1 c arg7 harg7 x6)
        (Own.K2.kernelRun2_A.sl.r_2 c arg7 harg7 x6)
        (arg2.view.readAt (Elt Ideal) (Rect.unit (s := S1x1x672) ![0, 0, 0] S1x1x672.size inb_S1x1x672_S1x1x672_0_0_0).toLoadRect (harg2.unread x1))
        (harg1.unread x0) (harg3.unread x2) (harg4.unread x3) (harg5.unread x4) (harg6.unread x5) r (ix2 x ch)
      = projd x0 x1 x2 x3 x4 x5 x6 r x ch := by
  unfold rowy
  rw [pay6_apply, a_apply, a_apply, row6_apply, sl0, sl1, sl2]
  refine congrArg (fun z => z * _ + _ + _) (Finset.sum_congr rfl fun k _ => ?_)
  rw [pay1_apply, row1_apply, g_apply, w_apply]
  rfl
theorem out_y (a : Fin 1) (r : Fin 24) (x : Fin 32) (ch : Fin 112) :
    Own.K2.out2_A_8 (F := Ideal) (Ix := Unit) (U := UR sig nD τ) (Lvl := ℕ) 𝒱 c i arg1 harg1 arg2 harg2 arg3 harg3 arg4 harg4 arg5 harg5 arg6 harg6 arg7 harg7 arg8 harg8 arg9 harg9 arg10 harg10 x0 x1 x2 x3 x4 x5 x6 (ix4 a r x ch) = projd x0 x1 x2 x3 x4 x5 x6 r x ch := by
  unfold Own.K2.out2_A_8 Own.K2.kernelRun2_A
  dsimp only
  refine (read_y 𝒱 c none i arg1 harg1 arg2 harg2 arg3 harg3 arg4 harg4 arg5 harg5 arg6 harg6 arg7 harg7 arg8 harg8 arg9 harg9 arg10 harg10 _ _ _ _ _ _ _ _ _ _ _ _ a r x ch).trans ?_
  rw [pay2_apply]
  exact rowy_apply c arg1 harg1 arg2 harg2 arg3 harg3 arg4 harg4 arg5 harg5 arg6 harg6 arg7 harg7 x0 x1 x2 x3 x4 x5 x6 r x ch
theorem out_o (a : Fin 1) (r : Fin 24) (x : Fin 32) (ch : Fin 112) :
    Own.K2.out2_A_9 (F := Ideal) (Ix := Unit) (U := UR sig nD τ) (Lvl := ℕ) 𝒱 c i arg1 harg1 arg2 harg2 arg3 harg3 arg4 harg4 arg5 harg5 arg6 harg6 arg7 harg7 arg8 harg8 arg9 harg9 arg10 harg10 x0 x1 x2 x3 x4 x5 x6 (ix4 a r x ch) = qc (projd x0 x1 x2 x3 x4 x5 x6 r x ch * x6 (ix1 (n0 := 4) 3)) := by
  unfold Own.K2.out2_A_9 Own.K2.kernelRun2_A
  dsimp only
  refine (read_o 𝒱 c none i arg1 harg1 arg2 harg2 arg3 harg3 arg4 harg4 arg5 harg5 arg6 harg6 arg7 harg7 arg8 harg8 arg9 harg9 arg10 harg10 _ _ _ _ _ _ _ _ _ _ _ _ a r x ch).trans ?_
  rw [pay3_apply, sl3]
  exact congrArg (fun z => qc (z * _)) (rowy_apply c arg1 harg1 arg2 harg2 arg3 harg3 arg4 harg4 arg5 harg5 arg6 harg6 arg7 harg7 x0 x1 x2 x3 x4 x5 x6 r x ch)
end Out

/-! ## The arrays the call leaves -/
section Arr
variable (V : (c : Dev nD) → (b : Ref sig .tc) → Buf (Elt Ideal) ((c : Thread nD τ).loc b)) (c : Dev nD)
local notation "D2" => (Own.K2.dat (F := Ideal) (Ix := Unit) (U := UR sig nD τ) (Lvl := ℕ) Variants.none V (fun _ => 0) c)

theorem idx7 : ∀ t : Fin cfg2.N, win2_7.index t = ![t.val, 0, 0, 0] := (by decide +kernel : ∀ t : Fin grid2.N, win2_7.index t = ![t.val, 0, 0, 0])
theorem flush7 : ∀ t : Fin cfg2.N, (cfg2.win 7).flush t = true := (by decide +kernel : ∀ t : Fin grid2.N, (cfg2.win 7).flush t = true)
theorem disj7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne (Fin.ext (by
    have h0 := congrFun h (0 : Fin 4)
    have e1 := congrFun (idx7 t) (0 : Fin 4); have e2 := congrFun (idx7 t') (0 : Fin 4)
    exact e1.symm.trans (h0.trans e2)))
theorem arr7 (n : Fin 64) (r : Fin 24) (x : Fin 32) (ch : Fin 672) :
    (D2).arrAt 7 cfg2.N (ix4 (n : Fin 64) (r : Fin 24) (x : Fin 32) (ch : Fin 672)) = (Own.K2.outsAt2 (F := Ideal) (Ix := Unit) (U := UR sig nD τ) (Lvl := ℕ) Variants.none V c n).1 (ix4 (n0 := 1) 0 (r : Fin 24) (x : Fin 32) (ch : Fin 672)) := by
  have hi := idx7 n
  have he : ((cfg2.win 7).blk n).view.emb (ix4 (n0 := 1) 0 (r : Fin 24) (x : Fin 32) (ch : Fin 672)) = (ix4 (n : Fin 64) (r : Fin 24) (x : Fin 32) (ch : Fin 672)) := funext fun a => Fin.ext (by
    match a with
    | ⟨0, _⟩ => show win2_7.index n 0 * 1 + 1 * 0 = n.val; rw [hi]; show n.val * 1 + 1 * 0 = n.val; omega
    | ⟨1, _⟩ => show win2_7.index n 1 * 24 + 1 * r.val = r.val; rw [hi]; show 0 * 24 + 1 * r.val = r.val; omega
    | ⟨2, _⟩ => show win2_7.index n 2 * 32 + 1 * x.val = x.val; rw [hi]; show 0 * 32 + 1 * x.val = x.val; omega
    | ⟨3, _⟩ => show win2_7.index n 3 * 672 + 1 * ch.val = ch.val; rw [hi]; show 0 * 672 + 1 * ch.val = ch.val; omega)
  have h := (D2).arrAt_emb_eq_flushed 7 disj7 n (flush7 n) (ix4 (n0 := 1) 0 (r : Fin 24) (x : Fin 32) (ch : Fin 672))
  rw [he] at h
  refine h.trans ?_
  exact congrFun (Own.K2.after2_7 (F := Ideal) (Ix := Unit) (U := UR sig nD τ) (Lvl := ℕ) Variants.none V (fun _ => 0) c n) _

theorem idx8 : ∀ t : Fin cfg2.N, win2_8.index t = ![t.val, 0, 0, 0] := (by decide +kernel : ∀ t : Fin grid2.N, win2_8.index t = ![t.val, 0, 0, 0])
theorem flush8 : ∀ t : Fin cfg2.N, (cfg2.win 8).flush t = true := (by decide +kernel : ∀ t : Fin grid2.N, (cfg2.win 8).flush t = true)
theorem disj8 : ∀ t t' : Fin cfg2.N, (cfg2.win 8).flush t = true → (cfg2.win 8).flush t' = true → t ≠ t' →
    Disjoint ((cfg2.win 8).blk t).view.set ((cfg2.win 8).blk t').view.set :=
  fun t t' _ _ hne => (cfg2.win 8).disjoint_blk fun h => hne (Fin.ext (by
    have h0 := congrFun h (0 : Fin 4)
    have e1 := congrFun (idx8 t) (0 : Fin 4); have e2 := congrFun (idx8 t') (0 : Fin 4)
    exact e1.symm.trans (h0.trans e2)))
theorem arr8 (n : Fin 64) (r : Fin 24) (x : Fin 32) (ch : Fin 112) :
    (D2).arrAt 8 cfg2.N (ix4 (n : Fin 64) (r : Fin 24) (x : Fin 32) (ch : Fin 112)) = (Own.K2.outsAt2 (F := Ideal) (Ix := Unit) (U := UR sig nD τ) (Lvl := ℕ) Variants.none V c n).2.1 (ix4 (n0 := 1) 0 (r : Fin 24) (x : Fin 32) (ch : Fin 112)) := by
  have hi := idx8 n
  have he : ((cfg2.win 8).blk n).view.emb (ix4 (n0 := 1) 0 (r : Fin 24) (x : Fin 32) (ch : Fin 112)) = (ix4 (n : Fin 64) (r : Fin 24) (x : Fin 32) (ch : Fin 112)) := funext fun a => Fin.ext (by
    match a with
    | ⟨0, _⟩ => show win2_8.index n 0 * 1 + 1 * 0 = n.val; rw [hi]; show n.val * 1 + 1 * 0 = n.val; omega
    | ⟨1, _⟩ => show win2_8.index n 1 * 24 + 1 * r.val = r.val; rw [hi]; show 0 * 24 + 1 * r.val = r.val; omega
    | ⟨2, _⟩ => show win2_8.index n 2 * 32 + 1 * x.val = x.val; rw [hi]; show 0 * 32 + 1 * x.val = x.val; omega
    | ⟨3, _⟩ => show win2_8.index n 3 * 112 + 1 * ch.val = ch.val; rw [hi]; show 0 * 112 + 1 * ch.val = ch.val; omega)
  have h := (D2).arrAt_emb_eq_flushed 8 disj8 n (flush8 n) (ix4 (n0 := 1) 0 (r : Fin 24) (x : Fin 32) (ch : Fin 112))
  rw [he] at h
  refine h.trans ?_
  exact congrFun (Own.K2.after2_8 (F := Ideal) (Ix := Unit) (U := UR sig nD τ) (Lvl := ℕ) Variants.none V (fun _ => 0) c n) _

theorem idx9 : ∀ t : Fin cfg2.N, win2_9.index t = ![t.val, 0, 0, 0] := (by decide +kernel : ∀ t : Fin grid2.N, win2_9.index t = ![t.val, 0, 0, 0])
theorem flush9 : ∀ t : Fin cfg2.N, (cfg2.win 9).flush t = true := (by decide +kernel : ∀ t : Fin grid2.N, (cfg2.win 9).flush t = true)
theorem disj9 : ∀ t t' : Fin cfg2.N, (cfg2.win 9).flush t = true → (cfg2.win 9).flush t' = true → t ≠ t' →
    Disjoint ((cfg2.win 9).blk t).view.set ((cfg2.win 9).blk t').view.set :=
  fun t t' _ _ hne => (cfg2.win 9).disjoint_blk fun h => hne (Fin.ext (by
    have h0 := congrFun h (0 : Fin 4)
    have e1 := congrFun (idx9 t) (0 : Fin 4); have e2 := congrFun (idx9 t') (0 : Fin 4)
    exact e1.symm.trans (h0.trans e2)))
theorem arr9 (n : Fin 64) (r : Fin 24) (x : Fin 32) (ch : Fin 112) :
    (D2).arrAt 9 cfg2.N (ix4 (n : Fin 64) (r : Fin 24) (x : Fin 32) (ch : Fin 112)) = (Own.K2.outsAt2 (F := Ideal) (Ix := Unit) (U := UR sig nD τ) (Lvl := ℕ) Variants.none V c n).2.2 (ix4 (n0 := 1) 0 (r : Fin 24) (x : Fin 32) (ch : Fin 112)) := by
  have hi := idx9 n
  have he : ((cfg2.win 9).blk n).view.emb (ix4 (n0 := 1) 0 (r : Fin 24) (x : Fin 32) (ch : Fin 112)) = (ix4 (n : Fin 64) (r : Fin 24) (x : Fin 32) (ch : Fin 112)) := funext fun a => Fin.ext (by
    match a with
    | ⟨0, _⟩ => show win2_9.index n 0 * 1 + 1 * 0 = n.val; rw [hi]; show n.val * 1 + 1 * 0 = n.val; omega
    | ⟨1, _⟩ => show win2_9.index n 1 * 24 + 1 * r.val = r.val; rw [hi]; show 0 * 24 + 1 * r.val = r.val; omega
    | ⟨2, _⟩ => show win2_9.index n 2 * 32 + 1 * x.val = x.val; rw [hi]; show 0 * 32 + 1 * x.val = x.val; omega
    | ⟨3, _⟩ => show win2_9.index n 3 * 112 + 1 * ch.val = ch.val; rw [hi]; show 0 * 112 + 1 * ch.val = ch.val; omega)
  have h := (D2).arrAt_emb_eq_flushed 9 disj9 n (flush9 n) (ix4 (n0 := 1) 0 (r : Fin 24) (x : Fin 32) (ch : Fin 112))
  rw [he] at h
  refine h.trans ?_
  exact congrFun (Own.K2.after2_9 (F := Ideal) (Ix := Unit) (U := UR sig nD τ) (Lvl := ℕ) Variants.none V (fun _ => 0) c n) _

theorem idx0 : ∀ t : Fin cfg2.N, win2_0.index t = ![t.val, 0, 0, 0] := (by decide +kernel : ∀ t : Fin grid2.N, win2_0.index t = ![t.val, 0, 0, 0])
theorem blk0 (n : Fin 64) (r : Fin 24) (x : Fin 32) (ch : Fin 672) : Own.K2.iblk (F := Ideal) V c 0 n (ix4 (n0 := 1) 0 (r : Fin 24) (x : Fin 32) (ch : Fin 672)) = V c main_v13_1 (ix4 (n : Fin 64) (r : Fin 24) (x : Fin 32) (ch : Fin 672)) := by
  have hi := idx0 n
  unfold Own.K2.iblk
  rw [View.read_apply]
  show V c main_v13_1 _ = V c main_v13_1 _
  exact congrArg (V c main_v13_1) (funext fun a => Fin.ext (by
    match a with
    | ⟨0, _⟩ => show win2_0.index n 0 * 1 + 1 * 0 = n.val; rw [hi]; show n.val * 1 + 1 * 0 = n.val; omega
    | ⟨1, _⟩ => show win2_0.index n 1 * 24 + 1 * r.val = r.val; rw [hi]; show 0 * 24 + 1 * r.val = r.val; omega
    | ⟨2, _⟩ => show win2_0.index n 2 * 32 + 1 * x.val = x.val; rw [hi]; show 0 * 32 + 1 * x.val = x.val; omega
    | ⟨3, _⟩ => show win2_0.index n 3 * 672 + 1 * ch.val = ch.val; rw [hi]; show 0 * 672 + 1 * ch.val = ch.val; omega))

theorem idx1 : ∀ t : Fin cfg2.N, win2_1.index t = ![t.val, 0, 0] := (by decide +kernel : ∀ t : Fin grid2.N, win2_1.index t = ![t.val, 0, 0])
theorem blk1 (n : Fin 64) (x1 : Fin 1) (ch : Fin 672) : Own.K2.iblk (F := Ideal) V c 1 n (ix3 (n0 := 1) 0 (x1 : Fin 1) (ch : Fin 672)) = V c main_v30 (ix3 (n : Fin 64) (x1 : Fin 1) (ch : Fin 672)) := by
  have hi := idx1 n
  unfold Own.K2.iblk
  rw [View.read_apply]
  show V c main_v30 _ = V c main_v30 _
  exact congrArg (V c main_v30) (funext fun a => Fin.ext (by
    match a with
    | ⟨0, _⟩ => show win2_1.index n 0 * 1 + 1 * 0 = n.val; rw [hi]; show n.val * 1 + 1 * 0 = n.val; omega
    | ⟨1, _⟩ => show win2_1.index n 1 * 1 + 1 * x1.val = x1.val; rw [hi]; show 0 * 1 + 1 * x1.val = x1.val; omega
    | ⟨2, _⟩ => show win2_1.index n 2 * 672 + 1 * ch.val = ch.val; rw [hi]; show 0 * 672 + 1 * ch.val = ch.val; omega))

theorem idx2 : ∀ t : Fin cfg2.N, win2_2.index t = ![0, 0] := (by decide +kernel : ∀ t : Fin grid2.N, win2_2.index t = ![0, 0])
theorem blk2 (t : Fin 64) (k : Fin 672) (o : Fin 112) : Own.K2.iblk (F := Ideal) V c 2 t (ix2 (k : Fin 672) (o : Fin 112)) = V c main_arg19 (ix2 (k : Fin 672) (o : Fin 112)) := by
  have hi := idx2 t
  unfold Own.K2.iblk
  rw [View.read_apply]
  show V c main_arg19 _ = V c main_arg19 _
  exact congrArg (V c main_arg19) (funext fun a => Fin.ext (by
    match a with
    | ⟨0, _⟩ => show win2_2.index t 0 * 672 + 1 * k.val = k.val; rw [hi]; show 0 * 672 + 1 * k.val = k.val; omega
    | ⟨1, _⟩ => show win2_2.index t 1 * 112 + 1 * o.val = o.val; rw [hi]; show 0 * 112 + 1 * o.val = o.val; omega))

theorem idx3 : ∀ t : Fin cfg2.N, win2_3.index t = ![0, 0] := (by decide +kernel : ∀ t : Fin grid2.N, win2_3.index t = ![0, 0])
theorem blk3 (t : Fin 64) (k : Fin 1) (o : Fin 112) : Own.K2.iblk (F := Ideal) V c 3 t (ix2 (k : Fin 1) (o : Fin 112)) = V c main_v33 (ix2 (k : Fin 1) (o : Fin 112)) := by
  have hi := idx3 t
  unfold Own.K2.iblk
  rw [View.read_apply]
  show V c main_v33 _ = V c main_v33 _
  exact congrArg (V c main_v33) (funext fun a => Fin.ext (by
    match a with
    | ⟨0, _⟩ => show win2_3.index t 0 * 1 + 1 * k.val = k.val; rw [hi]; show 0 * 1 + 1 * k.val = k.val; omega
    | ⟨1, _⟩ => show win2_3.index t 1 * 112 + 1 * o.val = o.val; rw [hi]; show 0 * 112 + 1 * o.val = o.val; omega))

theorem idx4 : ∀ t : Fin cfg2.N, win2_4.index t = ![0, 0] := (by decide +kernel : ∀ t : Fin grid2.N, win2_4.index t = ![0, 0])
theorem blk4 (t : Fin 64) (k : Fin 1) (o : Fin 112) : Own.K2.iblk (F := Ideal) V c 4 t (ix2 (k : Fin 1) (o : Fin 112)) = V c main_v34 (ix2 (k : Fin 1) (o : Fin 112)) := by
  have hi := idx4 t
  unfold Own.K2.iblk
  rw [View.read_apply]
  show V c main_v34 _ = V c main_v34 _
  exact congrArg (V c main_v34) (funext fun a => Fin.ext (by
    match a with
    | ⟨0, _⟩ => show win2_4.index t 0 * 1 + 1 * k.val = k.val; rw [hi]; show 0 * 1 + 1 * k.val = k.val; omega
    | ⟨1, _⟩ => show win2_4.index t 1 * 112 + 1 * o.val = o.val; rw [hi]; show 0 * 112 + 1 * o.val = o.val; omega))

theorem idx5 : ∀ t : Fin cfg2.N, win2_5.index t = ![t.val, 0, 0, 0] := (by decide +kernel : ∀ t : Fin grid2.N, win2_5.index t = ![t.val, 0, 0, 0])
theorem blk5 (n : Fin 64) (r : Fin 24) (x : Fin 32) (ch : Fin 112) : Own.K2.iblk (F := Ideal) V c 5 n (ix4 (n0 := 1) 0 (r : Fin 24) (x : Fin 32) (ch : Fin 112)) = V c main_arg0 (ix4 (n : Fin 64) (r : Fin 24) (x : Fin 32) (ch : Fin 112)) := by
  have hi := idx5 n
  unfold Own.K2.iblk
  rw [View.read_apply]
  show V c main_arg0 _ = V c main_arg0 _
  exact congrArg (V c main_arg0) (funext fun a => Fin.ext (by
    match a with
    | ⟨0, _⟩ => show win2_5.index n 0 * 1 + 1 * 0 = n.val; rw [hi]; show n.val * 1 + 1 * 0 = n.val; omega
    | ⟨1, _⟩ => show win2_5.index n 1 * 24 + 1 * r.val = r.val; rw [hi]; show 0 * 24 + 1 * r.val = r.val; omega
    | ⟨2, _⟩ => show win2_5.index n 2 * 32 + 1 * x.val = x.val; rw [hi]; show 0 * 32 + 1 * x.val = x.val; omega
    | ⟨3, _⟩ => show win2_5.index n 3 * 112 + 1 * ch.val = ch.val; rw [hi]; show 0 * 112 + 1 * ch.val = ch.val; omega))

theorem idx6 : ∀ t : Fin cfg2.N, win2_6.index t = ![0] := (by decide +kernel : ∀ t : Fin grid2.N, win2_6.index t = ![0])
theorem blk6 (t : Fin 64) (k : Fin 4) : Own.K2.iblk (F := Ideal) V c 6 t (ix1 (k : Fin 4)) = V c main_v41 (ix1 (k : Fin 4)) := by
  have hi := idx6 t
  unfold Own.K2.iblk
  rw [View.read_apply]
  show V c main_v41 _ = V c main_v41 _
  exact congrArg (V c main_v41) (funext fun a => Fin.ext (by
    match a with
    | ⟨0, _⟩ => show win2_6.index t 0 * 4 + 1 * k.val = k.val; rw [hi]; show 0 * 4 + 1 * k.val = k.val; omega))

/-- The gated value over its scale, of the arrays the call finds. -/
def gatedV (E : Vec Ideal S64x24x32x672 .i8) (G : Vec Ideal S64x1x672 .f32) (S : Vec Ideal S4 .f32) (n : Fin 64) (r : Fin 24) (x : Fin 32) (ch : Fin 672) : EReal :=
  (((E (ix4 n r x ch)).toInt : ℝ) : EReal) * (G (ix3 (n1 := 1) n 0 ch) * (S (ix1 (n0 := 4) 0) * S (ix1 (n0 := 4) 1)))
/-- The projection with the residual, of the arrays the call finds. -/
def projV (E : Vec Ideal S64x24x32x672 .i8) (G : Vec Ideal S64x1x672 .f32) (w : Vec Ideal S672x112 .i8) (a b : Vec Ideal S1x112 .f32) (X : Vec Ideal S64x24x32x112 .i8) (S : Vec Ideal S4 .f32)
    (n : Fin 64) (r : Fin 24) (x : Fin 32) (o : Fin 112) : EReal :=
  (∑ k : Fin 672, qk (gatedV E G S n r x k) * (((w (ix2 k o)).toInt : ℝ) : EReal))
    * a (ix2 (n0 := 1) 0 o) + b (ix2 (n0 := 1) 0 o) + (((X (ix4 n r x o)).toInt : ℝ) : EReal) * S (ix1 (n0 := 4) 2)
theorem gated_blk (n : Fin 64) (r : Fin 24) (x : Fin 32) (ch : Fin 672) :
    gated (Own.K2.iblk (F := Ideal) V c 0 n) (Own.K2.iblk (F := Ideal) V c 1 n) (Own.K2.iblk (F := Ideal) V c 6 n) r x ch = gatedV (V c main_v13_1) (V c main_v30) (V c main_v41) n r x ch := by
  unfold gated gatedV
  rw [blk0 V c n r x ch, blk1 V c n 0 ch, blk6 V c n 0, blk6 V c n 1]
theorem projd_blk (n : Fin 64) (r : Fin 24) (x : Fin 32) (o : Fin 112) :
    projd (Own.K2.iblk (F := Ideal) V c 0 n) (Own.K2.iblk (F := Ideal) V c 1 n) (Own.K2.iblk (F := Ideal) V c 2 n) (Own.K2.iblk (F := Ideal) V c 3 n) (Own.K2.iblk (F := Ideal) V c 4 n) (Own.K2.iblk (F := Ideal) V c 5 n) (Own.K2.iblk (F := Ideal) V c 6 n) r x o = projV (V c main_v13_1) (V c main_v30) (V c main_arg19) (V c main_v33) (V c main_v34) (V c main_arg0) (V c main_v41) n r x o := by
  unfold projd projV
  rw [blk3 V c n 0 o, blk4 V c n 0 o, blk5 V c n r x o, blk6 V c n 2]
  refine congrArg (fun z => z * _ + _ + _) (Finset.sum_congr rfl fun k _ => ?_)
  rw [gated_blk, blk2 V c n k o]
/-- The codes `v` the call leaves. -/
theorem v_end (n : Fin 64) (r : Fin 24) (x : Fin 32) (ch : Fin 672) :
    (D2).arrAt 7 cfg2.N (ix4 n r x ch) = qc (gatedV (V c main_v13_1) (V c main_v30) (V c main_v41) n r x ch) := by
  refine (arr7 V c n r x ch).trans ?_
  unfold Own.K2.outsAt2
  refine (out_v _ _ _ _ _ _ _ _ _ _ _ _ _ _ _ _ _ _ _ _ _ _ _ _ _ _ _ _ _ _ _ _ _ _).trans ?_
  rw [← gated_blk]
/-- The projection `y` the call leaves. -/
theorem y_end (n : Fin 64) (r : Fin 24) (x : Fin 32) (o : Fin 112) :
    (D2).arrAt 8 cfg2.N (ix4 n r x o) = projV (V c main_v13_1) (V c main_v30) (V c main_arg19) (V c main_v33) (V c main_v34) (V c main_arg0) (V c main_v41) n r x o := by
  refine (arr8 V c n r x o).trans ?_
  unfold Own.K2.outsAt2
  refine (out_y _ _ _ _ _ _ _ _ _ _ _ _ _ _ _ _ _ _ _ _ _ _ _ _ _ _ _ _ _ _ _ _ _ _).trans ?_
  rw [← projd_blk]
/-- The codes of the result the call leaves. -/
theorem o_end (n : Fin 64) (r : Fin 24) (x : Fin 32) (o : Fin 112) :
    (D2).arrAt 9 cfg2.N (ix4 n r x o) = qc (projV (V c main_v13_1) (V c main_v30) (V c main_arg19) (V c main_v33) (V c main_v34) (V c main_arg0) (V c main_v41) n r x o * (V c main_v41 : Vec Ideal S4 .f32) (ix1 (n0 := 4) 3)) := by
  refine (arr9 V c n r x o).trans ?_
  unfold Own.K2.outsAt2
  refine (out_o _ _ _ _ _ _ _ _ _ _ _ _ _ _ _ _ _ _ _ _ _ _ _ _ _ _ _ _ _ _ _ _ _ _).trans ?_
  rw [← projd_blk, ← blk6 V c n 3]
end Arr
end Cert.KernelIdeal.V2
end
-- ==== Proof.V.Ref.lean ====
/- The reference's values at an index, in plain mathematics. -/
module

public import proofs.«01_k».proof.Proof.Gen.ReferenceIdeal.Read
public import proofs.«01_k».proof.Proof.V.Math
public import Idealize.ShloMosaic.Lib.KernelVsHost
public import Idealize.ShloMosaic.Lib.Pointwise

@[expose] public section

set_option maxRecDepth 16384

noncomputable section

namespace Cert.ReferenceIdeal.VR

open Cert.ReferenceIdeal Cert.ReferenceIdeal.Gen Cert.ReferenceIdeal.Read Idealize.ShloMosaic Idealize.ShloMosaic.TcCoe
open Cert.V

theorem ext1 {β : Fin 1 → Type} {i j : (a : Fin 1) → β a} (h0 : i 0 = j 0) : i = j := funext fun a => match a with | ⟨0, _⟩ => h0
theorem ext2 {β : Fin 2 → Type} {i j : (a : Fin 2) → β a} (h0 : i 0 = j 0) (h1 : i 1 = j 1) : i = j := funext fun a => match a with | ⟨0, _⟩ => h0 | ⟨1, _⟩ => h1
theorem ext4 {β : Fin 4 → Type} {i j : (a : Fin 4) → β a} (h0 : i 0 = j 0) (h1 : i 1 = j 1) (h2 : i 2 = j 2) (h3 : i 3 = j 3) : i = j := funext fun a => match a with | ⟨0, _⟩ => h0 | ⟨1, _⟩ => h1 | ⟨2, _⟩ => h2 | ⟨3, _⟩ => h3
abbrev s0 : S_.Idx := fun a => a.elim0
variable (x0 : (⟨S64x24x32x112, .i8⟩ : BufTy).Contents (Elt Ideal)) (x1 : (⟨S_, .f32⟩ : BufTy).Contents (Elt Ideal)) (x2 : (⟨S112x672, .i8⟩ : BufTy).Contents (Elt Ideal)) (x3 : (⟨S672, .f32⟩ : BufTy).Contents (Elt Ideal)) (x4 : (⟨S672, .f32⟩ : BufTy).Contents (Elt Ideal)) (x5 : (⟨S_, .f32⟩ : BufTy).Contents (Elt Ideal)) (x6 : (⟨S25x672, .i8⟩ : BufTy).Contents (Elt Ideal)) (x7 : (⟨S672, .f32⟩ : BufTy).Contents (Elt Ideal)) (x8 : (⟨S672, .f32⟩ : BufTy).Contents (Elt Ideal)) (x9 : (⟨S_, .f32⟩ : BufTy).Contents (Elt Ideal)) (x10 : (⟨S_, .f32⟩ : BufTy).Contents (Elt Ideal)) (x11 : (⟨S672x28, .i8⟩ : BufTy).Contents (Elt Ideal)) (x12 : (⟨S28, .f32⟩ : BufTy).Contents (Elt Ideal)) (x13 : (⟨S28, .f32⟩ : BufTy).Contents (Elt Ideal)) (x14 : (⟨S_, .f32⟩ : BufTy).Contents (Elt Ideal)) (x15 : (⟨S28x672, .i8⟩ : BufTy).Contents (Elt Ideal)) (x16 : (⟨S672, .f32⟩ : BufTy).Contents (Elt Ideal)) (x17 : (⟨S672, .f32⟩ : BufTy).Contents (Elt Ideal)) (x18 : (⟨S_, .f32⟩ : BufTy).Contents (Elt Ideal)) (x19 : (⟨S672x112, .i8⟩ : BufTy).Contents (Elt Ideal)) (x20 : (⟨S112, .f32⟩ : BufTy).Contents (Elt Ideal)) (x21 : (⟨S112, .f32⟩ : BufTy).Contents (Elt Ideal)) (x22 : (⟨S_, .f32⟩ : BufTy).Contents (Elt Ideal))
section At
theorem v6_at (n : Fin 64) (r : Fin 24) (x : Fin 32) (ch : Fin 672) : val_main_v6 (F := Ideal) x0 x2 (ix4 (n0 := 64) (n1 := 24) (n2 := 32) (n3 := 672) n r x ch) = ∑ k : Fin 112, (val_main_v2 (F := Ideal) x0 (ix4 (n0 := 64) (n1 := 24) (n2 := 32) (n3 := 112) n r x k) : EReal) * val_main_v5 (F := Ideal) x2 (ix2 (n0 := 112) (n1 := 672) k ch) :=
  (val_main_v6_apply x0 x2 _).trans (Finset.sum_congr rfl fun k _ => congrArg₂ (fun u v : EReal => u * v) (congrArg _ (ext4 rfl rfl rfl rfl)) (congrArg _ (ext2 rfl rfl)))
theorem v7_at (ch : Fin 672) : val_main_v7 (F := Ideal) x1 (ix1 (n0 := 672) ch) = x1 s0 :=
  (val_main_v7_apply x1 _).trans (congrArg _ rfl)
theorem v9_at (ch : Fin 672) : val_main_v9 (F := Ideal) x1 x3 (ix4 (n0 := 1) (n1 := 1) (n2 := 1) (n3 := 672) 0 0 0 ch) = val_main_v8 (F := Ideal) x1 x3 (ix1 (n0 := 672) ch) :=
  (val_main_v9_apply x1 x3 _).trans (congrArg _ (ext1 rfl))
theorem v10_at (n : Fin 64) (r : Fin 24) (x : Fin 32) (ch : Fin 672) : val_main_v10 (F := Ideal) x1 x3 (ix4 (n0 := 64) (n1 := 24) (n2 := 32) (n3 := 672) n r x ch) = val_main_v9 (F := Ideal) x1 x3 (ix4 (n0 := 1) (n1 := 1) (n2 := 1) (n3 := 672) 0 0 0 ch) :=
  (val_main_v10_apply x1 x3 _).trans (congrArg _ (ext4 rfl rfl rfl rfl))
theorem v12_at (ch : Fin 672) : val_main_v12 (F := Ideal) x4 (ix4 (n0 := 1) (n1 := 1) (n2 := 1) (n3 := 672) 0 0 0 ch) = x4 (ix1 (n0 := 672) ch) :=
  (val_main_v12_apply x4 _).trans (congrArg _ (ext1 rfl))
theorem v13_at (n : Fin 64) (r : Fin 24) (x : Fin 32) (ch : Fin 672) : val_main_v13 (F := Ideal) x4 (ix4 (n0 := 64) (n1 := 24) (n2 := 32) (n3 := 672) n r x ch) = val_main_v12 (F := Ideal) x4 (ix4 (n0 := 1) (n1 := 1) (n2 := 1) (n3 := 672) 0 0 0 ch) :=
  (val_main_v13_apply x4 _).trans (congrArg _ (ext4 rfl rfl rfl rfl))
theorem v17_at (n : Fin 64) (r : Fin 24) (x : Fin 32) (ch : Fin 672) : val_main_v17 (F := Ideal)  (ix4 (n0 := 64) (n1 := 24) (n2 := 32) (n3 := 672) n r x ch) = val_main_cst (F := Ideal)  s0 :=
  (val_main_v17_apply  _).trans (congrArg _ rfl)
theorem v19_at (n : Fin 64) (r : Fin 24) (x : Fin 32) (ch : Fin 672) : val_main_v19 (F := Ideal)  (ix4 (n0 := 64) (n1 := 24) (n2 := 32) (n3 := 672) n r x ch) = val_main_cst_0 (F := Ideal)  s0 :=
  (val_main_v19_apply  _).trans (congrArg _ rfl)
theorem v22_at (n : Fin 64) (r : Fin 24) (x : Fin 32) (ch : Fin 672) : val_main_v22 (F := Ideal) x5 (ix4 (n0 := 64) (n1 := 24) (n2 := 32) (n3 := 672) n r x ch) = x5 s0 :=
  (val_main_v22_apply x5 _).trans (congrArg _ rfl)
theorem v29_at (n : Fin 64) (r : Fin 24) (x : Fin 32) (ch : Fin 672) : val_main_v29 (F := Ideal)  (ix4 (n0 := 64) (n1 := 24) (n2 := 32) (n3 := 672) n r x ch) = val_main_c_3 (F := Ideal)  s0 :=
  (val_main_v29_apply  _).trans (congrArg _ rfl)
theorem v30_at (n : Fin 64) (r : Fin 24) (x : Fin 32) (ch : Fin 672) : val_main_v30 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨0 + r.val, by omega⟩ ⟨0 + x.val, by omega⟩ ch) :=
  (val_main_v30_apply x0 x1 x2 x3 x4 x5 _).trans (congrArg _ (ext4 rfl (Fin.ext (Nat.zero_add _).symm) (Fin.ext (Nat.zero_add _).symm) rfl))
theorem v32_at (b : Fin 672) : val_main_v32 (F := Ideal) x6 (ix2 (n0 := 1) (n1 := 672) 0 b) = x6 (ix2 (n0 := 25) (n1 := 672) 0 b) :=
  (val_main_v32_apply x6 _).trans (congrArg _ (ext2 rfl rfl))
theorem v33_at (ch : Fin 672) : val_main_v33 (F := Ideal) x6 (ix1 (n0 := 672) ch) = val_main_v32 (F := Ideal) x6 (ix2 (n0 := 1) (n1 := 672) 0 ch) :=
  (val_main_v33_apply x6 _).trans (congrArg _ (ext2 rfl (Fin.ext (Nat.mod_eq_of_lt ch.isLt))))
theorem v35_at (ch : Fin 672) : val_main_v35 (F := Ideal) x6 (ix4 (n0 := 1) (n1 := 1) (n2 := 1) (n3 := 672) 0 0 0 ch) = val_main_v34 (F := Ideal) x6 (ix1 (n0 := 672) ch) :=
  (val_main_v35_apply x6 _).trans (congrArg _ (ext1 rfl))
theorem v36_at (n : Fin 64) (r : Fin 24) (x : Fin 32) (ch : Fin 672) : val_main_v36 (F := Ideal) x6 (ix4 (n0 := 64) (n1 := 24) (n2 := 32) (n3 := 672) n r x ch) = val_main_v35 (F := Ideal) x6 (ix4 (n0 := 1) (n1 := 1) (n2 := 1) (n3 := 672) 0 0 0 ch) :=
  (val_main_v36_apply x6 _).trans (congrArg _ (ext4 rfl rfl rfl rfl))
theorem v39_at (n : Fin 64) (r : Fin 24) (x : Fin 32) (ch : Fin 672) : val_main_v39 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨0 + r.val, by omega⟩ ⟨1 + x.val, by omega⟩ ch) :=
  (val_main_v39_apply x0 x1 x2 x3 x4 x5 _).trans (congrArg _ (ext4 rfl (Fin.ext (Nat.zero_add _).symm) rfl rfl))
theorem v41_at (b : Fin 672) : val_main_v41 (F := Ideal) x6 (ix2 (n0 := 1) (n1 := 672) 0 b) = x6 (ix2 (n0 := 25) (n1 := 672) 1 b) :=
  (val_main_v41_apply x6 _).trans (congrArg _ (ext2 rfl rfl))
theorem v42_at (ch : Fin 672) : val_main_v42 (F := Ideal) x6 (ix1 (n0 := 672) ch) = val_main_v41 (F := Ideal) x6 (ix2 (n0 := 1) (n1 := 672) 0 ch) :=
  (val_main_v42_apply x6 _).trans (congrArg _ (ext2 rfl (Fin.ext (Nat.mod_eq_of_lt ch.isLt))))
theorem v44_at (ch : Fin 672) : val_main_v44 (F := Ideal) x6 (ix4 (n0 := 1) (n1 := 1) (n2 := 1) (n3 := 672) 0 0 0 ch) = val_main_v43 (F := Ideal) x6 (ix1 (n0 := 672) ch) :=
  (val_main_v44_apply x6 _).trans (congrArg _ (ext1 rfl))
theorem v45_at (n : Fin 64) (r : Fin 24) (x : Fin 32) (ch : Fin 672) : val_main_v45 (F := Ideal) x6 (ix4 (n0 := 64) (n1 := 24) (n2 := 32) (n3 := 672) n r x ch) = val_main_v44 (F := Ideal) x6 (ix4 (n0 := 1) (n1 := 1) (n2 := 1) (n3 := 672) 0 0 0 ch) :=
  (val_main_v45_apply x6 _).trans (congrArg _ (ext4 rfl rfl rfl rfl))
theorem v48_at (n : Fin 64) (r : Fin 24) (x : Fin 32) (ch : Fin 672) : val_main_v48 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨0 + r.val, by omega⟩ ⟨2 + x.val, by omega⟩ ch) :=
  (val_main_v48_apply x0 x1 x2 x3 x4 x5 _).trans (congrArg _ (ext4 rfl (Fin.ext (Nat.zero_add _).symm) rfl rfl))
theorem v50_at (b : Fin 672) : val_main_v50 (F := Ideal) x6 (ix2 (n0 := 1) (n1 := 672) 0 b) = x6 (ix2 (n0 := 25) (n1 := 672) 2 b) :=
  (val_main_v50_apply x6 _).trans (congrArg _ (ext2 rfl rfl))
theorem v51_at (ch : Fin 672) : val_main_v51 (F := Ideal) x6 (ix1 (n0 := 672) ch) = val_main_v50 (F := Ideal) x6 (ix2 (n0 := 1) (n1 := 672) 0 ch) :=
  (val_main_v51_apply x6 _).trans (congrArg _ (ext2 rfl (Fin.ext (Nat.mod_eq_of_lt ch.isLt))))
theorem v53_at (ch : Fin 672) : val_main_v53 (F := Ideal) x6 (ix4 (n0 := 1) (n1 := 1) (n2 := 1) (n3 := 672) 0 0 0 ch) = val_main_v52 (F := Ideal) x6 (ix1 (n0 := 672) ch) :=
  (val_main_v53_apply x6 _).trans (congrArg _ (ext1 rfl))
theorem v54_at (n : Fin 64) (r : Fin 24) (x : Fin 32) (ch : Fin 672) : val_main_v54 (F := Ideal) x6 (ix4 (n0 := 64) (n1 := 24) (n2 := 32) (n3 := 672) n r x ch) = val_main_v53 (F := Ideal) x6 (ix4 (n0 := 1) (n1 := 1) (n2 := 1) (n3 := 672) 0 0 0 ch) :=
  (val_main_v54_apply x6 _).trans (congrArg _ (ext4 rfl rfl rfl rfl))
theorem v57_at (n : Fin 64) (r : Fin 24) (x : Fin 32) (ch : Fin 672) : val_main_v57 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨0 + r.val, by omega⟩ ⟨3 + x.val, by omega⟩ ch) :=
  (val_main_v57_apply x0 x1 x2 x3 x4 x5 _).trans (congrArg _ (ext4 rfl (Fin.ext (Nat.zero_add _).symm) rfl rfl))
theorem v59_at (b : Fin 672) : val_main_v59 (F := Ideal) x6 (ix2 (n0 := 1) (n1 := 672) 0 b) = x6 (ix2 (n0 := 25) (n1 := 672) 3 b) :=
  (val_main_v59_apply x6 _).trans (congrArg _ (ext2 rfl rfl))
theorem v60_at (ch : Fin 672) : val_main_v60 (F := Ideal) x6 (ix1 (n0 := 672) ch) = val_main_v59 (F := Ideal) x6 (ix2 (n0 := 1) (n1 := 672) 0 ch) :=
  (val_main_v60_apply x6 _).trans (congrArg _ (ext2 rfl (Fin.ext (Nat.mod_eq_of_lt ch.isLt))))
theorem v62_at (ch : Fin 672) : val_main_v62 (F := Ideal) x6 (ix4 (n0 := 1) (n1 := 1) (n2 := 1) (n3 := 672) 0 0 0 ch) = val_main_v61 (F := Ideal) x6 (ix1 (n0 := 672) ch) :=
  (val_main_v62_apply x6 _).trans (congrArg _ (ext1 rfl))
theorem v63_at (n : Fin 64) (r : Fin 24) (x : Fin 32) (ch : Fin 672) : val_main_v63 (F := Ideal) x6 (ix4 (n0 := 64) (n1 := 24) (n2 := 32) (n3 := 672) n r x ch) = val_main_v62 (F := Ideal) x6 (ix4 (n0 := 1) (n1 := 1) (n2 := 1) (n3 := 672) 0 0 0 ch) :=
  (val_main_v63_apply x6 _).trans (congrArg _ (ext4 rfl rfl rfl rfl))
theorem v66_at (n : Fin 64) (r : Fin 24) (x : Fin 32) (ch : Fin 672) : val_main_v66 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨0 + r.val, by omega⟩ ⟨4 + x.val, by omega⟩ ch) :=
  (val_main_v66_apply x0 x1 x2 x3 x4 x5 _).trans (congrArg _ (ext4 rfl (Fin.ext (Nat.zero_add _).symm) rfl rfl))
theorem v68_at (b : Fin 672) : val_main_v68 (F := Ideal) x6 (ix2 (n0 := 1) (n1 := 672) 0 b) = x6 (ix2 (n0 := 25) (n1 := 672) 4 b) :=
  (val_main_v68_apply x6 _).trans (congrArg _ (ext2 rfl rfl))
theorem v69_at (ch : Fin 672) : val_main_v69 (F := Ideal) x6 (ix1 (n0 := 672) ch) = val_main_v68 (F := Ideal) x6 (ix2 (n0 := 1) (n1 := 672) 0 ch) :=
  (val_main_v69_apply x6 _).trans (congrArg _ (ext2 rfl (Fin.ext (Nat.mod_eq_of_lt ch.isLt))))
theorem v71_at (ch : Fin 672) : val_main_v71 (F := Ideal) x6 (ix4 (n0 := 1) (n1 := 1) (n2 := 1) (n3 := 672) 0 0 0 ch) = val_main_v70 (F := Ideal) x6 (ix1 (n0 := 672) ch) :=
  (val_main_v71_apply x6 _).trans (congrArg _ (ext1 rfl))
theorem v72_at (n : Fin 64) (r : Fin 24) (x : Fin 32) (ch : Fin 672) : val_main_v72 (F := Ideal) x6 (ix4 (n0 := 64) (n1 := 24) (n2 := 32) (n3 := 672) n r x ch) = val_main_v71 (F := Ideal) x6 (ix4 (n0 := 1) (n1 := 1) (n2 := 1) (n3 := 672) 0 0 0 ch) :=
  (val_main_v72_apply x6 _).trans (congrArg _ (ext4 rfl rfl rfl rfl))
theorem v75_at (n : Fin 64) (r : Fin 24) (x : Fin 32) (ch : Fin 672) : val_main_v75 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨1 + r.val, by omega⟩ ⟨0 + x.val, by omega⟩ ch) :=
  (val_main_v75_apply x0 x1 x2 x3 x4 x5 _).trans (congrArg _ (ext4 rfl rfl (Fin.ext (Nat.zero_add _).symm) rfl))
theorem v77_at (b : Fin 672) : val_main_v77 (F := Ideal) x6 (ix2 (n0 := 1) (n1 := 672) 0 b) = x6 (ix2 (n0 := 25) (n1 := 672) 5 b) :=
  (val_main_v77_apply x6 _).trans (congrArg _ (ext2 rfl rfl))
theorem v78_at (ch : Fin 672) : val_main_v78 (F := Ideal) x6 (ix1 (n0 := 672) ch) = val_main_v77 (F := Ideal) x6 (ix2 (n0 := 1) (n1 := 672) 0 ch) :=
  (val_main_v78_apply x6 _).trans (congrArg _ (ext2 rfl (Fin.ext (Nat.mod_eq_of_lt ch.isLt))))
theorem v80_at (ch : Fin 672) : val_main_v80 (F := Ideal) x6 (ix4 (n0 := 1) (n1 := 1) (n2 := 1) (n3 := 672) 0 0 0 ch) = val_main_v79 (F := Ideal) x6 (ix1 (n0 := 672) ch) :=
  (val_main_v80_apply x6 _).trans (congrArg _ (ext1 rfl))
theorem v81_at (n : Fin 64) (r : Fin 24) (x : Fin 32) (ch : Fin 672) : val_main_v81 (F := Ideal) x6 (ix4 (n0 := 64) (n1 := 24) (n2 := 32) (n3 := 672) n r x ch) = val_main_v80 (F := Ideal) x6 (ix4 (n0 := 1) (n1 := 1) (n2 := 1) (n3 := 672) 0 0 0 ch) :=
  (val_main_v81_apply x6 _).trans (congrArg _ (ext4 rfl rfl rfl rfl))
theorem v84_at (n : Fin 64) (r : Fin 24) (x : Fin 32) (ch : Fin 672) : val_main_v84 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨1 + r.val, by omega⟩ ⟨1 + x.val, by omega⟩ ch) :=
  (val_main_v84_apply x0 x1 x2 x3 x4 x5 _).trans (congrArg _ (ext4 rfl rfl rfl rfl))
theorem v86_at (b : Fin 672) : val_main_v86 (F := Ideal) x6 (ix2 (n0 := 1) (n1 := 672) 0 b) = x6 (ix2 (n0 := 25) (n1 := 672) 6 b) :=
  (val_main_v86_apply x6 _).trans (congrArg _ (ext2 rfl rfl))
theorem v87_at (ch : Fin 672) : val_main_v87 (F := Ideal) x6 (ix1 (n0 := 672) ch) = val_main_v86 (F := Ideal) x6 (ix2 (n0 := 1) (n1 := 672) 0 ch) :=
  (val_main_v87_apply x6 _).trans (congrArg _ (ext2 rfl (Fin.ext (Nat.mod_eq_of_lt ch.isLt))))
theorem v89_at (ch : Fin 672) : val_main_v89 (F := Ideal) x6 (ix4 (n0 := 1) (n1 := 1) (n2 := 1) (n3 := 672) 0 0 0 ch) = val_main_v88 (F := Ideal) x6 (ix1 (n0 := 672) ch) :=
  (val_main_v89_apply x6 _).trans (congrArg _ (ext1 rfl))
theorem v90_at (n : Fin 64) (r : Fin 24) (x : Fin 32) (ch : Fin 672) : val_main_v90 (F := Ideal) x6 (ix4 (n0 := 64) (n1 := 24) (n2 := 32) (n3 := 672) n r x ch) = val_main_v89 (F := Ideal) x6 (ix4 (n0 := 1) (n1 := 1) (n2 := 1) (n3 := 672) 0 0 0 ch) :=
  (val_main_v90_apply x6 _).trans (congrArg _ (ext4 rfl rfl rfl rfl))
theorem v93_at (n : Fin 64) (r : Fin 24) (x : Fin 32) (ch : Fin 672) : val_main_v93 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨1 + r.val, by omega⟩ ⟨2 + x.val, by omega⟩ ch) :=
  (val_main_v93_apply x0 x1 x2 x3 x4 x5 _).trans (congrArg _ (ext4 rfl rfl rfl rfl))
theorem v95_at (b : Fin 672) : val_main_v95 (F := Ideal) x6 (ix2 (n0 := 1) (n1 := 672) 0 b) = x6 (ix2 (n0 := 25) (n1 := 672) 7 b) :=
  (val_main_v95_apply x6 _).trans (congrArg _ (ext2 rfl rfl))
theorem v96_at (ch : Fin 672) : val_main_v96 (F := Ideal) x6 (ix1 (n0 := 672) ch) = val_main_v95 (F := Ideal) x6 (ix2 (n0 := 1) (n1 := 672) 0 ch) :=
  (val_main_v96_apply x6 _).trans (congrArg _ (ext2 rfl (Fin.ext (Nat.mod_eq_of_lt ch.isLt))))
theorem v98_at (ch : Fin 672) : val_main_v98 (F := Ideal) x6 (ix4 (n0 := 1) (n1 := 1) (n2 := 1) (n3 := 672) 0 0 0 ch) = val_main_v97 (F := Ideal) x6 (ix1 (n0 := 672) ch) :=
  (val_main_v98_apply x6 _).trans (congrArg _ (ext1 rfl))
theorem v99_at (n : Fin 64) (r : Fin 24) (x : Fin 32) (ch : Fin 672) : val_main_v99 (F := Ideal) x6 (ix4 (n0 := 64) (n1 := 24) (n2 := 32) (n3 := 672) n r x ch) = val_main_v98 (F := Ideal) x6 (ix4 (n0 := 1) (n1 := 1) (n2 := 1) (n3 := 672) 0 0 0 ch) :=
  (val_main_v99_apply x6 _).trans (congrArg _ (ext4 rfl rfl rfl rfl))
theorem v102_at (n : Fin 64) (r : Fin 24) (x : Fin 32) (ch : Fin 672) : val_main_v102 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨1 + r.val, by omega⟩ ⟨3 + x.val, by omega⟩ ch) :=
  (val_main_v102_apply x0 x1 x2 x3 x4 x5 _).trans (congrArg _ (ext4 rfl rfl rfl rfl))
theorem v104_at (b : Fin 672) : val_main_v104 (F := Ideal) x6 (ix2 (n0 := 1) (n1 := 672) 0 b) = x6 (ix2 (n0 := 25) (n1 := 672) 8 b) :=
  (val_main_v104_apply x6 _).trans (congrArg _ (ext2 rfl rfl))
theorem v105_at (ch : Fin 672) : val_main_v105 (F := Ideal) x6 (ix1 (n0 := 672) ch) = val_main_v104 (F := Ideal) x6 (ix2 (n0 := 1) (n1 := 672) 0 ch) :=
  (val_main_v105_apply x6 _).trans (congrArg _ (ext2 rfl (Fin.ext (Nat.mod_eq_of_lt ch.isLt))))
theorem v107_at (ch : Fin 672) : val_main_v107 (F := Ideal) x6 (ix4 (n0 := 1) (n1 := 1) (n2 := 1) (n3 := 672) 0 0 0 ch) = val_main_v106 (F := Ideal) x6 (ix1 (n0 := 672) ch) :=
  (val_main_v107_apply x6 _).trans (congrArg _ (ext1 rfl))
theorem v108_at (n : Fin 64) (r : Fin 24) (x : Fin 32) (ch : Fin 672) : val_main_v108 (F := Ideal) x6 (ix4 (n0 := 64) (n1 := 24) (n2 := 32) (n3 := 672) n r x ch) = val_main_v107 (F := Ideal) x6 (ix4 (n0 := 1) (n1 := 1) (n2 := 1) (n3 := 672) 0 0 0 ch) :=
  (val_main_v108_apply x6 _).trans (congrArg _ (ext4 rfl rfl rfl rfl))
theorem v111_at (n : Fin 64) (r : Fin 24) (x : Fin 32) (ch : Fin 672) : val_main_v111 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨1 + r.val, by omega⟩ ⟨4 + x.val, by omega⟩ ch) :=
  (val_main_v111_apply x0 x1 x2 x3 x4 x5 _).trans (congrArg _ (ext4 rfl rfl rfl rfl))
theorem v113_at (b : Fin 672) : val_main_v113 (F := Ideal) x6 (ix2 (n0 := 1) (n1 := 672) 0 b) = x6 (ix2 (n0 := 25) (n1 := 672) 9 b) :=
  (val_main_v113_apply x6 _).trans (congrArg _ (ext2 rfl rfl))
theorem v114_at (ch : Fin 672) : val_main_v114 (F := Ideal) x6 (ix1 (n0 := 672) ch) = val_main_v113 (F := Ideal) x6 (ix2 (n0 := 1) (n1 := 672) 0 ch) :=
  (val_main_v114_apply x6 _).trans (congrArg _ (ext2 rfl (Fin.ext (Nat.mod_eq_of_lt ch.isLt))))
theorem v116_at (ch : Fin 672) : val_main_v116 (F := Ideal) x6 (ix4 (n0 := 1) (n1 := 1) (n2 := 1) (n3 := 672) 0 0 0 ch) = val_main_v115 (F := Ideal) x6 (ix1 (n0 := 672) ch) :=
  (val_main_v116_apply x6 _).trans (congrArg _ (ext1 rfl))
theorem v117_at (n : Fin 64) (r : Fin 24) (x : Fin 32) (ch : Fin 672) : val_main_v117 (F := Ideal) x6 (ix4 (n0 := 64) (n1 := 24) (n2 := 32) (n3 := 672) n r x ch) = val_main_v116 (F := Ideal) x6 (ix4 (n0 := 1) (n1 := 1) (n2 := 1) (n3 := 672) 0 0 0 ch) :=
  (val_main_v117_apply x6 _).trans (congrArg _ (ext4 rfl rfl rfl rfl))
theorem v120_at (n : Fin 64) (r : Fin 24) (x : Fin 32) (ch : Fin 672) : val_main_v120 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨2 + r.val, by omega⟩ ⟨0 + x.val, by omega⟩ ch) :=
  (val_main_v120_apply x0 x1 x2 x3 x4 x5 _).trans (congrArg _ (ext4 rfl rfl (Fin.ext (Nat.zero_add _).symm) rfl))
theorem v122_at (b : Fin 672) : val_main_v122 (F := Ideal) x6 (ix2 (n0 := 1) (n1 := 672) 0 b) = x6 (ix2 (n0 := 25) (n1 := 672) 10 b) :=
  (val_main_v122_apply x6 _).trans (congrArg _ (ext2 rfl rfl))
theorem v123_at (ch : Fin 672) : val_main_v123 (F := Ideal) x6 (ix1 (n0 := 672) ch) = val_main_v122 (F := Ideal) x6 (ix2 (n0 := 1) (n1 := 672) 0 ch) :=
  (val_main_v123_apply x6 _).trans (congrArg _ (ext2 rfl (Fin.ext (Nat.mod_eq_of_lt ch.isLt))))
theorem v125_at (ch : Fin 672) : val_main_v125 (F := Ideal) x6 (ix4 (n0 := 1) (n1 := 1) (n2 := 1) (n3 := 672) 0 0 0 ch) = val_main_v124 (F := Ideal) x6 (ix1 (n0 := 672) ch) :=
  (val_main_v125_apply x6 _).trans (congrArg _ (ext1 rfl))
theorem v126_at (n : Fin 64) (r : Fin 24) (x : Fin 32) (ch : Fin 672) : val_main_v126 (F := Ideal) x6 (ix4 (n0 := 64) (n1 := 24) (n2 := 32) (n3 := 672) n r x ch) = val_main_v125 (F := Ideal) x6 (ix4 (n0 := 1) (n1 := 1) (n2 := 1) (n3 := 672) 0 0 0 ch) :=
  (val_main_v126_apply x6 _).trans (congrArg _ (ext4 rfl rfl rfl rfl))
theorem v129_at (n : Fin 64) (r : Fin 24) (x : Fin 32) (ch : Fin 672) : val_main_v129 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨2 + r.val, by omega⟩ ⟨1 + x.val, by omega⟩ ch) :=
  (val_main_v129_apply x0 x1 x2 x3 x4 x5 _).trans (congrArg _ (ext4 rfl rfl rfl rfl))
theorem v131_at (b : Fin 672) : val_main_v131 (F := Ideal) x6 (ix2 (n0 := 1) (n1 := 672) 0 b) = x6 (ix2 (n0 := 25) (n1 := 672) 11 b) :=
  (val_main_v131_apply x6 _).trans (congrArg _ (ext2 rfl rfl))
theorem v132_at (ch : Fin 672) : val_main_v132 (F := Ideal) x6 (ix1 (n0 := 672) ch) = val_main_v131 (F := Ideal) x6 (ix2 (n0 := 1) (n1 := 672) 0 ch) :=
  (val_main_v132_apply x6 _).trans (congrArg _ (ext2 rfl (Fin.ext (Nat.mod_eq_of_lt ch.isLt))))
theorem v134_at (ch : Fin 672) : val_main_v134 (F := Ideal) x6 (ix4 (n0 := 1) (n1 := 1) (n2 := 1) (n3 := 672) 0 0 0 ch) = val_main_v133 (F := Ideal) x6 (ix1 (n0 := 672) ch) :=
  (val_main_v134_apply x6 _).trans (congrArg _ (ext1 rfl))
theorem v135_at (n : Fin 64) (r : Fin 24) (x : Fin 32) (ch : Fin 672) : val_main_v135 (F := Ideal) x6 (ix4 (n0 := 64) (n1 := 24) (n2 := 32) (n3 := 672) n r x ch) = val_main_v134 (F := Ideal) x6 (ix4 (n0 := 1) (n1 := 1) (n2 := 1) (n3 := 672) 0 0 0 ch) :=
  (val_main_v135_apply x6 _).trans (congrArg _ (ext4 rfl rfl rfl rfl))
theorem v138_at (n : Fin 64) (r : Fin 24) (x : Fin 32) (ch : Fin 672) : val_main_v138 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨2 + r.val, by omega⟩ ⟨2 + x.val, by omega⟩ ch) :=
  (val_main_v138_apply x0 x1 x2 x3 x4 x5 _).trans (congrArg _ (ext4 rfl rfl rfl rfl))
theorem v140_at (b : Fin 672) : val_main_v140 (F := Ideal) x6 (ix2 (n0 := 1) (n1 := 672) 0 b) = x6 (ix2 (n0 := 25) (n1 := 672) 12 b) :=
  (val_main_v140_apply x6 _).trans (congrArg _ (ext2 rfl rfl))
theorem v141_at (ch : Fin 672) : val_main_v141 (F := Ideal) x6 (ix1 (n0 := 672) ch) = val_main_v140 (F := Ideal) x6 (ix2 (n0 := 1) (n1 := 672) 0 ch) :=
  (val_main_v141_apply x6 _).trans (congrArg _ (ext2 rfl (Fin.ext (Nat.mod_eq_of_lt ch.isLt))))
theorem v143_at (ch : Fin 672) : val_main_v143 (F := Ideal) x6 (ix4 (n0 := 1) (n1 := 1) (n2 := 1) (n3 := 672) 0 0 0 ch) = val_main_v142 (F := Ideal) x6 (ix1 (n0 := 672) ch) :=
  (val_main_v143_apply x6 _).trans (congrArg _ (ext1 rfl))
theorem v144_at (n : Fin 64) (r : Fin 24) (x : Fin 32) (ch : Fin 672) : val_main_v144 (F := Ideal) x6 (ix4 (n0 := 64) (n1 := 24) (n2 := 32) (n3 := 672) n r x ch) = val_main_v143 (F := Ideal) x6 (ix4 (n0 := 1) (n1 := 1) (n2 := 1) (n3 := 672) 0 0 0 ch) :=
  (val_main_v144_apply x6 _).trans (congrArg _ (ext4 rfl rfl rfl rfl))
theorem v147_at (n : Fin 64) (r : Fin 24) (x : Fin 32) (ch : Fin 672) : val_main_v147 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨2 + r.val, by omega⟩ ⟨3 + x.val, by omega⟩ ch) :=
  (val_main_v147_apply x0 x1 x2 x3 x4 x5 _).trans (congrArg _ (ext4 rfl rfl rfl rfl))
theorem v149_at (b : Fin 672) : val_main_v149 (F := Ideal) x6 (ix2 (n0 := 1) (n1 := 672) 0 b) = x6 (ix2 (n0 := 25) (n1 := 672) 13 b) :=
  (val_main_v149_apply x6 _).trans (congrArg _ (ext2 rfl rfl))
theorem v150_at (ch : Fin 672) : val_main_v150 (F := Ideal) x6 (ix1 (n0 := 672) ch) = val_main_v149 (F := Ideal) x6 (ix2 (n0 := 1) (n1 := 672) 0 ch) :=
  (val_main_v150_apply x6 _).trans (congrArg _ (ext2 rfl (Fin.ext (Nat.mod_eq_of_lt ch.isLt))))
theorem v152_at (ch : Fin 672) : val_main_v152 (F := Ideal) x6 (ix4 (n0 := 1) (n1 := 1) (n2 := 1) (n3 := 672) 0 0 0 ch) = val_main_v151 (F := Ideal) x6 (ix1 (n0 := 672) ch) :=
  (val_main_v152_apply x6 _).trans (congrArg _ (ext1 rfl))
theorem v153_at (n : Fin 64) (r : Fin 24) (x : Fin 32) (ch : Fin 672) : val_main_v153 (F := Ideal) x6 (ix4 (n0 := 64) (n1 := 24) (n2 := 32) (n3 := 672) n r x ch) = val_main_v152 (F := Ideal) x6 (ix4 (n0 := 1) (n1 := 1) (n2 := 1) (n3 := 672) 0 0 0 ch) :=
  (val_main_v153_apply x6 _).trans (congrArg _ (ext4 rfl rfl rfl rfl))
theorem v156_at (n : Fin 64) (r : Fin 24) (x : Fin 32) (ch : Fin 672) : val_main_v156 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨2 + r.val, by omega⟩ ⟨4 + x.val, by omega⟩ ch) :=
  (val_main_v156_apply x0 x1 x2 x3 x4 x5 _).trans (congrArg _ (ext4 rfl rfl rfl rfl))
theorem v158_at (b : Fin 672) : val_main_v158 (F := Ideal) x6 (ix2 (n0 := 1) (n1 := 672) 0 b) = x6 (ix2 (n0 := 25) (n1 := 672) 14 b) :=
  (val_main_v158_apply x6 _).trans (congrArg _ (ext2 rfl rfl))
theorem v159_at (ch : Fin 672) : val_main_v159 (F := Ideal) x6 (ix1 (n0 := 672) ch) = val_main_v158 (F := Ideal) x6 (ix2 (n0 := 1) (n1 := 672) 0 ch) :=
  (val_main_v159_apply x6 _).trans (congrArg _ (ext2 rfl (Fin.ext (Nat.mod_eq_of_lt ch.isLt))))
theorem v161_at (ch : Fin 672) : val_main_v161 (F := Ideal) x6 (ix4 (n0 := 1) (n1 := 1) (n2 := 1) (n3 := 672) 0 0 0 ch) = val_main_v160 (F := Ideal) x6 (ix1 (n0 := 672) ch) :=
  (val_main_v161_apply x6 _).trans (congrArg _ (ext1 rfl))
theorem v162_at (n : Fin 64) (r : Fin 24) (x : Fin 32) (ch : Fin 672) : val_main_v162 (F := Ideal) x6 (ix4 (n0 := 64) (n1 := 24) (n2 := 32) (n3 := 672) n r x ch) = val_main_v161 (F := Ideal) x6 (ix4 (n0 := 1) (n1 := 1) (n2 := 1) (n3 := 672) 0 0 0 ch) :=
  (val_main_v162_apply x6 _).trans (congrArg _ (ext4 rfl rfl rfl rfl))
theorem v165_at (n : Fin 64) (r : Fin 24) (x : Fin 32) (ch : Fin 672) : val_main_v165 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨3 + r.val, by omega⟩ ⟨0 + x.val, by omega⟩ ch) :=
  (val_main_v165_apply x0 x1 x2 x3 x4 x5 _).trans (congrArg _ (ext4 rfl rfl (Fin.ext (Nat.zero_add _).symm) rfl))
theorem v167_at (b : Fin 672) : val_main_v167 (F := Ideal) x6 (ix2 (n0 := 1) (n1 := 672) 0 b) = x6 (ix2 (n0 := 25) (n1 := 672) 15 b) :=
  (val_main_v167_apply x6 _).trans (congrArg _ (ext2 rfl rfl))
theorem v168_at (ch : Fin 672) : val_main_v168 (F := Ideal) x6 (ix1 (n0 := 672) ch) = val_main_v167 (F := Ideal) x6 (ix2 (n0 := 1) (n1 := 672) 0 ch) :=
  (val_main_v168_apply x6 _).trans (congrArg _ (ext2 rfl (Fin.ext (Nat.mod_eq_of_lt ch.isLt))))
theorem v170_at (ch : Fin 672) : val_main_v170 (F := Ideal) x6 (ix4 (n0 := 1) (n1 := 1) (n2 := 1) (n3 := 672) 0 0 0 ch) = val_main_v169 (F := Ideal) x6 (ix1 (n0 := 672) ch) :=
  (val_main_v170_apply x6 _).trans (congrArg _ (ext1 rfl))
theorem v171_at (n : Fin 64) (r : Fin 24) (x : Fin 32) (ch : Fin 672) : val_main_v171 (F := Ideal) x6 (ix4 (n0 := 64) (n1 := 24) (n2 := 32) (n3 := 672) n r x ch) = val_main_v170 (F := Ideal) x6 (ix4 (n0 := 1) (n1 := 1) (n2 := 1) (n3 := 672) 0 0 0 ch) :=
  (val_main_v171_apply x6 _).trans (congrArg _ (ext4 rfl rfl rfl rfl))
theorem v174_at (n : Fin 64) (r : Fin 24) (x : Fin 32) (ch : Fin 672) : val_main_v174 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨3 + r.val, by omega⟩ ⟨1 + x.val, by omega⟩ ch) :=
  (val_main_v174_apply x0 x1 x2 x3 x4 x5 _).trans (congrArg _ (ext4 rfl rfl rfl rfl))
theorem v176_at (b : Fin 672) : val_main_v176 (F := Ideal) x6 (ix2 (n0 := 1) (n1 := 672) 0 b) = x6 (ix2 (n0 := 25) (n1 := 672) 16 b) :=
  (val_main_v176_apply x6 _).trans (congrArg _ (ext2 rfl rfl))
theorem v177_at (ch : Fin 672) : val_main_v177 (F := Ideal) x6 (ix1 (n0 := 672) ch) = val_main_v176 (F := Ideal) x6 (ix2 (n0 := 1) (n1 := 672) 0 ch) :=
  (val_main_v177_apply x6 _).trans (congrArg _ (ext2 rfl (Fin.ext (Nat.mod_eq_of_lt ch.isLt))))
theorem v179_at (ch : Fin 672) : val_main_v179 (F := Ideal) x6 (ix4 (n0 := 1) (n1 := 1) (n2 := 1) (n3 := 672) 0 0 0 ch) = val_main_v178 (F := Ideal) x6 (ix1 (n0 := 672) ch) :=
  (val_main_v179_apply x6 _).trans (congrArg _ (ext1 rfl))
theorem v180_at (n : Fin 64) (r : Fin 24) (x : Fin 32) (ch : Fin 672) : val_main_v180 (F := Ideal) x6 (ix4 (n0 := 64) (n1 := 24) (n2 := 32) (n3 := 672) n r x ch) = val_main_v179 (F := Ideal) x6 (ix4 (n0 := 1) (n1 := 1) (n2 := 1) (n3 := 672) 0 0 0 ch) :=
  (val_main_v180_apply x6 _).trans (congrArg _ (ext4 rfl rfl rfl rfl))
theorem v183_at (n : Fin 64) (r : Fin 24) (x : Fin 32) (ch : Fin 672) : val_main_v183 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨3 + r.val, by omega⟩ ⟨2 + x.val, by omega⟩ ch) :=
  (val_main_v183_apply x0 x1 x2 x3 x4 x5 _).trans (congrArg _ (ext4 rfl rfl rfl rfl))
theorem v185_at (b : Fin 672) : val_main_v185 (F := Ideal) x6 (ix2 (n0 := 1) (n1 := 672) 0 b) = x6 (ix2 (n0 := 25) (n1 := 672) 17 b) :=
  (val_main_v185_apply x6 _).trans (congrArg _ (ext2 rfl rfl))
theorem v186_at (ch : Fin 672) : val_main_v186 (F := Ideal) x6 (ix1 (n0 := 672) ch) = val_main_v185 (F := Ideal) x6 (ix2 (n0 := 1) (n1 := 672) 0 ch) :=
  (val_main_v186_apply x6 _).trans (congrArg _ (ext2 rfl (Fin.ext (Nat.mod_eq_of_lt ch.isLt))))
theorem v188_at (ch : Fin 672) : val_main_v188 (F := Ideal) x6 (ix4 (n0 := 1) (n1 := 1) (n2 := 1) (n3 := 672) 0 0 0 ch) = val_main_v187 (F := Ideal) x6 (ix1 (n0 := 672) ch) :=
  (val_main_v188_apply x6 _).trans (congrArg _ (ext1 rfl))
theorem v189_at (n : Fin 64) (r : Fin 24) (x : Fin 32) (ch : Fin 672) : val_main_v189 (F := Ideal) x6 (ix4 (n0 := 64) (n1 := 24) (n2 := 32) (n3 := 672) n r x ch) = val_main_v188 (F := Ideal) x6 (ix4 (n0 := 1) (n1 := 1) (n2 := 1) (n3 := 672) 0 0 0 ch) :=
  (val_main_v189_apply x6 _).trans (congrArg _ (ext4 rfl rfl rfl rfl))
theorem v192_at (n : Fin 64) (r : Fin 24) (x : Fin 32) (ch : Fin 672) : val_main_v192 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨3 + r.val, by omega⟩ ⟨3 + x.val, by omega⟩ ch) :=
  (val_main_v192_apply x0 x1 x2 x3 x4 x5 _).trans (congrArg _ (ext4 rfl rfl rfl rfl))
theorem v194_at (b : Fin 672) : val_main_v194 (F := Ideal) x6 (ix2 (n0 := 1) (n1 := 672) 0 b) = x6 (ix2 (n0 := 25) (n1 := 672) 18 b) :=
  (val_main_v194_apply x6 _).trans (congrArg _ (ext2 rfl rfl))
theorem v195_at (ch : Fin 672) : val_main_v195 (F := Ideal) x6 (ix1 (n0 := 672) ch) = val_main_v194 (F := Ideal) x6 (ix2 (n0 := 1) (n1 := 672) 0 ch) :=
  (val_main_v195_apply x6 _).trans (congrArg _ (ext2 rfl (Fin.ext (Nat.mod_eq_of_lt ch.isLt))))
theorem v197_at (ch : Fin 672) : val_main_v197 (F := Ideal) x6 (ix4 (n0 := 1) (n1 := 1) (n2 := 1) (n3 := 672) 0 0 0 ch) = val_main_v196 (F := Ideal) x6 (ix1 (n0 := 672) ch) :=
  (val_main_v197_apply x6 _).trans (congrArg _ (ext1 rfl))
theorem v198_at (n : Fin 64) (r : Fin 24) (x : Fin 32) (ch : Fin 672) : val_main_v198 (F := Ideal) x6 (ix4 (n0 := 64) (n1 := 24) (n2 := 32) (n3 := 672) n r x ch) = val_main_v197 (F := Ideal) x6 (ix4 (n0 := 1) (n1 := 1) (n2 := 1) (n3 := 672) 0 0 0 ch) :=
  (val_main_v198_apply x6 _).trans (congrArg _ (ext4 rfl rfl rfl rfl))
theorem v201_at (n : Fin 64) (r : Fin 24) (x : Fin 32) (ch : Fin 672) : val_main_v201 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨3 + r.val, by omega⟩ ⟨4 + x.val, by omega⟩ ch) :=
  (val_main_v201_apply x0 x1 x2 x3 x4 x5 _).trans (congrArg _ (ext4 rfl rfl rfl rfl))
theorem v203_at (b : Fin 672) : val_main_v203 (F := Ideal) x6 (ix2 (n0 := 1) (n1 := 672) 0 b) = x6 (ix2 (n0 := 25) (n1 := 672) 19 b) :=
  (val_main_v203_apply x6 _).trans (congrArg _ (ext2 rfl rfl))
theorem v204_at (ch : Fin 672) : val_main_v204 (F := Ideal) x6 (ix1 (n0 := 672) ch) = val_main_v203 (F := Ideal) x6 (ix2 (n0 := 1) (n1 := 672) 0 ch) :=
  (val_main_v204_apply x6 _).trans (congrArg _ (ext2 rfl (Fin.ext (Nat.mod_eq_of_lt ch.isLt))))
theorem v206_at (ch : Fin 672) : val_main_v206 (F := Ideal) x6 (ix4 (n0 := 1) (n1 := 1) (n2 := 1) (n3 := 672) 0 0 0 ch) = val_main_v205 (F := Ideal) x6 (ix1 (n0 := 672) ch) :=
  (val_main_v206_apply x6 _).trans (congrArg _ (ext1 rfl))
theorem v207_at (n : Fin 64) (r : Fin 24) (x : Fin 32) (ch : Fin 672) : val_main_v207 (F := Ideal) x6 (ix4 (n0 := 64) (n1 := 24) (n2 := 32) (n3 := 672) n r x ch) = val_main_v206 (F := Ideal) x6 (ix4 (n0 := 1) (n1 := 1) (n2 := 1) (n3 := 672) 0 0 0 ch) :=
  (val_main_v207_apply x6 _).trans (congrArg _ (ext4 rfl rfl rfl rfl))
theorem v210_at (n : Fin 64) (r : Fin 24) (x : Fin 32) (ch : Fin 672) : val_main_v210 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨4 + r.val, by omega⟩ ⟨0 + x.val, by omega⟩ ch) :=
  (val_main_v210_apply x0 x1 x2 x3 x4 x5 _).trans (congrArg _ (ext4 rfl rfl (Fin.ext (Nat.zero_add _).symm) rfl))
theorem v212_at (b : Fin 672) : val_main_v212 (F := Ideal) x6 (ix2 (n0 := 1) (n1 := 672) 0 b) = x6 (ix2 (n0 := 25) (n1 := 672) 20 b) :=
  (val_main_v212_apply x6 _).trans (congrArg _ (ext2 rfl rfl))
theorem v213_at (ch : Fin 672) : val_main_v213 (F := Ideal) x6 (ix1 (n0 := 672) ch) = val_main_v212 (F := Ideal) x6 (ix2 (n0 := 1) (n1 := 672) 0 ch) :=
  (val_main_v213_apply x6 _).trans (congrArg _ (ext2 rfl (Fin.ext (Nat.mod_eq_of_lt ch.isLt))))
theorem v215_at (ch : Fin 672) : val_main_v215 (F := Ideal) x6 (ix4 (n0 := 1) (n1 := 1) (n2 := 1) (n3 := 672) 0 0 0 ch) = val_main_v214 (F := Ideal) x6 (ix1 (n0 := 672) ch) :=
  (val_main_v215_apply x6 _).trans (congrArg _ (ext1 rfl))
theorem v216_at (n : Fin 64) (r : Fin 24) (x : Fin 32) (ch : Fin 672) : val_main_v216 (F := Ideal) x6 (ix4 (n0 := 64) (n1 := 24) (n2 := 32) (n3 := 672) n r x ch) = val_main_v215 (F := Ideal) x6 (ix4 (n0 := 1) (n1 := 1) (n2 := 1) (n3 := 672) 0 0 0 ch) :=
  (val_main_v216_apply x6 _).trans (congrArg _ (ext4 rfl rfl rfl rfl))
theorem v219_at (n : Fin 64) (r : Fin 24) (x : Fin 32) (ch : Fin 672) : val_main_v219 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨4 + r.val, by omega⟩ ⟨1 + x.val, by omega⟩ ch) :=
  (val_main_v219_apply x0 x1 x2 x3 x4 x5 _).trans (congrArg _ (ext4 rfl rfl rfl rfl))
theorem v221_at (b : Fin 672) : val_main_v221 (F := Ideal) x6 (ix2 (n0 := 1) (n1 := 672) 0 b) = x6 (ix2 (n0 := 25) (n1 := 672) 21 b) :=
  (val_main_v221_apply x6 _).trans (congrArg _ (ext2 rfl rfl))
theorem v222_at (ch : Fin 672) : val_main_v222 (F := Ideal) x6 (ix1 (n0 := 672) ch) = val_main_v221 (F := Ideal) x6 (ix2 (n0 := 1) (n1 := 672) 0 ch) :=
  (val_main_v222_apply x6 _).trans (congrArg _ (ext2 rfl (Fin.ext (Nat.mod_eq_of_lt ch.isLt))))
theorem v224_at (ch : Fin 672) : val_main_v224 (F := Ideal) x6 (ix4 (n0 := 1) (n1 := 1) (n2 := 1) (n3 := 672) 0 0 0 ch) = val_main_v223 (F := Ideal) x6 (ix1 (n0 := 672) ch) :=
  (val_main_v224_apply x6 _).trans (congrArg _ (ext1 rfl))
theorem v225_at (n : Fin 64) (r : Fin 24) (x : Fin 32) (ch : Fin 672) : val_main_v225 (F := Ideal) x6 (ix4 (n0 := 64) (n1 := 24) (n2 := 32) (n3 := 672) n r x ch) = val_main_v224 (F := Ideal) x6 (ix4 (n0 := 1) (n1 := 1) (n2 := 1) (n3 := 672) 0 0 0 ch) :=
  (val_main_v225_apply x6 _).trans (congrArg _ (ext4 rfl rfl rfl rfl))
theorem v228_at (n : Fin 64) (r : Fin 24) (x : Fin 32) (ch : Fin 672) : val_main_v228 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨4 + r.val, by omega⟩ ⟨2 + x.val, by omega⟩ ch) :=
  (val_main_v228_apply x0 x1 x2 x3 x4 x5 _).trans (congrArg _ (ext4 rfl rfl rfl rfl))
theorem v230_at (b : Fin 672) : val_main_v230 (F := Ideal) x6 (ix2 (n0 := 1) (n1 := 672) 0 b) = x6 (ix2 (n0 := 25) (n1 := 672) 22 b) :=
  (val_main_v230_apply x6 _).trans (congrArg _ (ext2 rfl rfl))
theorem v231_at (ch : Fin 672) : val_main_v231 (F := Ideal) x6 (ix1 (n0 := 672) ch) = val_main_v230 (F := Ideal) x6 (ix2 (n0 := 1) (n1 := 672) 0 ch) :=
  (val_main_v231_apply x6 _).trans (congrArg _ (ext2 rfl (Fin.ext (Nat.mod_eq_of_lt ch.isLt))))
theorem v233_at (ch : Fin 672) : val_main_v233 (F := Ideal) x6 (ix4 (n0 := 1) (n1 := 1) (n2 := 1) (n3 := 672) 0 0 0 ch) = val_main_v232 (F := Ideal) x6 (ix1 (n0 := 672) ch) :=
  (val_main_v233_apply x6 _).trans (congrArg _ (ext1 rfl))
theorem v234_at (n : Fin 64) (r : Fin 24) (x : Fin 32) (ch : Fin 672) : val_main_v234 (F := Ideal) x6 (ix4 (n0 := 64) (n1 := 24) (n2 := 32) (n3 := 672) n r x ch) = val_main_v233 (F := Ideal) x6 (ix4 (n0 := 1) (n1 := 1) (n2 := 1) (n3 := 672) 0 0 0 ch) :=
  (val_main_v234_apply x6 _).trans (congrArg _ (ext4 rfl rfl rfl rfl))
theorem v237_at (n : Fin 64) (r : Fin 24) (x : Fin 32) (ch : Fin 672) : val_main_v237 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨4 + r.val, by omega⟩ ⟨3 + x.val, by omega⟩ ch) :=
  (val_main_v237_apply x0 x1 x2 x3 x4 x5 _).trans (congrArg _ (ext4 rfl rfl rfl rfl))
theorem v239_at (b : Fin 672) : val_main_v239 (F := Ideal) x6 (ix2 (n0 := 1) (n1 := 672) 0 b) = x6 (ix2 (n0 := 25) (n1 := 672) 23 b) :=
  (val_main_v239_apply x6 _).trans (congrArg _ (ext2 rfl rfl))
theorem v240_at (ch : Fin 672) : val_main_v240 (F := Ideal) x6 (ix1 (n0 := 672) ch) = val_main_v239 (F := Ideal) x6 (ix2 (n0 := 1) (n1 := 672) 0 ch) :=
  (val_main_v240_apply x6 _).trans (congrArg _ (ext2 rfl (Fin.ext (Nat.mod_eq_of_lt ch.isLt))))
theorem v242_at (ch : Fin 672) : val_main_v242 (F := Ideal) x6 (ix4 (n0 := 1) (n1 := 1) (n2 := 1) (n3 := 672) 0 0 0 ch) = val_main_v241 (F := Ideal) x6 (ix1 (n0 := 672) ch) :=
  (val_main_v242_apply x6 _).trans (congrArg _ (ext1 rfl))
theorem v243_at (n : Fin 64) (r : Fin 24) (x : Fin 32) (ch : Fin 672) : val_main_v243 (F := Ideal) x6 (ix4 (n0 := 64) (n1 := 24) (n2 := 32) (n3 := 672) n r x ch) = val_main_v242 (F := Ideal) x6 (ix4 (n0 := 1) (n1 := 1) (n2 := 1) (n3 := 672) 0 0 0 ch) :=
  (val_main_v243_apply x6 _).trans (congrArg _ (ext4 rfl rfl rfl rfl))
theorem v246_at (n : Fin 64) (r : Fin 24) (x : Fin 32) (ch : Fin 672) : val_main_v246 (F := Ideal) x0 x1 x2 x3 x4 x5 (ix4 (n0 := 64) (n1 := 24) (n2 := 32) (n3 := 672) n r x ch) = val_main_v28 (F := Ideal) x0 x1 x2 x3 x4 x5 (ix4 (n0 := 64) (n1 := 28) (n2 := 36) (n3 := 672) n ⟨4 + r.val, by omega⟩ ⟨4 + x.val, by omega⟩ ch) :=
  (val_main_v246_apply x0 x1 x2 x3 x4 x5 _).trans (congrArg _ (ext4 rfl rfl rfl rfl))
theorem v248_at (b : Fin 672) : val_main_v248 (F := Ideal) x6 (ix2 (n0 := 1) (n1 := 672) 0 b) = x6 (ix2 (n0 := 25) (n1 := 672) 24 b) :=
  (val_main_v248_apply x6 _).trans (congrArg _ (ext2 rfl rfl))
theorem v249_at (ch : Fin 672) : val_main_v249 (F := Ideal) x6 (ix1 (n0 := 672) ch) = val_main_v248 (F := Ideal) x6 (ix2 (n0 := 1) (n1 := 672) 0 ch) :=
  (val_main_v249_apply x6 _).trans (congrArg _ (ext2 rfl (Fin.ext (Nat.mod_eq_of_lt ch.isLt))))
theorem v251_at (ch : Fin 672) : val_main_v251 (F := Ideal) x6 (ix4 (n0 := 1) (n1 := 1) (n2 := 1) (n3 := 672) 0 0 0 ch) = val_main_v250 (F := Ideal) x6 (ix1 (n0 := 672) ch) :=
  (val_main_v251_apply x6 _).trans (congrArg _ (ext1 rfl))
theorem v252_at (n : Fin 64) (r : Fin 24) (x : Fin 32) (ch : Fin 672) : val_main_v252 (F := Ideal) x6 (ix4 (n0 := 64) (n1 := 24) (n2 := 32) (n3 := 672) n r x ch) = val_main_v251 (F := Ideal) x6 (ix4 (n0 := 1) (n1 := 1) (n2 := 1) (n3 := 672) 0 0 0 ch) :=
  (val_main_v252_apply x6 _).trans (congrArg _ (ext4 rfl rfl rfl rfl))
theorem v256_at (ch : Fin 672) : val_main_v256 (F := Ideal) x5 (ix1 (n0 := 672) ch) = x5 s0 :=
  (val_main_v256_apply x5 _).trans (congrArg _ rfl)
theorem v258_at (ch : Fin 672) : val_main_v258 (F := Ideal) x5 x7 (ix4 (n0 := 1) (n1 := 1) (n2 := 1) (n3 := 672) 0 0 0 ch) = val_main_v257 (F := Ideal) x5 x7 (ix1 (n0 := 672) ch) :=
  (val_main_v258_apply x5 x7 _).trans (congrArg _ (ext1 rfl))
theorem v259_at (n : Fin 64) (r : Fin 24) (x : Fin 32) (ch : Fin 672) : val_main_v259 (F := Ideal) x5 x7 (ix4 (n0 := 64) (n1 := 24) (n2 := 32) (n3 := 672) n r x ch) = val_main_v258 (F := Ideal) x5 x7 (ix4 (n0 := 1) (n1 := 1) (n2 := 1) (n3 := 672) 0 0 0 ch) :=
  (val_main_v259_apply x5 x7 _).trans (congrArg _ (ext4 rfl rfl rfl rfl))
theorem v261_at (ch : Fin 672) : val_main_v261 (F := Ideal) x8 (ix4 (n0 := 1) (n1 := 1) (n2 := 1) (n3 := 672) 0 0 0 ch) = x8 (ix1 (n0 := 672) ch) :=
  (val_main_v261_apply x8 _).trans (congrArg _ (ext1 rfl))
theorem v262_at (n : Fin 64) (r : Fin 24) (x : Fin 32) (ch : Fin 672) : val_main_v262 (F := Ideal) x8 (ix4 (n0 := 64) (n1 := 24) (n2 := 32) (n3 := 672) n r x ch) = val_main_v261 (F := Ideal) x8 (ix4 (n0 := 1) (n1 := 1) (n2 := 1) (n3 := 672) 0 0 0 ch) :=
  (val_main_v262_apply x8 _).trans (congrArg _ (ext4 rfl rfl rfl rfl))
theorem v266_at (n : Fin 64) (r : Fin 24) (x : Fin 32) (ch : Fin 672) : val_main_v266 (F := Ideal)  (ix4 (n0 := 64) (n1 := 24) (n2 := 32) (n3 := 672) n r x ch) = val_main_cst_4 (F := Ideal)  s0 :=
  (val_main_v266_apply  _).trans (congrArg _ rfl)
theorem v268_at (n : Fin 64) (r : Fin 24) (x : Fin 32) (ch : Fin 672) : val_main_v268 (F := Ideal)  (ix4 (n0 := 64) (n1 := 24) (n2 := 32) (n3 := 672) n r x ch) = val_main_cst_5 (F := Ideal)  s0 :=
  (val_main_v268_apply  _).trans (congrArg _ rfl)
theorem v271_at (n : Fin 64) (r : Fin 24) (x : Fin 32) (ch : Fin 672) : val_main_v271 (F := Ideal) x9 (ix4 (n0 := 64) (n1 := 24) (n2 := 32) (n3 := 672) n r x ch) = x9 s0 :=
  (val_main_v271_apply x9 _).trans (congrArg _ rfl)
theorem v280_at (a : Fin 64) (b : Fin 672) : val_main_v280 (F := Ideal) x9 (ix2 (n0 := 64) (n1 := 672) a b) = x9 s0 :=
  (val_main_v280_apply x9 _).trans (congrArg _ rfl)
theorem v282_at (a : Fin 64) (b : Fin 672) : val_main_v282 (F := Ideal)  (ix2 (n0 := 64) (n1 := 672) a b) = val_main_cst_9 (F := Ideal)  s0 :=
  (val_main_v282_apply  _).trans (congrArg _ rfl)
theorem v284_at (a : Fin 64) (b : Fin 672) : val_main_v284 (F := Ideal) x10 (ix2 (n0 := 64) (n1 := 672) a b) = x10 s0 :=
  (val_main_v284_apply x10 _).trans (congrArg _ rfl)
theorem v296_at (a : Fin 64) (b : Fin 28) : val_main_v296 (F := Ideal) x0 x1 x2 x3 x4 x5 x6 x7 x8 x9 x10 x11 (ix2 (n0 := 64) (n1 := 28) a b) = ∑ k : Fin 672, (val_main_v292 (F := Ideal) x0 x1 x2 x3 x4 x5 x6 x7 x8 x9 x10 (ix2 (n0 := 64) (n1 := 672) a k) : EReal) * val_main_v295 (F := Ideal) x11 (ix2 (n0 := 672) (n1 := 28) k b) :=
  (val_main_v296_apply x0 x1 x2 x3 x4 x5 x6 x7 x8 x9 x10 x11 _).trans (Finset.sum_congr rfl fun k _ => congrArg₂ (fun u v : EReal => u * v) (congrArg _ (ext2 rfl rfl)) (congrArg _ (ext2 rfl rfl)))
theorem v297_at (ch : Fin 28) : val_main_v297 (F := Ideal) x10 (ix1 (n0 := 28) ch) = x10 s0 :=
  (val_main_v297_apply x10 _).trans (congrArg _ rfl)
theorem v299_at (b : Fin 28) : val_main_v299 (F := Ideal) x10 x12 (ix2 (n0 := 1) (n1 := 28) 0 b) = val_main_v298 (F := Ideal) x10 x12 (ix1 (n0 := 28) b) :=
  (val_main_v299_apply x10 x12 _).trans (congrArg _ (ext1 rfl))
theorem v300_at (a : Fin 64) (b : Fin 28) : val_main_v300 (F := Ideal) x10 x12 (ix2 (n0 := 64) (n1 := 28) a b) = val_main_v299 (F := Ideal) x10 x12 (ix2 (n0 := 1) (n1 := 28) 0 b) :=
  (val_main_v300_apply x10 x12 _).trans (congrArg _ (ext2 rfl rfl))
theorem v302_at (b : Fin 28) : val_main_v302 (F := Ideal) x13 (ix2 (n0 := 1) (n1 := 28) 0 b) = x13 (ix1 (n0 := 28) b) :=
  (val_main_v302_apply x13 _).trans (congrArg _ (ext1 rfl))
theorem v303_at (a : Fin 64) (b : Fin 28) : val_main_v303 (F := Ideal) x13 (ix2 (n0 := 64) (n1 := 28) a b) = val_main_v302 (F := Ideal) x13 (ix2 (n0 := 1) (n1 := 28) 0 b) :=
  (val_main_v303_apply x13 _).trans (congrArg _ (ext2 rfl rfl))
theorem v307_at (a : Fin 64) (b : Fin 28) : val_main_v307 (F := Ideal)  (ix2 (n0 := 64) (n1 := 28) a b) = val_main_cst_12 (F := Ideal)  s0 :=
  (val_main_v307_apply  _).trans (congrArg _ rfl)
theorem v309_at (a : Fin 64) (b : Fin 28) : val_main_v309 (F := Ideal)  (ix2 (n0 := 64) (n1 := 28) a b) = val_main_cst_13 (F := Ideal)  s0 :=
  (val_main_v309_apply  _).trans (congrArg _ rfl)
theorem v312_at (a : Fin 64) (b : Fin 28) : val_main_v312 (F := Ideal) x14 (ix2 (n0 := 64) (n1 := 28) a b) = x14 s0 :=
  (val_main_v312_apply x14 _).trans (congrArg _ rfl)
theorem v324_at (a : Fin 64) (b : Fin 672) : val_main_v324 (F := Ideal) x0 x1 x2 x3 x4 x5 x6 x7 x8 x9 x10 x11 x12 x13 x14 x15 (ix2 (n0 := 64) (n1 := 672) a b) = ∑ k : Fin 28, (val_main_v320 (F := Ideal) x0 x1 x2 x3 x4 x5 x6 x7 x8 x9 x10 x11 x12 x13 x14 (ix2 (n0 := 64) (n1 := 28) a k) : EReal) * val_main_v323 (F := Ideal) x15 (ix2 (n0 := 28) (n1 := 672) k b) :=
  (val_main_v324_apply x0 x1 x2 x3 x4 x5 x6 x7 x8 x9 x10 x11 x12 x13 x14 x15 _).trans (Finset.sum_congr rfl fun k _ => congrArg₂ (fun u v : EReal => u * v) (congrArg _ (ext2 rfl rfl)) (congrArg _ (ext2 rfl rfl)))
theorem v325_at (ch : Fin 672) : val_main_v325 (F := Ideal) x14 (ix1 (n0 := 672) ch) = x14 s0 :=
  (val_main_v325_apply x14 _).trans (congrArg _ rfl)
theorem v327_at (b : Fin 672) : val_main_v327 (F := Ideal) x14 x16 (ix2 (n0 := 1) (n1 := 672) 0 b) = val_main_v326 (F := Ideal) x14 x16 (ix1 (n0 := 672) b) :=
  (val_main_v327_apply x14 x16 _).trans (congrArg _ (ext1 rfl))
theorem v328_at (a : Fin 64) (b : Fin 672) : val_main_v328 (F := Ideal) x14 x16 (ix2 (n0 := 64) (n1 := 672) a b) = val_main_v327 (F := Ideal) x14 x16 (ix2 (n0 := 1) (n1 := 672) 0 b) :=
  (val_main_v328_apply x14 x16 _).trans (congrArg _ (ext2 rfl rfl))
theorem v330_at (b : Fin 672) : val_main_v330 (F := Ideal) x17 (ix2 (n0 := 1) (n1 := 672) 0 b) = x17 (ix1 (n0 := 672) b) :=
  (val_main_v330_apply x17 _).trans (congrArg _ (ext1 rfl))
theorem v331_at (a : Fin 64) (b : Fin 672) : val_main_v331 (F := Ideal) x17 (ix2 (n0 := 64) (n1 := 672) a b) = val_main_v330 (F := Ideal) x17 (ix2 (n0 := 1) (n1 := 672) 0 b) :=
  (val_main_v331_apply x17 _).trans (congrArg _ (ext2 rfl rfl))
theorem v335_at (a : Fin 64) (b : Fin 672) : val_main_v335 (F := Ideal)  (ix2 (n0 := 64) (n1 := 672) a b) = val_main_cst_16 (F := Ideal)  s0 :=
  (val_main_v335_apply  _).trans (congrArg _ rfl)
theorem v337_at (a : Fin 64) (b : Fin 672) : val_main_v337 (F := Ideal)  (ix2 (n0 := 64) (n1 := 672) a b) = val_main_cst_17 (F := Ideal)  s0 :=
  (val_main_v337_apply  _).trans (congrArg _ rfl)
theorem v341_at (n : Fin 64) (r : Fin 24) (x : Fin 32) (ch : Fin 672) : val_main_v341 (F := Ideal) x9 (ix4 (n0 := 64) (n1 := 24) (n2 := 32) (n3 := 672) n r x ch) = x9 s0 :=
  (val_main_v341_apply x9 _).trans (congrArg _ rfl)
theorem v343_at (n : Fin 64) (ch : Fin 672) : val_main_v343 (F := Ideal) x0 x1 x2 x3 x4 x5 x6 x7 x8 x9 x10 x11 x12 x13 x14 x15 x16 x17 (ix4 (n0 := 64) (n1 := 1) (n2 := 1) (n3 := 672) n 0 0 ch) = val_main_v338 (F := Ideal) x0 x1 x2 x3 x4 x5 x6 x7 x8 x9 x10 x11 x12 x13 x14 x15 x16 x17 (ix2 (n0 := 64) (n1 := 672) n ch) :=
  (val_main_v343_apply x0 x1 x2 x3 x4 x5 x6 x7 x8 x9 x10 x11 x12 x13 x14 x15 x16 x17 _).trans (congrArg _ (ext2 rfl rfl))
theorem v344_at (n : Fin 64) (r : Fin 24) (x : Fin 32) (ch : Fin 672) : val_main_v344 (F := Ideal) x0 x1 x2 x3 x4 x5 x6 x7 x8 x9 x10 x11 x12 x13 x14 x15 x16 x17 (ix4 (n0 := 64) (n1 := 24) (n2 := 32) (n3 := 672) n r x ch) = val_main_v343 (F := Ideal) x0 x1 x2 x3 x4 x5 x6 x7 x8 x9 x10 x11 x12 x13 x14 x15 x16 x17 (ix4 (n0 := 64) (n1 := 1) (n2 := 1) (n3 := 672) n 0 0 ch) :=
  (val_main_v344_apply x0 x1 x2 x3 x4 x5 x6 x7 x8 x9 x10 x11 x12 x13 x14 x15 x16 x17 _).trans (congrArg _ (ext4 rfl rfl rfl rfl))
theorem v346_at (n : Fin 64) (r : Fin 24) (x : Fin 32) (ch : Fin 672) : val_main_v346 (F := Ideal) x18 (ix4 (n0 := 64) (n1 := 24) (n2 := 32) (n3 := 672) n r x ch) = x18 s0 :=
  (val_main_v346_apply x18 _).trans (congrArg _ rfl)
theorem v358_at (n : Fin 64) (r : Fin 24) (x : Fin 32) (ch : Fin 112) : val_main_v358 (F := Ideal) x0 x1 x2 x3 x4 x5 x6 x7 x8 x9 x10 x11 x12 x13 x14 x15 x16 x17 x18 x19 (ix4 (n0 := 64) (n1 := 24) (n2 := 32) (n3 := 112) n r x ch) = ∑ k : Fin 672, (val_main_v354 (F := Ideal) x0 x1 x2 x3 x4 x5 x6 x7 x8 x9 x10 x11 x12 x13 x14 x15 x16 x17 x18 (ix4 (n0 := 64) (n1 := 24) (n2 := 32) (n3 := 672) n r x k) : EReal) * val_main_v357 (F := Ideal) x19 (ix2 (n0 := 672) (n1 := 112) k ch) :=
  (val_main_v358_apply x0 x1 x2 x3 x4 x5 x6 x7 x8 x9 x10 x11 x12 x13 x14 x15 x16 x17 x18 x19 _).trans (Finset.sum_congr rfl fun k _ => congrArg₂ (fun u v : EReal => u * v) (congrArg _ (ext4 rfl rfl rfl rfl)) (congrArg _ (ext2 rfl rfl)))
theorem v359_at (ch : Fin 112) : val_main_v359 (F := Ideal) x18 (ix1 (n0 := 112) ch) = x18 s0 :=
  (val_main_v359_apply x18 _).trans (congrArg _ rfl)
theorem v361_at (ch : Fin 112) : val_main_v361 (F := Ideal) x18 x20 (ix4 (n0 := 1) (n1 := 1) (n2 := 1) (n3 := 112) 0 0 0 ch) = val_main_v360 (F := Ideal) x18 x20 (ix1 (n0 := 112) ch) :=
  (val_main_v361_apply x18 x20 _).trans (congrArg _ (ext1 rfl))
theorem v362_at (n : Fin 64) (r : Fin 24) (x : Fin 32) (ch : Fin 112) : val_main_v362 (F := Ideal) x18 x20 (ix4 (n0 := 64) (n1 := 24) (n2 := 32) (n3 := 112) n r x ch) = val_main_v361 (F := Ideal) x18 x20 (ix4 (n0 := 1) (n1 := 1) (n2 := 1) (n3 := 112) 0 0 0 ch) :=
  (val_main_v362_apply x18 x20 _).trans (congrArg _ (ext4 rfl rfl rfl rfl))
theorem v364_at (ch : Fin 112) : val_main_v364 (F := Ideal) x21 (ix4 (n0 := 1) (n1 := 1) (n2 := 1) (n3 := 112) 0 0 0 ch) = x21 (ix1 (n0 := 112) ch) :=
  (val_main_v364_apply x21 _).trans (congrArg _ (ext1 rfl))
theorem v365_at (n : Fin 64) (r : Fin 24) (x : Fin 32) (ch : Fin 112) : val_main_v365 (F := Ideal) x21 (ix4 (n0 := 64) (n1 := 24) (n2 := 32) (n3 := 112) n r x ch) = val_main_v364 (F := Ideal) x21 (ix4 (n0 := 1) (n1 := 1) (n2 := 1) (n3 := 112) 0 0 0 ch) :=
  (val_main_v365_apply x21 _).trans (congrArg _ (ext4 rfl rfl rfl rfl))
theorem v369_at (n : Fin 64) (r : Fin 24) (x : Fin 32) (ch : Fin 112) : val_main_v369 (F := Ideal) x1 (ix4 (n0 := 64) (n1 := 24) (n2 := 32) (n3 := 112) n r x ch) = x1 s0 :=
  (val_main_v369_apply x1 _).trans (congrArg _ rfl)
theorem v372_at (n : Fin 64) (r : Fin 24) (x : Fin 32) (ch : Fin 112) : val_main_v372 (F := Ideal) x22 (ix4 (n0 := 64) (n1 := 24) (n2 := 32) (n3 := 112) n r x ch) = x22 s0 :=
  (val_main_v372_apply x22 _).trans (congrArg _ rfl)
end At
theorem cast8 (a : BitVec 8) : (((a.signExtend 32).toInt : ℝ) : EReal) = ((a.toInt : ℝ) : EReal) := by
  rw [BitVec.toInt_signExtend_of_le (by decide)]
theorem c2 (i) : (val_main_v2 (F := Ideal) x0 i : EReal) = ((((x0 i).toInt : ℝ)) : EReal) := by
  rw [val_main_v2_apply, val_main_v1_apply, val_main_v0_apply]
  exact cast8 _
theorem c5 (i) : (val_main_v5 (F := Ideal) x2 i : EReal) = ((((x2 i).toInt : ℝ)) : EReal) := by
  rw [val_main_v5_apply, val_main_v4_apply, val_main_v3_apply]
  exact cast8 _
theorem c292 (i) : (val_main_v292 (F := Ideal) x0 x1 x2 x3 x4 x5 x6 x7 x8 x9 x10 i : EReal) = ((((val_main_v289 (F := Ideal) x0 x1 x2 x3 x4 x5 x6 x7 x8 x9 x10 i).toInt : ℝ)) : EReal) := by
  rw [val_main_v292_apply, val_main_v291_apply, val_main_v290_apply]
  exact cast8 _
theorem c295 (i) : (val_main_v295 (F := Ideal) x11 i : EReal) = ((((x11 i).toInt : ℝ)) : EReal) := by
  rw [val_main_v295_apply, val_main_v294_apply, val_main_v293_apply]
  exact cast8 _
theorem c320 (i) : (val_main_v320 (F := Ideal) x0 x1 x2 x3 x4 x5 x6 x7 x8 x9 x10 x11 x12 x13 x14 i : EReal) = ((((val_main_v317 (F := Ideal) x0 x1 x2 x3 x4 x5 x6 x7 x8 x9 x10 x11 x12 x13 x14 i).toInt : ℝ)) : EReal) := by
  rw [val_main_v320_apply, val_main_v319_apply, val_main_v318_apply]
  exact cast8 _
theorem c323 (i) : (val_main_v323 (F := Ideal) x15 i : EReal) = ((((x15 i).toInt : ℝ)) : EReal) := by
  rw [val_main_v323_apply, val_main_v322_apply, val_main_v321_apply]
  exact cast8 _
theorem c354 (i) : (val_main_v354 (F := Ideal) x0 x1 x2 x3 x4 x5 x6 x7 x8 x9 x10 x11 x12 x13 x14 x15 x16 x17 x18 i : EReal) = ((((val_main_v351 (F := Ideal) x0 x1 x2 x3 x4 x5 x6 x7 x8 x9 x10 x11 x12 x13 x14 x15 x16 x17 x18 i).toInt : ℝ)) : EReal) := by
  rw [val_main_v354_apply, val_main_v353_apply, val_main_v352_apply]
  exact cast8 _
theorem c357 (i) : (val_main_v357 (F := Ideal) x19 i : EReal) = ((((x19 i).toInt : ℝ)) : EReal) := by
  rw [val_main_v357_apply, val_main_v356_apply, val_main_v355_apply]
  exact cast8 _
theorem c340 (i) : (val_main_v340 (F := Ideal) x0 x1 x2 x3 x4 x5 x6 x7 x8 x9 i : EReal) = ((((val_main_v276 (F := Ideal) x0 x1 x2 x3 x4 x5 x6 x7 x8 x9 i).toInt : ℝ)) : EReal) := by
  rw [val_main_v340_apply, val_main_v339_apply]
  exact cast8 _
theorem c368 (i) : (val_main_v368 (F := Ideal) x0 i : EReal) = ((((x0 i).toInt : ℝ)) : EReal) := by
  rw [val_main_v368_apply, val_main_v367_apply]
  exact cast8 _
theorem q27 (i) : val_main_v27 (F := Ideal) x0 x1 x2 x3 x4 x5 i = rc (val_main_v23 (F := Ideal) x0 x1 x2 x3 x4 x5 i) := by
  rw [val_main_v27_apply, val_main_v26_apply, val_main_v25_apply, val_main_call1_v4_apply, val_main_call1_v2_apply, val_main_call1_v1_apply, val_main_v24_apply]
  rfl
theorem q276 (i) : val_main_v276 (F := Ideal) x0 x1 x2 x3 x4 x5 x6 x7 x8 x9 i = rc (val_main_v272 (F := Ideal) x0 x1 x2 x3 x4 x5 x6 x7 x8 x9 i) := by
  rw [val_main_v276_apply, val_main_v275_apply, val_main_v274_apply, val_main_call4_v4_apply, val_main_call4_v2_apply, val_main_call4_v1_apply, val_main_v273_apply]
  rfl
theorem q289 (i) : val_main_v289 (F := Ideal) x0 x1 x2 x3 x4 x5 x6 x7 x8 x9 x10 i = rc (val_main_v285 (F := Ideal) x0 x1 x2 x3 x4 x5 x6 x7 x8 x9 x10 i) := by
  rw [val_main_v289_apply, val_main_v288_apply, val_main_v287_apply, val_main_call6_v4_apply, val_main_call6_v2_apply, val_main_call6_v1_apply, val_main_v286_apply]
  rfl
theorem q317 (i) : val_main_v317 (F := Ideal) x0 x1 x2 x3 x4 x5 x6 x7 x8 x9 x10 x11 x12 x13 x14 i = rc (val_main_v313 (F := Ideal) x0 x1 x2 x3 x4 x5 x6 x7 x8 x9 x10 x11 x12 x13 x14 i) := by
  rw [val_main_v317_apply, val_main_v316_apply, val_main_v315_apply, val_main_call8_v4_apply, val_main_call8_v2_apply, val_main_call8_v1_apply, val_main_v314_apply]
  rfl
theorem q351 (i) : val_main_v351 (F := Ideal) x0 x1 x2 x3 x4 x5 x6 x7 x8 x9 x10 x11 x12 x13 x14 x15 x16 x17 x18 i = rc (val_main_v347 (F := Ideal) x0 x1 x2 x3 x4 x5 x6 x7 x8 x9 x10 x11 x12 x13 x14 x15 x16 x17 x18 i) := by
  rw [val_main_v351_apply, val_main_v350_apply, val_main_v349_apply, val_main_call10_v4_apply, val_main_call10_v2_apply, val_main_call10_v1_apply, val_main_v348_apply]
  rfl
theorem q377 (i) : val_main_v377 (F := Ideal) x0 x1 x2 x3 x4 x5 x6 x7 x8 x9 x10 x11 x12 x13 x14 x15 x16 x17 x18 x19 x20 x21 x22 i = rc (val_main_v373 (F := Ideal) x0 x1 x2 x3 x4 x5 x6 x7 x8 x9 x10 x11 x12 x13 x14 x15 x16 x17 x18 x19 x20 x21 x22 i) := by
  rw [val_main_v377_apply, val_main_v376_apply, val_main_v375_apply, val_main_call12_v4_apply, val_main_call12_v2_apply, val_main_call12_v1_apply, val_main_v374_apply]
  rfl
theorem l14 (i) : val_main_v20 (F := Ideal) x0 x1 x2 x3 x4 i = Ideal.logistic (val_main_v14 (F := Ideal) x0 x1 x2 x3 x4 i : EReal) := by
  rw [val_main_v20_apply, val_main_v19_apply, val_main_v18_apply, val_main_v17_apply, val_main_v16_apply, val_main_v15_apply]
  show Ideal.div (Ideal.ofBits .f32 0x3F800000#32) (Ideal.ofBits .f32 0x3F800000#32 + Ideal.exp (-(val_main_v14 (F := Ideal) x0 x1 x2 x3 x4 i : EReal))) = _
  rw [one_eq]
  rfl
theorem d14 (i) : val_main_v23 (F := Ideal) x0 x1 x2 x3 x4 x5 i = Ideal.div ((val_main_v14 (F := Ideal) x0 x1 x2 x3 x4 i : EReal) * Ideal.logistic (val_main_v14 (F := Ideal) x0 x1 x2 x3 x4 i : EReal)) (x5 s0) := by
  rw [val_main_v23_apply, val_main_v21_apply, l14, val_main_v22_apply]
  rfl
theorem l263 (i) : val_main_v269 (F := Ideal) x0 x1 x2 x3 x4 x5 x6 x7 x8 i = Ideal.logistic (val_main_v263 (F := Ideal) x0 x1 x2 x3 x4 x5 x6 x7 x8 i : EReal) := by
  rw [val_main_v269_apply, val_main_v268_apply, val_main_v267_apply, val_main_v266_apply, val_main_v265_apply, val_main_v264_apply]
  show Ideal.div (Ideal.ofBits .f32 0x3F800000#32) (Ideal.ofBits .f32 0x3F800000#32 + Ideal.exp (-(val_main_v263 (F := Ideal) x0 x1 x2 x3 x4 x5 x6 x7 x8 i : EReal))) = _
  rw [one_eq]
  rfl
theorem d263 (i) : val_main_v272 (F := Ideal) x0 x1 x2 x3 x4 x5 x6 x7 x8 x9 i = Ideal.div ((val_main_v263 (F := Ideal) x0 x1 x2 x3 x4 x5 x6 x7 x8 i : EReal) * Ideal.logistic (val_main_v263 (F := Ideal) x0 x1 x2 x3 x4 x5 x6 x7 x8 i : EReal)) (x9 s0) := by
  rw [val_main_v272_apply, val_main_v270_apply, l263, val_main_v271_apply]
  rfl
theorem l304 (i) : val_main_v310 (F := Ideal) x0 x1 x2 x3 x4 x5 x6 x7 x8 x9 x10 x11 x12 x13 i = Ideal.logistic (val_main_v304 (F := Ideal) x0 x1 x2 x3 x4 x5 x6 x7 x8 x9 x10 x11 x12 x13 i : EReal) := by
  rw [val_main_v310_apply, val_main_v309_apply, val_main_v308_apply, val_main_v307_apply, val_main_v306_apply, val_main_v305_apply]
  show Ideal.div (Ideal.ofBits .f32 0x3F800000#32) (Ideal.ofBits .f32 0x3F800000#32 + Ideal.exp (-(val_main_v304 (F := Ideal) x0 x1 x2 x3 x4 x5 x6 x7 x8 x9 x10 x11 x12 x13 i : EReal))) = _
  rw [one_eq]
  rfl
theorem d304 (i) : val_main_v313 (F := Ideal) x0 x1 x2 x3 x4 x5 x6 x7 x8 x9 x10 x11 x12 x13 x14 i = Ideal.div ((val_main_v304 (F := Ideal) x0 x1 x2 x3 x4 x5 x6 x7 x8 x9 x10 x11 x12 x13 i : EReal) * Ideal.logistic (val_main_v304 (F := Ideal) x0 x1 x2 x3 x4 x5 x6 x7 x8 x9 x10 x11 x12 x13 i : EReal)) (x14 s0) := by
  rw [val_main_v313_apply, val_main_v311_apply, l304, val_main_v312_apply]
  rfl
theorem l332 (i) : val_main_v338 (F := Ideal) x0 x1 x2 x3 x4 x5 x6 x7 x8 x9 x10 x11 x12 x13 x14 x15 x16 x17 i = Ideal.logistic (val_main_v332 (F := Ideal) x0 x1 x2 x3 x4 x5 x6 x7 x8 x9 x10 x11 x12 x13 x14 x15 x16 x17 i : EReal) := by
  rw [val_main_v338_apply, val_main_v337_apply, val_main_v336_apply, val_main_v335_apply, val_main_v334_apply, val_main_v333_apply]
  show Ideal.div (Ideal.ofBits .f32 0x3F800000#32) (Ideal.ofBits .f32 0x3F800000#32 + Ideal.exp (-(val_main_v332 (F := Ideal) x0 x1 x2 x3 x4 x5 x6 x7 x8 x9 x10 x11 x12 x13 x14 x15 x16 x17 i : EReal))) = _
  rw [one_eq]
  rfl
theorem z14 (n : Fin 64) (r : Fin 24) (x : Fin 32) (ch : Fin 672) : val_main_v14 (F := Ideal) x0 x1 x2 x3 x4 (ix4 (n0 := 64) (n1 := 24) (n2 := 32) (n3 := 672) n r x ch) = (∑ k : Fin 112, (((x0 (ix4 (n0 := 64) (n1 := 24) (n2 := 32) (n3 := 112) n r x k)).toInt : ℝ) : EReal) * (((x2 (ix2 (n0 := 112) (n1 := 672) k ch)).toInt : ℝ) : EReal)) * ((x1 s0 : EReal) * x3 (ix1 (n0 := 672) ch)) + x4 (ix1 (n0 := 672) ch) := by
  rw [val_main_v14_apply, val_main_v11_apply, v6_at, v10_at, v9_at, val_main_v8_apply, v7_at, v13_at, v12_at]
  simp only [c2, c5]; rfl
theorem p28_in (n : Fin 64) (r' : Fin 28) (y : Fin 36) (ch : Fin 672) (r : Fin 24) (x : Fin 32) (hr : r'.val = 2 + r.val) (hy : y.val = 2 + x.val) :
    val_main_v28 (F := Ideal) x0 x1 x2 x3 x4 x5 (ix4 (n0 := 64) (n1 := 28) (n2 := 36) (n3 := 672) n r' y ch) = val_main_v27 (F := Ideal) x0 x1 x2 x3 x4 x5 (ix4 (n0 := 64) (n1 := 24) (n2 := 32) (n3 := 672) n r x ch) := by
  unfold val_main_v28
  exact pad_apply_of_inside _ _ _ _ _ _ _ _ (ix4 (n0 := 64) (n1 := 24) (n2 := 32) (n3 := 672) n r x ch) (fun a => match a with
    | ⟨0, _⟩ => by show n.val = 0 + n.val * (0 + 1); omega
    | ⟨1, _⟩ => by show r'.val = 2 + r.val * (0 + 1); omega
    | ⟨2, _⟩ => by show y.val = 2 + x.val * (0 + 1); omega
    | ⟨3, _⟩ => by show ch.val = 0 + ch.val * (0 + 1); omega)
theorem p28_out (n : Fin 64) (r' : Fin 28) (y : Fin 36) (ch : Fin 672) (h : ¬ (2 ≤ r'.val ∧ r'.val < 26 ∧ 2 ≤ y.val ∧ y.val < 34)) :
    val_main_v28 (F := Ideal) x0 x1 x2 x3 x4 x5 (ix4 (n0 := 64) (n1 := 28) (n2 := 36) (n3 := 672) n r' y ch) = 0#8 := by
  unfold val_main_v28
  by_cases hr : 2 ≤ r'.val ∧ r'.val < 26
  · refine (pad_apply_of_not_inside _ _ _ _ _ _ _ _ (2 : Fin 4) ?_).trans (by decide)
    show ¬ (2 ≤ y.val ∧ (y.val - 2) % (0 + 1) = 0 ∧ (y.val - 2) / (0 + 1) < 32)
    omega
  · refine (pad_apply_of_not_inside _ _ _ _ _ _ _ _ (1 : Fin 4) ?_).trans (by decide)
    show ¬ (2 ≤ r'.val ∧ (r'.val - 2) % (0 + 1) = 0 ∧ (r'.val - 2) / (0 + 1) < 24)
    omega
/-- Tap `t` of the window, in 32-bit integers. -/
def tapR (n : Fin 64) (r : Fin 24) (x : Fin 32) (ch : Fin 672) (t : Fin 25) : BitVec 32 :=
  (val_main_v28 (F := Ideal) x0 x1 x2 x3 x4 x5 (ix4 (n0 := 64) (n1 := 28) (n2 := 36) (n3 := 672) n ⟨t.val / 5 + r.val, by omega⟩ ⟨t.val % 5 + x.val, by omega⟩ ch)).signExtend 32 * (x6 (ix2 (n0 := 25) (n1 := 672) t ch)).signExtend 32
theorem t0 (n : Fin 64) (r : Fin 24) (x : Fin 32) (ch : Fin 672) : val_main_v37 (F := Ideal) x0 x1 x2 x3 x4 x5 x6 (ix4 (n0 := 64) (n1 := 24) (n2 := 32) (n3 := 672) n r x ch) = tapR x0 x1 x2 x3 x4 x5 x6 n r x ch 0 := by
  rw [val_main_v37_apply, val_main_v31_apply, v30_at, v36_at, v35_at, val_main_v34_apply, v33_at, v32_at]
  rfl
theorem t1 (n : Fin 64) (r : Fin 24) (x : Fin 32) (ch : Fin 672) : val_main_v46 (F := Ideal) x0 x1 x2 x3 x4 x5 x6 (ix4 (n0 := 64) (n1 := 24) (n2 := 32) (n3 := 672) n r x ch) = tapR x0 x1 x2 x3 x4 x5 x6 n r x ch 1 := by
  rw [val_main_v46_apply, val_main_v40_apply, v39_at, v45_at, v44_at, val_main_v43_apply, v42_at, v41_at]
  rfl
theorem t2 (n : Fin 64) (r : Fin 24) (x : Fin 32) (ch : Fin 672) : val_main_v55 (F := Ideal) x0 x1 x2 x3 x4 x5 x6 (ix4 (n0 := 64) (n1 := 24) (n2 := 32) (n3 := 672) n r x ch) = tapR x0 x1 x2 x3 x4 x5 x6 n r x ch 2 := by
  rw [val_main_v55_apply, val_main_v49_apply, v48_at, v54_at, v53_at, val_main_v52_apply, v51_at, v50_at]
  rfl
theorem t3 (n : Fin 64) (r : Fin 24) (x : Fin 32) (ch : Fin 672) : val_main_v64 (F := Ideal) x0 x1 x2 x3 x4 x5 x6 (ix4 (n0 := 64) (n1 := 24) (n2 := 32) (n3 := 672) n r x ch) = tapR x0 x1 x2 x3 x4 x5 x6 n r x ch 3 := by
  rw [val_main_v64_apply, val_main_v58_apply, v57_at, v63_at, v62_at, val_main_v61_apply, v60_at, v59_at]
  rfl
theorem t4 (n : Fin 64) (r : Fin 24) (x : Fin 32) (ch : Fin 672) : val_main_v73 (F := Ideal) x0 x1 x2 x3 x4 x5 x6 (ix4 (n0 := 64) (n1 := 24) (n2 := 32) (n3 := 672) n r x ch) = tapR x0 x1 x2 x3 x4 x5 x6 n r x ch 4 := by
  rw [val_main_v73_apply, val_main_v67_apply, v66_at, v72_at, v71_at, val_main_v70_apply, v69_at, v68_at]
  rfl
theorem t5 (n : Fin 64) (r : Fin 24) (x : Fin 32) (ch : Fin 672) : val_main_v82 (F := Ideal) x0 x1 x2 x3 x4 x5 x6 (ix4 (n0 := 64) (n1 := 24) (n2 := 32) (n3 := 672) n r x ch) = tapR x0 x1 x2 x3 x4 x5 x6 n r x ch 5 := by
  rw [val_main_v82_apply, val_main_v76_apply, v75_at, v81_at, v80_at, val_main_v79_apply, v78_at, v77_at]
  rfl
theorem t6 (n : Fin 64) (r : Fin 24) (x : Fin 32) (ch : Fin 672) : val_main_v91 (F := Ideal) x0 x1 x2 x3 x4 x5 x6 (ix4 (n0 := 64) (n1 := 24) (n2 := 32) (n3 := 672) n r x ch) = tapR x0 x1 x2 x3 x4 x5 x6 n r x ch 6 := by
  rw [val_main_v91_apply, val_main_v85_apply, v84_at, v90_at, v89_at, val_main_v88_apply, v87_at, v86_at]
  rfl
theorem t7 (n : Fin 64) (r : Fin 24) (x : Fin 32) (ch : Fin 672) : val_main_v100 (F := Ideal) x0 x1 x2 x3 x4 x5 x6 (ix4 (n0 := 64) (n1 := 24) (n2 := 32) (n3 := 672) n r x ch) = tapR x0 x1 x2 x3 x4 x5 x6 n r x ch 7 := by
  rw [val_main_v100_apply, val_main_v94_apply, v93_at, v99_at, v98_at, val_main_v97_apply, v96_at, v95_at]
  rfl
theorem t8 (n : Fin 64) (r : Fin 24) (x : Fin 32) (ch : Fin 672) : val_main_v109 (F := Ideal) x0 x1 x2 x3 x4 x5 x6 (ix4 (n0 := 64) (n1 := 24) (n2 := 32) (n3 := 672) n r x ch) = tapR x0 x1 x2 x3 x4 x5 x6 n r x ch 8 := by
  rw [val_main_v109_apply, val_main_v103_apply, v102_at, v108_at, v107_at, val_main_v106_apply, v105_at, v104_at]
  rfl
theorem t9 (n : Fin 64) (r : Fin 24) (x : Fin 32) (ch : Fin 672) : val_main_v118 (F := Ideal) x0 x1 x2 x3 x4 x5 x6 (ix4 (n0 := 64) (n1 := 24) (n2 := 32) (n3 := 672) n r x ch) = tapR x0 x1 x2 x3 x4 x5 x6 n r x ch 9 := by
  rw [val_main_v118_apply, val_main_v112_apply, v111_at, v117_at, v116_at, val_main_v115_apply, v114_at, v113_at]
  rfl
theorem t10 (n : Fin 64) (r : Fin 24) (x : Fin 32) (ch : Fin 672) : val_main_v127 (F := Ideal) x0 x1 x2 x3 x4 x5 x6 (ix4 (n0 := 64) (n1 := 24) (n2 := 32) (n3 := 672) n r x ch) = tapR x0 x1 x2 x3 x4 x5 x6 n r x ch 10 := by
  rw [val_main_v127_apply, val_main_v121_apply, v120_at, v126_at, v125_at, val_main_v124_apply, v123_at, v122_at]
  rfl
theorem t11 (n : Fin 64) (r : Fin 24) (x : Fin 32) (ch : Fin 672) : val_main_v136 (F := Ideal) x0 x1 x2 x3 x4 x5 x6 (ix4 (n0 := 64) (n1 := 24) (n2 := 32) (n3 := 672) n r x ch) = tapR x0 x1 x2 x3 x4 x5 x6 n r x ch 11 := by
  rw [val_main_v136_apply, val_main_v130_apply, v129_at, v135_at, v134_at, val_main_v133_apply, v132_at, v131_at]
  rfl
theorem t12 (n : Fin 64) (r : Fin 24) (x : Fin 32) (ch : Fin 672) : val_main_v145 (F := Ideal) x0 x1 x2 x3 x4 x5 x6 (ix4 (n0 := 64) (n1 := 24) (n2 := 32) (n3 := 672) n r x ch) = tapR x0 x1 x2 x3 x4 x5 x6 n r x ch 12 := by
  rw [val_main_v145_apply, val_main_v139_apply, v138_at, v144_at, v143_at, val_main_v142_apply, v141_at, v140_at]
  rfl
theorem t13 (n : Fin 64) (r : Fin 24) (x : Fin 32) (ch : Fin 672) : val_main_v154 (F := Ideal) x0 x1 x2 x3 x4 x5 x6 (ix4 (n0 := 64) (n1 := 24) (n2 := 32) (n3 := 672) n r x ch) = tapR x0 x1 x2 x3 x4 x5 x6 n r x ch 13 := by
  rw [val_main_v154_apply, val_main_v148_apply, v147_at, v153_at, v152_at, val_main_v151_apply, v150_at, v149_at]
  rfl
theorem t14 (n : Fin 64) (r : Fin 24) (x : Fin 32) (ch : Fin 672) : val_main_v163 (F := Ideal) x0 x1 x2 x3 x4 x5 x6 (ix4 (n0 := 64) (n1 := 24) (n2 := 32) (n3 := 672) n r x ch) = tapR x0 x1 x2 x3 x4 x5 x6 n r x ch 14 := by
  rw [val_main_v163_apply, val_main_v157_apply, v156_at, v162_at, v161_at, val_main_v160_apply, v159_at, v158_at]
  rfl
theorem t15 (n : Fin 64) (r : Fin 24) (x : Fin 32) (ch : Fin 672) : val_main_v172 (F := Ideal) x0 x1 x2 x3 x4 x5 x6 (ix4 (n0 := 64) (n1 := 24) (n2 := 32) (n3 := 672) n r x ch) = tapR x0 x1 x2 x3 x4 x5 x6 n r x ch 15 := by
  rw [val_main_v172_apply, val_main_v166_apply, v165_at, v171_at, v170_at, val_main_v169_apply, v168_at, v167_at]
  rfl
theorem t16 (n : Fin 64) (r : Fin 24) (x : Fin 32) (ch : Fin 672) : val_main_v181 (F := Ideal) x0 x1 x2 x3 x4 x5 x6 (ix4 (n0 := 64) (n1 := 24) (n2 := 32) (n3 := 672) n r x ch) = tapR x0 x1 x2 x3 x4 x5 x6 n r x ch 16 := by
  rw [val_main_v181_apply, val_main_v175_apply, v174_at, v180_at, v179_at, val_main_v178_apply, v177_at, v176_at]
  rfl
theorem t17 (n : Fin 64) (r : Fin 24) (x : Fin 32) (ch : Fin 672) : val_main_v190 (F := Ideal) x0 x1 x2 x3 x4 x5 x6 (ix4 (n0 := 64) (n1 := 24) (n2 := 32) (n3 := 672) n r x ch) = tapR x0 x1 x2 x3 x4 x5 x6 n r x ch 17 := by
  rw [val_main_v190_apply, val_main_v184_apply, v183_at, v189_at, v188_at, val_main_v187_apply, v186_at, v185_at]
  rfl
theorem t18 (n : Fin 64) (r : Fin 24) (x : Fin 32) (ch : Fin 672) : val_main_v199 (F := Ideal) x0 x1 x2 x3 x4 x5 x6 (ix4 (n0 := 64) (n1 := 24) (n2 := 32) (n3 := 672) n r x ch) = tapR x0 x1 x2 x3 x4 x5 x6 n r x ch 18 := by
  rw [val_main_v199_apply, val_main_v193_apply, v192_at, v198_at, v197_at, val_main_v196_apply, v195_at, v194_at]
  rfl
theorem t19 (n : Fin 64) (r : Fin 24) (x : Fin 32) (ch : Fin 672) : val_main_v208 (F := Ideal) x0 x1 x2 x3 x4 x5 x6 (ix4 (n0 := 64) (n1 := 24) (n2 := 32) (n3 := 672) n r x ch) = tapR x0 x1 x2 x3 x4 x5 x6 n r x ch 19 := by
  rw [val_main_v208_apply, val_main_v202_apply, v201_at, v207_at, v206_at, val_main_v205_apply, v204_at, v203_at]
  rfl
theorem t20 (n : Fin 64) (r : Fin 24) (x : Fin 32) (ch : Fin 672) : val_main_v217 (F := Ideal) x0 x1 x2 x3 x4 x5 x6 (ix4 (n0 := 64) (n1 := 24) (n2 := 32) (n3 := 672) n r x ch) = tapR x0 x1 x2 x3 x4 x5 x6 n r x ch 20 := by
  rw [val_main_v217_apply, val_main_v211_apply, v210_at, v216_at, v215_at, val_main_v214_apply, v213_at, v212_at]
  rfl
theorem t21 (n : Fin 64) (r : Fin 24) (x : Fin 32) (ch : Fin 672) : val_main_v226 (F := Ideal) x0 x1 x2 x3 x4 x5 x6 (ix4 (n0 := 64) (n1 := 24) (n2 := 32) (n3 := 672) n r x ch) = tapR x0 x1 x2 x3 x4 x5 x6 n r x ch 21 := by
  rw [val_main_v226_apply, val_main_v220_apply, v219_at, v225_at, v224_at, val_main_v223_apply, v222_at, v221_at]
  rfl
theorem t22 (n : Fin 64) (r : Fin 24) (x : Fin 32) (ch : Fin 672) : val_main_v235 (F := Ideal) x0 x1 x2 x3 x4 x5 x6 (ix4 (n0 := 64) (n1 := 24) (n2 := 32) (n3 := 672) n r x ch) = tapR x0 x1 x2 x3 x4 x5 x6 n r x ch 22 := by
  rw [val_main_v235_apply, val_main_v229_apply, v228_at, v234_at, v233_at, val_main_v232_apply, v231_at, v230_at]
  rfl
theorem t23 (n : Fin 64) (r : Fin 24) (x : Fin 32) (ch : Fin 672) : val_main_v244 (F := Ideal) x0 x1 x2 x3 x4 x5 x6 (ix4 (n0 := 64) (n1 := 24) (n2 := 32) (n3 := 672) n r x ch) = tapR x0 x1 x2 x3 x4 x5 x6 n r x ch 23 := by
  rw [val_main_v244_apply, val_main_v238_apply, v237_at, v243_at, v242_at, val_main_v241_apply, v240_at, v239_at]
  rfl
theorem t24 (n : Fin 64) (r : Fin 24) (x : Fin 32) (ch : Fin 672) : val_main_v253 (F := Ideal) x0 x1 x2 x3 x4 x5 x6 (ix4 (n0 := 64) (n1 := 24) (n2 := 32) (n3 := 672) n r x ch) = tapR x0 x1 x2 x3 x4 x5 x6 n r x ch 24 := by
  rw [val_main_v253_apply, val_main_v247_apply, v246_at, v252_at, v251_at, val_main_v250_apply, v249_at, v248_at]
  rfl
theorem zadd {w : ℕ} {a b : BitVec w} (h : a = b) : 0#w + a = b := by rw [h]; exact BitVec.zero_add b
theorem c254 (n : Fin 64) (r : Fin 24) (x : Fin 32) (ch : Fin 672) : val_main_v254 (F := Ideal) x0 x1 x2 x3 x4 x5 x6 (ix4 (n0 := 64) (n1 := 24) (n2 := 32) (n3 := 672) n r x ch) = Cert.V.chain (tapR x0 x1 x2 x3 x4 x5 x6 n r x ch) := by
  rw [val_main_v254_apply, val_main_v245_apply, val_main_v236_apply, val_main_v227_apply, val_main_v218_apply, val_main_v209_apply, val_main_v200_apply, val_main_v191_apply, val_main_v182_apply, val_main_v173_apply, val_main_v164_apply, val_main_v155_apply, val_main_v146_apply, val_main_v137_apply, val_main_v128_apply, val_main_v119_apply, val_main_v110_apply, val_main_v101_apply, val_main_v92_apply, val_main_v83_apply, val_main_v74_apply, val_main_v65_apply, val_main_v56_apply, val_main_v47_apply, val_main_v38_apply, t24, t23, t22, t21, t20, t19, t18, t17, t16, t15, t14, t13, t12, t11, t10, t9, t8, t7, t6, t5, t4, t3, t2, t1, t0, v29_at]
  exact congrArg (· + tapR x0 x1 x2 x3 x4 x5 x6 n r x ch 24) (congrArg (· + tapR x0 x1 x2 x3 x4 x5 x6 n r x ch 23) (congrArg (· + tapR x0 x1 x2 x3 x4 x5 x6 n r x ch 22) (congrArg (· + tapR x0 x1 x2 x3 x4 x5 x6 n r x ch 21) (congrArg (· + tapR x0 x1 x2 x3 x4 x5 x6 n r x ch 20) (congrArg (· + tapR x0 x1 x2 x3 x4 x5 x6 n r x ch 19) (congrArg (· + tapR x0 x1 x2 x3 x4 x5 x6 n r x ch 18) (congrArg (· + tapR x0 x1 x2 x3 x4 x5 x6 n r x ch 17) (congrArg (· + tapR x0 x1 x2 x3 x4 x5 x6 n r x ch 16) (congrArg (· + tapR x0 x1 x2 x3 x4 x5 x6 n r x ch 15) (congrArg (· + tapR x0 x1 x2 x3 x4 x5 x6 n r x ch 14) (congrArg (· + tapR x0 x1 x2 x3 x4 x5 x6 n r x ch 13) (congrArg (· + tapR x0 x1 x2 x3 x4 x5 x6 n r x ch 12) (congrArg (· + tapR x0 x1 x2 x3 x4 x5 x6 n r x ch 11) (congrArg (· + tapR x0 x1 x2 x3 x4 x5 x6 n r x ch 10) (congrArg (· + tapR x0 x1 x2 x3 x4 x5 x6 n r x ch 9) (congrArg (· + tapR x0 x1 x2 x3 x4 x5 x6 n r x ch 8) (congrArg (· + tapR x0 x1 x2 x3 x4 x5 x6 n r x ch 7) (congrArg (· + tapR x0 x1 x2 x3 x4 x5 x6 n r x ch 6) (congrArg (· + tapR x0 x1 x2 x3 x4 x5 x6 n r x ch 5) (congrArg (· + tapR x0 x1 x2 x3 x4 x5 x6 n r x ch 4) (congrArg (· + tapR x0 x1 x2 x3 x4 x5 x6 n r x ch 3) (congrArg (· + tapR x0 x1 x2 x3 x4 x5 x6 n r x ch 2) (congrArg (· + tapR x0 x1 x2 x3 x4 x5 x6 n r x ch 1) (zadd rfl))))))))))))))))))))))))
theorem z263 (n : Fin 64) (r : Fin 24) (x : Fin 32) (ch : Fin 672) : val_main_v263 (F := Ideal) x0 x1 x2 x3 x4 x5 x6 x7 x8 (ix4 (n0 := 64) (n1 := 24) (n2 := 32) (n3 := 672) n r x ch) = (((val_main_v254 (F := Ideal) x0 x1 x2 x3 x4 x5 x6 (ix4 (n0 := 64) (n1 := 24) (n2 := 32) (n3 := 672) n r x ch)).toInt : ℝ) : EReal) * ((x5 s0 : EReal) * x7 (ix1 (n0 := 672) ch)) + x8 (ix1 (n0 := 672) ch) := by
  rw [val_main_v263_apply, val_main_v260_apply, val_main_v255_apply, v259_at, v258_at, val_main_v257_apply, v256_at, v262_at, v261_at]
  rfl
theorem fiber {M : Type*} [AddCommMonoid M] (n : Fin 64) (ch : Fin 672) (f : S64x24x32x672.Idx → M) :
    ∑ i ∈ Finset.univ.filter (fun i => reducesTo_S64x24x32x672_S64x672_d1_2.drop i = ix2 (n0 := 64) (n1 := 672) n ch), f i
      = ∑ r : Fin 24, ∑ x : Fin 32, f (ix4 (n0 := 64) (n1 := 24) (n2 := 32) (n3 := 672) n r x ch) := by
  rw [← Finset.sum_product']
  refine (Finset.sum_bij (fun (p : Fin 24 × Fin 32) _ => ix4 (n0 := 64) (n1 := 24) (n2 := 32) (n3 := 672) n p.1 p.2 ch) ?_ ?_ ?_ ?_).symm
  · intro p _
    refine Finset.mem_filter.mpr ⟨Finset.mem_univ _, funext fun a => Fin.ext ?_⟩
    match a with
    | ⟨0, _⟩ => exact (Shape.ReducesTo.drop_apply_val_of_eq reducesTo_S64x24x32x672_S64x672_d1_2 _ (0 : Fin 2) (0 : Fin 4))
    | ⟨1, _⟩ => exact (Shape.ReducesTo.drop_apply_val_of_eq reducesTo_S64x24x32x672_S64x672_d1_2 _ (1 : Fin 2) (3 : Fin 4))
  · intro p _ q _ h
    exact Prod.ext (congrFun h (1 : Fin 4)) (congrFun h (2 : Fin 4))
  · intro i hi
    have h := (Finset.mem_filter.mp hi).2
    have h0 := (Shape.ReducesTo.drop_apply_val_of_eq reducesTo_S64x24x32x672_S64x672_d1_2 i (0 : Fin 2) (0 : Fin 4)).symm.trans (congrArg Fin.val (congrFun h (0 : Fin 2)))
    have h3 := (Shape.ReducesTo.drop_apply_val_of_eq reducesTo_S64x24x32x672_S64x672_d1_2 i (1 : Fin 2) (3 : Fin 4)).symm.trans (congrArg Fin.val (congrFun h (1 : Fin 2)))
    exact ⟨(i 1, i 2), Finset.mem_product.mpr ⟨Finset.mem_univ _, Finset.mem_univ _⟩, ext4 (Fin.ext h0.symm) rfl rfl (Fin.ext h3.symm)⟩
  · intro p _
    rfl
theorem r278 (n : Fin 64) (ch : Fin 672) : val_main_v278 (F := Ideal) x0 x1 x2 x3 x4 x5 x6 x7 x8 x9 (ix2 (n0 := 64) (n1 := 672) n ch) = ∑ r : Fin 24, ∑ x : Fin 32, (val_main_v276 (F := Ideal) x0 x1 x2 x3 x4 x5 x6 x7 x8 x9 (ix4 (n0 := 64) (n1 := 24) (n2 := 32) (n3 := 672) n r x ch)).signExtend 32 := by
  unfold val_main_v278
  rw [Host.reduce_eq_fold]
  refine Eq.trans ?_ (fiber n ch (fun i => (val_main_v276 (F := Ideal) x0 x1 x2 x3 x4 x5 x6 x7 x8 x9 i).signExtend 32))
  exact (Finset.sum_eq_fold _ _).symm
theorem z285 (n : Fin 64) (ch : Fin 672) : val_main_v285 (F := Ideal) x0 x1 x2 x3 x4 x5 x6 x7 x8 x9 x10 (ix2 (n0 := 64) (n1 := 672) n ch) = Ideal.div (Ideal.div ((((val_main_v278 (F := Ideal) x0 x1 x2 x3 x4 x5 x6 x7 x8 x9 (ix2 (n0 := 64) (n1 := 672) n ch)).toInt : ℝ) : EReal) * x9 s0) (Ideal.ofBits .f32 0x44400000#32)) (x10 s0) := by
  rw [val_main_v285_apply, val_main_v283_apply, val_main_v281_apply, val_main_v279_apply, v280_at, v282_at, v284_at]
  rfl
theorem z304 (n : Fin 64) (j : Fin 28) : val_main_v304 (F := Ideal) x0 x1 x2 x3 x4 x5 x6 x7 x8 x9 x10 x11 x12 x13 (ix2 (n0 := 64) (n1 := 28) n j) = (∑ k : Fin 672, (((val_main_v289 (F := Ideal) x0 x1 x2 x3 x4 x5 x6 x7 x8 x9 x10 (ix2 (n0 := 64) (n1 := 672) n k)).toInt : ℝ) : EReal) * (((x11 (ix2 (n0 := 672) (n1 := 28) k j)).toInt : ℝ) : EReal)) * ((x10 s0 : EReal) * x12 (ix1 (n0 := 28) j)) + x13 (ix1 (n0 := 28) j) := by
  rw [val_main_v304_apply, val_main_v301_apply, v296_at, v300_at, v299_at, val_main_v298_apply, v297_at, v303_at, v302_at]
  simp only [c292, c295]; rfl
theorem z332 (n : Fin 64) (ch : Fin 672) : val_main_v332 (F := Ideal) x0 x1 x2 x3 x4 x5 x6 x7 x8 x9 x10 x11 x12 x13 x14 x15 x16 x17 (ix2 (n0 := 64) (n1 := 672) n ch) = (∑ k : Fin 28, (((val_main_v317 (F := Ideal) x0 x1 x2 x3 x4 x5 x6 x7 x8 x9 x10 x11 x12 x13 x14 (ix2 (n0 := 64) (n1 := 28) n k)).toInt : ℝ) : EReal) * (((x15 (ix2 (n0 := 28) (n1 := 672) k ch)).toInt : ℝ) : EReal)) * ((x14 s0 : EReal) * x16 (ix1 (n0 := 672) ch)) + x17 (ix1 (n0 := 672) ch) := by
  rw [val_main_v332_apply, val_main_v329_apply, v324_at, v328_at, v327_at, val_main_v326_apply, v325_at, v331_at, v330_at]
  simp only [c320, c323]; rfl
theorem z347 (n : Fin 64) (r : Fin 24) (x : Fin 32) (ch : Fin 672) : val_main_v347 (F := Ideal) x0 x1 x2 x3 x4 x5 x6 x7 x8 x9 x10 x11 x12 x13 x14 x15 x16 x17 x18 (ix4 (n0 := 64) (n1 := 24) (n2 := 32) (n3 := 672) n r x ch) = Ideal.div ((((val_main_v276 (F := Ideal) x0 x1 x2 x3 x4 x5 x6 x7 x8 x9 (ix4 (n0 := 64) (n1 := 24) (n2 := 32) (n3 := 672) n r x ch)).toInt : ℝ) : EReal) * x9 s0 * val_main_v338 (F := Ideal) x0 x1 x2 x3 x4 x5 x6 x7 x8 x9 x10 x11 x12 x13 x14 x15 x16 x17 (ix2 (n0 := 64) (n1 := 672) n ch)) (x18 s0) := by
  rw [val_main_v347_apply, val_main_v345_apply, val_main_v342_apply, c340, v341_at, v344_at, v343_at, v346_at]
  rfl
theorem z371 (n : Fin 64) (r : Fin 24) (x : Fin 32) (o : Fin 112) : val_main_v371 (F := Ideal) x0 x1 x2 x3 x4 x5 x6 x7 x8 x9 x10 x11 x12 x13 x14 x15 x16 x17 x18 x19 x20 x21 (ix4 (n0 := 64) (n1 := 24) (n2 := 32) (n3 := 112) n r x o) = (∑ k : Fin 672, (((val_main_v351 (F := Ideal) x0 x1 x2 x3 x4 x5 x6 x7 x8 x9 x10 x11 x12 x13 x14 x15 x16 x17 x18 (ix4 (n0 := 64) (n1 := 24) (n2 := 32) (n3 := 672) n r x k)).toInt : ℝ) : EReal) * (((x19 (ix2 (n0 := 672) (n1 := 112) k o)).toInt : ℝ) : EReal)) * ((x18 s0 : EReal) * x20 (ix1 (n0 := 112) o)) + x21 (ix1 (n0 := 112) o) + (((x0 (ix4 (n0 := 64) (n1 := 24) (n2 := 32) (n3 := 112) n r x o)).toInt : ℝ) : EReal) * x1 s0 := by
  rw [val_main_v371_apply, val_main_v366_apply, val_main_v363_apply, v358_at, v362_at, v361_at, val_main_v360_apply, v359_at, v365_at, v364_at, val_main_v370_apply, c368, v369_at]
  simp only [c354, c357]; rfl
theorem d377 (i) : val_main_v373 (F := Ideal) x0 x1 x2 x3 x4 x5 x6 x7 x8 x9 x10 x11 x12 x13 x14 x15 x16 x17 x18 x19 x20 x21 x22 i = Ideal.div (val_main_v371 (F := Ideal) x0 x1 x2 x3 x4 x5 x6 x7 x8 x9 x10 x11 x12 x13 x14 x15 x16 x17 x18 x19 x20 x21 i) (x22 s0) := by
  rw [val_main_v373_apply, val_main_v372_apply]
  rfl
end Cert.ReferenceIdeal.VR
end
-- ==== Proof.V.Host.lean ====
/- The host operations between the calls: the entries of the arrays the calls take. -/
module

public import proofs.«01_k».proof.Proof.Gen.KernelIdeal.Launch
public import proofs.«01_k».proof.Proof.V.Util
public import proofs.«01_k».proof.Proof.V.Math
public import Idealize.ShloMosaic.Lib.Pointwise

@[expose] public section

set_option maxRecDepth 16384

noncomputable section

namespace Cert.KernelIdeal.VH

open Cert.KernelIdeal Cert.KernelIdeal.Gen Idealize.ShloMosaic Idealize.ShloMosaic.TcCoe Idealize.ShloMosaic.Rounds
open Cert.V

variable (W : Valuation τ sig (Elt Ideal))

/-- The one index of a scalar. -/
abbrev k0 : S_.Idx := fun a => a.elim0

theorem ext1 {n : Nat} {f g : (⟨1, ![n]⟩ : Shape).Idx} (h : f 0 = g 0) : f = g := funext fun a => by
  match a with
  | ⟨0, _⟩ => exact h

/-- A scalar times the entry of a row, and an entry of a row. -/
def prodR {n : Nat} (s : Vec Ideal S_ .f32) (a : Vec Ideal ⟨1, ![n]⟩ .f32) (j : Fin n) : EReal := s k0 * a (ix1 j)
/-- One over a scalar. -/
def invS (s : Vec Ideal S_ .f32) : EReal := Ideal.div (Ideal.ofBits .f32 0x3F800000#32) (s k0)
/-- The one row of a product, and of a plain array, at a column. -/
theorem prodR_read {n : Nat} (s : Vec Ideal S_ .f32) (a : Vec Ideal ⟨1, ![n]⟩ .f32) (hb : S_.BroadcastsInDim ⟨1, ![n]⟩ ![]) (hc) (j : Fin n) :
    shapeCast ⟨2, ![1, n]⟩ (mulf (broadcastInDim ⟨1, ![n]⟩ ![] hb s) a : FVec Ideal ⟨1, ![n]⟩ .f32) hc (ix2 (n0 := 1) 0 j) = prodR s a j := by
  refine (Idealize.ShloMosaic.shapeCast_addUnit_apply ![n] _ hc (ix2 (n0 := 1) 0 j)).trans ?_
  have e : (fun k : Fin 1 => (ix2 (n0 := 1) (n1 := n) 0 j) k.succ) = ix1 j := ext1 rfl
  refine (congrArg _ e).trans ?_
  exact congrArg₂ (fun x y : EReal => x * y) (congrArg s (funext fun a => a.elim0)) rfl
theorem row_read {n : Nat} (a : Vec Ideal ⟨1, ![n]⟩ .f32) (hc) (j : Fin n) :
    shapeCast ⟨2, ![1, n]⟩ a hc (ix2 (n0 := 1) 0 j) = a (ix1 j) := by
  refine (Idealize.ShloMosaic.shapeCast_addUnit_apply ![n] _ hc (ix2 (n0 := 1) 0 j)).trans ?_
  exact congrArg _ (ext1 rfl)
/-- Scalars put side by side, at a position. -/
theorem cat_read {N : Nat} (xs : List ((s : Shape) × (s.Idx → EReal))) (h) (k : Nat) (j : Fin N) (hj : j.val = k) (x : Vec Ideal S_ .f32)
    (hx : xs[k]? = some ⟨S1, broadcastInDim S1 ![] bcast_S_S1 x⟩)
    (hp : (((xs.take k).map (·.1)).map fun s => if h : s.rank = 1 then s.size (Fin.cast h.symm 0) else 0).sum = k) :
    concatenate (⟨1, ![N]⟩ : Shape) 0 xs h (ix1 j) = x k0 := by
  obtain ⟨hk, hx⟩ := List.getElem?_eq_some_iff.mp hx
  refine (concatenate_apply_piece (t := ⟨1, ![N]⟩) 0 xs h (ix1 j) k hk S1 (broadcastInDim S1 ![] bcast_S_S1 x) hx rfl k hp
    (ix1 (n0 := 1) 0) (fun b hb => absurd (Subsingleton.elim _ _) hb) hj.symm).trans ?_
  exact congrArg x (funext fun a => a.elim0)
theorem inv_read (s : Vec Ideal S_ .f32) : (Host.divf (constant S_ .f32 0x3F800000#32) s : FVec Ideal S_ .f32) k0 = invS s := rfl

theorem h2 (j : Fin 672) : (StableHlo.after hostOps0 W (Proc.devRef .tc main_v2) : Vec Ideal S1x672 .f32) (ix2 (n0 := 1) 0 j)
    = prodR (W (Proc.devRef .tc main_arg1)) (W (Proc.devRef .tc main_arg3)) j :=
  (congrFun (show StableHlo.after hostOps0 W (Proc.devRef .tc main_v2)
      = shapeCast S1x672 (mulf (broadcastInDim S672 ![] bcast_S_S672 (W (Proc.devRef .tc main_arg1) : Vec Ideal S_ .f32)) (W (Proc.devRef .tc main_arg3) : Vec Ideal S672 .f32) : FVec Ideal S672 .f32) shapeCasts_S672_S1x672 from by
    simp only [StableHlo.after_cons, StableHlo.after_nil]
    rfl) (ix2 (n0 := 1) 0 j)).trans (prodR_read (n := 672) _ _ _ _ j)

theorem h3 (j : Fin 672) : (StableHlo.after hostOps0 W (Proc.devRef .tc main_v3) : Vec Ideal S1x672 .f32) (ix2 (n0 := 1) 0 j)
    = (W (Proc.devRef .tc main_arg4) : Vec Ideal S672 .f32) (ix1 j) :=
  (congrFun (show StableHlo.after hostOps0 W (Proc.devRef .tc main_v3)
      = shapeCast S1x672 (W (Proc.devRef .tc main_arg4) : Vec Ideal S672 .f32) shapeCasts_S672_S1x672 from by
    simp only [StableHlo.after_cons, StableHlo.after_nil]
    rfl) (ix2 (n0 := 1) 0 j)).trans (row_read (n := 672) _ _ j)

theorem h6 (j : Fin 672) : (StableHlo.after hostOps0 W (Proc.devRef .tc main_v6) : Vec Ideal S1x672 .f32) (ix2 (n0 := 1) 0 j)
    = prodR (W (Proc.devRef .tc main_arg5)) (W (Proc.devRef .tc main_arg7)) j :=
  (congrFun (show StableHlo.after hostOps0 W (Proc.devRef .tc main_v6)
      = shapeCast S1x672 (mulf (broadcastInDim S672 ![] bcast_S_S672 (W (Proc.devRef .tc main_arg5) : Vec Ideal S_ .f32)) (W (Proc.devRef .tc main_arg7) : Vec Ideal S672 .f32) : FVec Ideal S672 .f32) shapeCasts_S672_S1x672 from by
    simp only [StableHlo.after_cons, StableHlo.after_nil]
    rfl) (ix2 (n0 := 1) 0 j)).trans (prodR_read (n := 672) _ _ _ _ j)

theorem h7 (j : Fin 672) : (StableHlo.after hostOps0 W (Proc.devRef .tc main_v7) : Vec Ideal S1x672 .f32) (ix2 (n0 := 1) 0 j)
    = (W (Proc.devRef .tc main_arg8) : Vec Ideal S672 .f32) (ix1 j) :=
  (congrFun (show StableHlo.after hostOps0 W (Proc.devRef .tc main_v7)
      = shapeCast S1x672 (W (Proc.devRef .tc main_arg8) : Vec Ideal S672 .f32) shapeCasts_S672_S1x672 from by
    simp only [StableHlo.after_cons, StableHlo.after_nil]
    rfl) (ix2 (n0 := 1) 0 j)).trans (row_read (n := 672) _ _ j)

theorem h12_eq : (StableHlo.after hostOps0 W (Proc.devRef .tc main_v12) : Vec Ideal S2 .f32)
    = concatenate S2 0 [⟨S1, broadcastInDim S1 ![] bcast_S_S1 (Host.divf (constant S_ .f32 0x3F800000#32) (W (Proc.devRef .tc main_arg5) : Vec Ideal S_ .f32) : FVec Ideal S_ .f32)⟩, ⟨S1, broadcastInDim S1 ![] bcast_S_S1 (Host.divf (constant S_ .f32 0x3F800000#32) (W (Proc.devRef .tc main_arg9) : Vec Ideal S_ .f32) : FVec Ideal S_ .f32)⟩] concatenates_S1_S1_S2_d0 := by
  simp only [StableHlo.after_cons, StableHlo.after_nil]
  rfl
theorem h12_0 : (StableHlo.after hostOps0 W (Proc.devRef .tc main_v12) : Vec Ideal S2 .f32) (ix1 (n0 := 2) 0) = invS (W (Proc.devRef .tc main_arg5)) := by
  refine (congrFun (h12_eq W) (ix1 (n0 := 2) 0)).trans ?_
  exact Eq.trans (cat_read (N := 2) _ _ 0 _ rfl _ (by rfl) (by rfl)) (by rfl)
theorem h12_1 : (StableHlo.after hostOps0 W (Proc.devRef .tc main_v12) : Vec Ideal S2 .f32) (ix1 (n0 := 2) 1) = invS (W (Proc.devRef .tc main_arg9)) := by
  refine (congrFun (h12_eq W) (ix1 (n0 := 2) 1)).trans ?_
  exact Eq.trans (cat_read (N := 2) _ _ 1 _ rfl _ (by rfl) (by rfl)) (by rfl)

theorem h17 (j : Fin 28) : (StableHlo.after hostOps1 W (Proc.devRef .tc main_v17) : Vec Ideal S1x28 .f32) (ix2 (n0 := 1) 0 j)
    = prodR (W (Proc.devRef .tc main_arg10)) (W (Proc.devRef .tc main_arg12)) j :=
  (congrFun (show StableHlo.after hostOps1 W (Proc.devRef .tc main_v17)
      = shapeCast S1x28 (mulf (broadcastInDim S28 ![] bcast_S_S28 (W (Proc.devRef .tc main_arg10) : Vec Ideal S_ .f32)) (W (Proc.devRef .tc main_arg12) : Vec Ideal S28 .f32) : FVec Ideal S28 .f32) shapeCasts_S28_S1x28 from by
    simp only [StableHlo.after_cons, StableHlo.after_nil]
    rfl) (ix2 (n0 := 1) 0 j)).trans (prodR_read (n := 28) _ _ _ _ j)

theorem h18 (j : Fin 28) : (StableHlo.after hostOps1 W (Proc.devRef .tc main_v18) : Vec Ideal S1x28 .f32) (ix2 (n0 := 1) 0 j)
    = (W (Proc.devRef .tc main_arg13) : Vec Ideal S28 .f32) (ix1 j) :=
  (congrFun (show StableHlo.after hostOps1 W (Proc.devRef .tc main_v18)
      = shapeCast S1x28 (W (Proc.devRef .tc main_arg13) : Vec Ideal S28 .f32) shapeCasts_S28_S1x28 from by
    simp only [StableHlo.after_cons, StableHlo.after_nil]
    rfl) (ix2 (n0 := 1) 0 j)).trans (row_read (n := 28) _ _ j)

theorem h21 (j : Fin 672) : (StableHlo.after hostOps1 W (Proc.devRef .tc main_v21) : Vec Ideal S1x672 .f32) (ix2 (n0 := 1) 0 j)
    = prodR (W (Proc.devRef .tc main_arg14)) (W (Proc.devRef .tc main_arg16)) j :=
  (congrFun (show StableHlo.after hostOps1 W (Proc.devRef .tc main_v21)
      = shapeCast S1x672 (mulf (broadcastInDim S672 ![] bcast_S_S672 (W (Proc.devRef .tc main_arg14) : Vec Ideal S_ .f32)) (W (Proc.devRef .tc main_arg16) : Vec Ideal S672 .f32) : FVec Ideal S672 .f32) shapeCasts_S672_S1x672 from by
    simp only [StableHlo.after_cons, StableHlo.after_nil]
    rfl) (ix2 (n0 := 1) 0 j)).trans (prodR_read (n := 672) _ _ _ _ j)

theorem h22 (j : Fin 672) : (StableHlo.after hostOps1 W (Proc.devRef .tc main_v22) : Vec Ideal S1x672 .f32) (ix2 (n0 := 1) 0 j)
    = (W (Proc.devRef .tc main_arg17) : Vec Ideal S672 .f32) (ix1 j) :=
  (congrFun (show StableHlo.after hostOps1 W (Proc.devRef .tc main_v22)
      = shapeCast S1x672 (W (Proc.devRef .tc main_arg17) : Vec Ideal S672 .f32) shapeCasts_S672_S1x672 from by
    simp only [StableHlo.after_cons, StableHlo.after_nil]
    rfl) (ix2 (n0 := 1) 0 j)).trans (row_read (n := 672) _ _ j)

theorem h28_eq : (StableHlo.after hostOps1 W (Proc.devRef .tc main_v28) : Vec Ideal S3 .f32)
    = concatenate S3 0 [⟨S1, broadcastInDim S1 ![] bcast_S_S1 (W (Proc.devRef .tc main_arg9) : Vec Ideal S_ .f32)⟩, ⟨S1, broadcastInDim S1 ![] bcast_S_S1 (Host.divf (constant S_ .f32 0x3F800000#32) (W (Proc.devRef .tc main_arg10) : Vec Ideal S_ .f32) : FVec Ideal S_ .f32)⟩, ⟨S1, broadcastInDim S1 ![] bcast_S_S1 (Host.divf (constant S_ .f32 0x3F800000#32) (W (Proc.devRef .tc main_arg14) : Vec Ideal S_ .f32) : FVec Ideal S_ .f32)⟩] concatenates_S1_S1_S1_S3_d0 := by
  simp only [StableHlo.after_cons, StableHlo.after_nil]
  rfl
theorem h28_0 : (StableHlo.after hostOps1 W (Proc.devRef .tc main_v28) : Vec Ideal S3 .f32) (ix1 (n0 := 3) 0) = ((W (Proc.devRef .tc main_arg9) : Vec Ideal S_ .f32) k0 : EReal) := by
  refine (congrFun (h28_eq W) (ix1 (n0 := 3) 0)).trans ?_
  exact Eq.trans (cat_read (N := 3) _ _ 0 _ rfl _ (by rfl) (by rfl)) (by rfl)
theorem h28_1 : (StableHlo.after hostOps1 W (Proc.devRef .tc main_v28) : Vec Ideal S3 .f32) (ix1 (n0 := 3) 1) = invS (W (Proc.devRef .tc main_arg10)) := by
  refine (congrFun (h28_eq W) (ix1 (n0 := 3) 1)).trans ?_
  exact Eq.trans (cat_read (N := 3) _ _ 1 _ rfl _ (by rfl) (by rfl)) (by rfl)
theorem h28_2 : (StableHlo.after hostOps1 W (Proc.devRef .tc main_v28) : Vec Ideal S3 .f32) (ix1 (n0 := 3) 2) = invS (W (Proc.devRef .tc main_arg14)) := by
  refine (congrFun (h28_eq W) (ix1 (n0 := 3) 2)).trans ?_
  exact Eq.trans (cat_read (N := 3) _ _ 2 _ rfl _ (by rfl) (by rfl)) (by rfl)

theorem h33 (j : Fin 112) : (StableHlo.after hostOps2 W (Proc.devRef .tc main_v33) : Vec Ideal S1x112 .f32) (ix2 (n0 := 1) 0 j)
    = prodR (W (Proc.devRef .tc main_arg18)) (W (Proc.devRef .tc main_arg20)) j :=
  (congrFun (show StableHlo.after hostOps2 W (Proc.devRef .tc main_v33)
      = shapeCast S1x112 (mulf (broadcastInDim S112 ![] bcast_S_S112 (W (Proc.devRef .tc main_arg18) : Vec Ideal S_ .f32)) (W (Proc.devRef .tc main_arg20) : Vec Ideal S112 .f32) : FVec Ideal S112 .f32) shapeCasts_S112_S1x112 from by
    simp only [StableHlo.after_cons, StableHlo.after_nil]
    rfl) (ix2 (n0 := 1) 0 j)).trans (prodR_read (n := 112) _ _ _ _ j)

theorem h34 (j : Fin 112) : (StableHlo.after hostOps2 W (Proc.devRef .tc main_v34) : Vec Ideal S1x112 .f32) (ix2 (n0 := 1) 0 j)
    = (W (Proc.devRef .tc main_arg21) : Vec Ideal S112 .f32) (ix1 j) :=
  (congrFun (show StableHlo.after hostOps2 W (Proc.devRef .tc main_v34)
      = shapeCast S1x112 (W (Proc.devRef .tc main_arg21) : Vec Ideal S112 .f32) shapeCasts_S112_S1x112 from by
    simp only [StableHlo.after_cons, StableHlo.after_nil]
    rfl) (ix2 (n0 := 1) 0 j)).trans (row_read (n := 112) _ _ j)

theorem h41_eq : (StableHlo.after hostOps2 W (Proc.devRef .tc main_v41) : Vec Ideal S4 .f32)
    = concatenate S4 0 [⟨S1, broadcastInDim S1 ![] bcast_S_S1 (W (Proc.devRef .tc main_arg9) : Vec Ideal S_ .f32)⟩, ⟨S1, broadcastInDim S1 ![] bcast_S_S1 (Host.divf (constant S_ .f32 0x3F800000#32) (W (Proc.devRef .tc main_arg18) : Vec Ideal S_ .f32) : FVec Ideal S_ .f32)⟩, ⟨S1, broadcastInDim S1 ![] bcast_S_S1 (W (Proc.devRef .tc main_arg1) : Vec Ideal S_ .f32)⟩, ⟨S1, broadcastInDim S1 ![] bcast_S_S1 (Host.divf (constant S_ .f32 0x3F800000#32) (W (Proc.devRef .tc main_arg22) : Vec Ideal S_ .f32) : FVec Ideal S_ .f32)⟩] concatenates_S1_S1_S1_S1_S4_d0 := by
  simp only [StableHlo.after_cons, StableHlo.after_nil]
  rfl
theorem h41_0 : (StableHlo.after hostOps2 W (Proc.devRef .tc main_v41) : Vec Ideal S4 .f32) (ix1 (n0 := 4) 0) = ((W (Proc.devRef .tc main_arg9) : Vec Ideal S_ .f32) k0 : EReal) := by
  refine (congrFun (h41_eq W) (ix1 (n0 := 4) 0)).trans ?_
  exact Eq.trans (cat_read (N := 4) _ _ 0 _ rfl _ (by rfl) (by rfl)) (by rfl)
theorem h41_1 : (StableHlo.after hostOps2 W (Proc.devRef .tc main_v41) : Vec Ideal S4 .f32) (ix1 (n0 := 4) 1) = invS (W (Proc.devRef .tc main_arg18)) := by
  refine (congrFun (h41_eq W) (ix1 (n0 := 4) 1)).trans ?_
  exact Eq.trans (cat_read (N := 4) _ _ 1 _ rfl _ (by rfl) (by rfl)) (by rfl)
theorem h41_2 : (StableHlo.after hostOps2 W (Proc.devRef .tc main_v41) : Vec Ideal S4 .f32) (ix1 (n0 := 4) 2) = ((W (Proc.devRef .tc main_arg1) : Vec Ideal S_ .f32) k0 : EReal) := by
  refine (congrFun (h41_eq W) (ix1 (n0 := 4) 2)).trans ?_
  exact Eq.trans (cat_read (N := 4) _ _ 2 _ rfl _ (by rfl) (by rfl)) (by rfl)
theorem h41_3 : (StableHlo.after hostOps2 W (Proc.devRef .tc main_v41) : Vec Ideal S4 .f32) (ix1 (n0 := 4) 3) = invS (W (Proc.devRef .tc main_arg22)) := by
  refine (congrFun (h41_eq W) (ix1 (n0 := 4) 3)).trans ?_
  exact Eq.trans (cat_read (N := 4) _ _ 3 _ rfl _ (by rfl) (by rfl)) (by rfl)

theorem h14 (n : Fin 64) (ch : Fin 672) : (StableHlo.after hostOps1 W (Proc.devRef .tc main_v14) : Vec Ideal S64x672 .f32) (ix2 n ch)
    = (W (Proc.devRef .tc main_v13_2) : Vec Ideal S64x1x672 .f32) (ix3 n (0 : Fin 1) ch) := by
  refine (congrFun (show StableHlo.after hostOps1 W (Proc.devRef .tc main_v14)
      = shapeCast S64x672 (W (Proc.devRef .tc main_v13_2) : Vec Ideal S64x1x672 .f32) shapeCasts_S64x1x672_S64x672 from by
    simp only [StableHlo.after_cons, StableHlo.after_nil]
    rfl) (ix2 n ch)).trans ?_
  exact shapeCast_apply _ _ _ (ix3 n (0 : Fin 1) ch) (by simp only [Shape.rowMajor_val_two, Shape.rowMajor_val_three]; show _ = _; simp)

theorem h30 (n : Fin 64) (ch : Fin 672) : (StableHlo.after hostOps2 W (Proc.devRef .tc main_v30) : Vec Ideal S64x1x672 .f32) (ix3 n (0 : Fin 1) ch)
    = (W (Proc.devRef .tc main_v29_2) : Vec Ideal S64x672 .f32) (ix2 n ch) := by
  refine (congrFun (show StableHlo.after hostOps2 W (Proc.devRef .tc main_v30)
      = shapeCast S64x1x672 (W (Proc.devRef .tc main_v29_2) : Vec Ideal S64x672 .f32) shapeCasts_S64x672_S64x1x672 from by
    simp only [StableHlo.after_cons, StableHlo.after_nil]
    rfl) (ix3 n (0 : Fin 1) ch)).trans ?_
  exact shapeCast_apply _ _ _ (ix2 n ch) (by simp only [Shape.rowMajor_val_two, Shape.rowMajor_val_three]; show _ = _; simp)

end Cert.KernelIdeal.VH

end
-- ==== Proof.V.Eq.lean ====
/- The kernel's terms are the reference's: result by result, from the expansion to the quantised output. -/
module

public import proofs.«01_k».proof.Proof.V.R0
public import proofs.«01_k».proof.Proof.V.R1
public import proofs.«01_k».proof.Proof.V.R2
public import proofs.«01_k».proof.Proof.V.Ref
public import proofs.«01_k».proof.Proof.V.Host

@[expose] public section

set_option maxRecDepth 16384

noncomputable section

namespace Cert.VE

open Cert.ReferenceIdeal Cert.ReferenceIdeal.Read Cert.ReferenceIdeal.VR Idealize.ShloMosaic Idealize.ShloMosaic.TcCoe
open Cert.V Cert.KernelIdeal.V0 Cert.KernelIdeal.V1 Cert.KernelIdeal.V2
open Cert.KernelIdeal.VH (prodR invS)

section Pre
variable (x0 : (⟨S64x24x32x112, .i8⟩ : BufTy).Contents (Elt Ideal)) (x1 : (⟨S_, .f32⟩ : BufTy).Contents (Elt Ideal)) (x2 : (⟨S112x672, .i8⟩ : BufTy).Contents (Elt Ideal)) (x3 : (⟨S672, .f32⟩ : BufTy).Contents (Elt Ideal)) (x4 : (⟨S672, .f32⟩ : BufTy).Contents (Elt Ideal)) (x5 : (⟨S_, .f32⟩ : BufTy).Contents (Elt Ideal)) (x6 : (⟨S25x672, .i8⟩ : BufTy).Contents (Elt Ideal)) (x7 : (⟨S672, .f32⟩ : BufTy).Contents (Elt Ideal)) (x8 : (⟨S672, .f32⟩ : BufTy).Contents (Elt Ideal)) (x9 : (⟨S_, .f32⟩ : BufTy).Contents (Elt Ideal)) (x10 : (⟨S_, .f32⟩ : BufTy).Contents (Elt Ideal)) (x11 : (⟨S672x28, .i8⟩ : BufTy).Contents (Elt Ideal)) (x12 : (⟨S28, .f32⟩ : BufTy).Contents (Elt Ideal)) (x13 : (⟨S28, .f32⟩ : BufTy).Contents (Elt Ideal)) (x14 : (⟨S_, .f32⟩ : BufTy).Contents (Elt Ideal)) (x15 : (⟨S28x672, .i8⟩ : BufTy).Contents (Elt Ideal)) (x16 : (⟨S672, .f32⟩ : BufTy).Contents (Elt Ideal)) (x17 : (⟨S672, .f32⟩ : BufTy).Contents (Elt Ideal)) (x18 : (⟨S_, .f32⟩ : BufTy).Contents (Elt Ideal)) (x19 : (⟨S672x112, .i8⟩ : BufTy).Contents (Elt Ideal)) (x20 : (⟨S112, .f32⟩ : BufTy).Contents (Elt Ideal)) (x21 : (⟨S112, .f32⟩ : BufTy).Contents (Elt Ideal)) (x22 : (⟨S_, .f32⟩ : BufTy).Contents (Elt Ideal))

/-- What the precondition says of the arguments. -/
structure Ok : Prop where
  f1 : Fin' (x1 s0)
  f3 : ∀ j : Fin 672, Fin' (x3 (ix1 (n0 := 672) j))
  f4 : ∀ j : Fin 672, Fin' (x4 (ix1 (n0 := 672) j))
  f7 : ∀ j : Fin 672, Fin' (x7 (ix1 (n0 := 672) j))
  f8 : ∀ j : Fin 672, Fin' (x8 (ix1 (n0 := 672) j))
  f12 : ∀ j : Fin 28, Fin' (x12 (ix1 (n0 := 28) j))
  f13 : ∀ j : Fin 28, Fin' (x13 (ix1 (n0 := 28) j))
  n5 : (x5 s0 : EReal) ≠ 0
  n9 : (x9 s0 : EReal) ≠ 0
  n10 : (x10 s0 : EReal) ≠ 0
  n14 : (x14 s0 : EReal) ≠ 0
  n18 : (x18 s0 : EReal) ≠ 0
  n22 : (x22 s0 : EReal) ≠ 0
end Pre

variable {x0 : (⟨S64x24x32x112, .i8⟩ : BufTy).Contents (Elt Ideal)} {x1 : (⟨S_, .f32⟩ : BufTy).Contents (Elt Ideal)} {x2 : (⟨S112x672, .i8⟩ : BufTy).Contents (Elt Ideal)} {x3 : (⟨S672, .f32⟩ : BufTy).Contents (Elt Ideal)} {x4 : (⟨S672, .f32⟩ : BufTy).Contents (Elt Ideal)} {x5 : (⟨S_, .f32⟩ : BufTy).Contents (Elt Ideal)} {x6 : (⟨S25x672, .i8⟩ : BufTy).Contents (Elt Ideal)} {x7 : (⟨S672, .f32⟩ : BufTy).Contents (Elt Ideal)} {x8 : (⟨S672, .f32⟩ : BufTy).Contents (Elt Ideal)} {x9 : (⟨S_, .f32⟩ : BufTy).Contents (Elt Ideal)} {x10 : (⟨S_, .f32⟩ : BufTy).Contents (Elt Ideal)} {x11 : (⟨S672x28, .i8⟩ : BufTy).Contents (Elt Ideal)} {x12 : (⟨S28, .f32⟩ : BufTy).Contents (Elt Ideal)} {x13 : (⟨S28, .f32⟩ : BufTy).Contents (Elt Ideal)} {x14 : (⟨S_, .f32⟩ : BufTy).Contents (Elt Ideal)} {x15 : (⟨S28x672, .i8⟩ : BufTy).Contents (Elt Ideal)} {x16 : (⟨S672, .f32⟩ : BufTy).Contents (Elt Ideal)} {x17 : (⟨S672, .f32⟩ : BufTy).Contents (Elt Ideal)} {x18 : (⟨S_, .f32⟩ : BufTy).Contents (Elt Ideal)} {x19 : (⟨S672x112, .i8⟩ : BufTy).Contents (Elt Ideal)} {x20 : (⟨S112, .f32⟩ : BufTy).Contents (Elt Ideal)} {x21 : (⟨S112, .f32⟩ : BufTy).Contents (Elt Ideal)} {x22 : (⟨S_, .f32⟩ : BufTy).Contents (Elt Ideal)}

variable (ok : Ok x1 x3 x4 x5 x7 x8 x9 x10 x12 x13 x14 x18 x22)

theorem inv_eq (s : Vec Ideal S_ .f32) : invS s = Ideal.div 1 (s s0) := by
  unfold invS; rw [one_eq]

/-- A division by a scale is the product with its inverse. -/
theorem div_inv (s : Vec Ideal S_ .f32) (h : (s s0 : EReal) ≠ 0) (v : EReal) : Ideal.div v (s s0) = v * invS s :=
  (div_eq h v).trans (congrArg (fun t : EReal => v * t) (inv_eq s).symm)

/-- A step is finite, or every quotient by it is zero. -/
theorem fin_or (s : EReal) (h : s ≠ 0) : Fin' s ∨ ∀ v, Ideal.div v s = 0 := by
  induction s with
  | bot => right; intro v; unfold Ideal.div; rw [if_neg h, EReal.inv_bot, mul_zero]
  | top => right; intro v; unfold Ideal.div; rw [if_neg h, EReal.inv_top, mul_zero]
  | coe r => exact Or.inl ⟨r, rfl⟩

theorem rc_zero : rc 0 = 0#8 := by
  rw [rc_eq_qc]
  obtain ⟨n, hn, h0, h1, -⟩ := qc_int 0
  have e : qk 0 = 0 := by
    have := Cert.V.lr_int 0
    unfold qk
    rw [lo_eq, hi_eq]
    have z : min (((127 : ℝ) : EReal)) (max (((-127 : ℝ)) : EReal) 0) = (((0 : ℤ) : ℝ) : EReal) := by
      rw [← EReal.coe_zero, ← EReal.coe_strictMono.monotone.map_max, ← EReal.coe_strictMono.monotone.map_min]; norm_num
    rw [z, this]; simp
  rw [h0] at e
  have : n = 0 := by exact_mod_cast e
  rw [h1, this]; rfl

section Call0
variable {A1 B1 A2 B2 : Vec Ideal Cert.KernelIdeal.S1x672 .f32} {i0 i1 : EReal}
  (hA1 : ∀ ch : Fin 672, (A1 (ix2 (n0 := 1) 0 ch) : EReal) = prodR (n := 672) x1 x3 ch) (hB1 : ∀ ch : Fin 672, (B1 (ix2 (n0 := 1) 0 ch) : EReal) = x4 (ix1 (n0 := 672) ch))
  (hA2 : ∀ ch : Fin 672, (A2 (ix2 (n0 := 1) 0 ch) : EReal) = prodR (n := 672) x5 x7 ch) (hB2 : ∀ ch : Fin 672, (B2 (ix2 (n0 := 1) 0 ch) : EReal) = x8 (ix1 (n0 := 672) ch))
  (hi0 : i0 = invS x5) (hi1 : i1 = invS x9)

include hA1 hB1 in
theorem exp_eq (n : Fin 64) (r : Fin 24) (x : Fin 32) (ch : Fin 672) : expd (fun k => (((blkOf x0 n (ix4 (n0 := 1) 0 r x k)).toInt : ℝ) : EReal)) x2 A1 B1 ch = (val_main_v14 (F := Ideal) x0 x1 x2 x3 x4 (ix4 (n0 := 64) (n1 := 24) (n2 := 32) (n3 := 672) n r x ch)) := by
  rw [z14]
  unfold expd
  rw [hA1 ch, hB1 ch]
  rfl

include ok in
theorem fin14 (n : Fin 64) (r : Fin 24) (x : Fin 32) (ch : Fin 672) : Fin' ((val_main_v14 (F := Ideal) x0 x1 x2 x3 x4 (ix4 (n0 := 64) (n1 := 24) (n2 := 32) (n3 := 672) n r x ch)) : EReal) := by
  rw [z14]
  exact ((Fin'.sum _ _ fun k => (Fin'.coe _).mul (Fin'.coe _)).mul (ok.f1.mul (ok.f3 ch))).add (ok.f4 ch)

include ok hA1 hB1 hi0 in
/-- The codes of the expansion. -/
theorem e_eq (n : Fin 64) (r : Fin 24) (x : Fin 32) (ch : Fin 672) : qc (eE (blkOf x0 n) x2 A1 B1 i0 r x ch) = (val_main_v27 (F := Ideal) x0 x1 x2 x3 x4 x5 (ix4 (n0 := 64) (n1 := 24) (n2 := 32) (n3 := 672) n r x ch)) := by
  rw [q27, rc_eq_qc, d14]
  refine Eq.trans ?_ (congrArg qc (div_inv x5 ok.n5 _).symm)
  unfold eE
  rw [exp_eq hA1 hB1 n r x ch, sw_eq (fin14 ok n r x ch), hi0]

include ok hA1 hB1 hi0 in
/-- The padded image is the reference's padded codes, six columns on. -/
theorem pad_eq (n : Fin 64) (a : Fin 28) (b : Fin 48) (b' : Fin 36) (hb : b.val = 6 + b'.val) (ch : Fin 672) :
    (pE (blkOf x0 n) x2 A1 B1 i0 (ix3 (n0 := 28) (n1 := 48) a b ch) : EReal) = ((((val_main_v28 (F := Ideal) x0 x1 x2 x3 x4 x5 (ix4 (n0 := 64) (n1 := 28) (n2 := 36) (n3 := 672) n a b' ch))).toInt : ℝ) : EReal) := by
  show padded (fun r x ch => qk (eE (blkOf x0 n) x2 A1 B1 i0 r x ch)) a b ch = _
  unfold padded
  by_cases h : 2 ≤ a.val ∧ a.val < 26 ∧ 8 ≤ b.val ∧ b.val < 40
  · rw [dif_pos h]
    show qk _ = _
    rw [qk_eq_toInt, e_eq ok hA1 hB1 hi0, p28_in x0 x1 x2 x3 x4 x5 n a b' ch ⟨a.val - 2, by omega⟩ ⟨b.val - 8, by omega⟩ (by show a.val = 2 + (a.val - 2); omega) (by show b'.val = 2 + (b.val - 8); omega)]
  · rw [dif_neg h, p28_out x0 x1 x2 x3 x4 x5 n a b' ch (by omega)]
    simp

include ok hA1 hB1 hi0 in
theorem tap_rep (n : Fin 64) (r : Fin 24) (x : Fin 32) (ch : Fin 672) (t : Fin 25) : Rep 16384 (tapV (pE (blkOf x0 n) x2 A1 B1 i0) x6 r x ch t) (tapR x0 x1 x2 x3 x4 x5 x6 n r x ch t) := by
  unfold tapV tapR
  rw [pad_eq ok hA1 hB1 hi0 n ⟨r.val + t.val / 5, by omega⟩ ⟨6 + t.val % 5 + x.val, by omega⟩ ⟨t.val % 5 + x.val, by omega⟩ (Nat.add_assoc _ _ _) ch]
  have e : (⟨r.val + t.val / 5, by omega⟩ : Fin 28) = ⟨t.val / 5 + r.val, by omega⟩ := Fin.ext (Nat.add_comm _ _)
  rw [e]
  exact Rep.prod _ _

include ok hA1 hB1 hi0 in
theorem taps_eq (n : Fin 64) (r : Fin 24) (x : Fin 32) (ch : Fin 672) : chain (tapV (pE (blkOf x0 n) x2 A1 B1 i0) x6 r x ch) = ((((val_main_v254 (F := Ideal) x0 x1 x2 x3 x4 x5 x6 (ix4 (n0 := 64) (n1 := 24) (n2 := 32) (n3 := 672) n r x ch))).toInt : ℝ) : EReal) := by
  rw [c254]
  exact (Rep.chain fun t => tap_rep ok hA1 hB1 hi0 n r x ch t).toInt (by norm_num)

include ok hA1 hB1 hi0 hA2 hB2 in
theorem dw_eq (n : Fin 64) (r : Fin 24) (x : Fin 32) (ch : Fin 672) : dwV (pE (blkOf x0 n) x2 A1 B1 i0) x6 A2 B2 r x ch = (val_main_v263 (F := Ideal) x0 x1 x2 x3 x4 x5 x6 x7 x8 (ix4 (n0 := 64) (n1 := 24) (n2 := 32) (n3 := 672) n r x ch)) := by
  rw [z263]
  unfold dwV
  rw [taps_eq ok hA1 hB1 hi0 n r x ch, hA2 ch, hB2 ch]
  rfl

include ok in
theorem fin263 (n : Fin 64) (r : Fin 24) (x : Fin 32) (ch : Fin 672) : Fin' ((val_main_v263 (F := Ideal) x0 x1 x2 x3 x4 x5 x6 x7 x8 (ix4 (n0 := 64) (n1 := 24) (n2 := 32) (n3 := 672) n r x ch)) : EReal) := by
  rw [z263]
  refine Fin'.add ?_ (ok.f8 ch)
  rcases fin_or (x5 s0) ok.n5 with h | h
  · exact (Fin'.coe _).mul (h.mul (ok.f7 ch))
  · have z : ∀ i, val_main_v27 (F := Ideal) x0 x1 x2 x3 x4 x5 i = 0#8 := fun i => by rw [q27, d14, h, rc_zero]
    have t : ∀ k, tapR x0 x1 x2 x3 x4 x5 x6 n r x ch k = 0#32 := fun k => by
      unfold tapR
      by_cases hb : 2 ≤ k.val / 5 + r.val ∧ k.val / 5 + r.val < 26 ∧ 2 ≤ k.val % 5 + x.val ∧ k.val % 5 + x.val < 34
      · rw [p28_in x0 x1 x2 x3 x4 x5 n _ _ ch ⟨k.val / 5 + r.val - 2, by omega⟩ ⟨k.val % 5 + x.val - 2, by omega⟩ (by show k.val / 5 + r.val = 2 + (k.val / 5 + r.val - 2); omega) (by show k.val % 5 + x.val = 2 + (k.val % 5 + x.val - 2); omega), z]
        simp
      · rw [p28_out x0 x1 x2 x3 x4 x5 n _ _ ch hb]
        simp
    have c : chain (tapR x0 x1 x2 x3 x4 x5 x6 n r x ch) = 0#32 := by
      rw [show tapR x0 x1 x2 x3 x4 x5 x6 n r x ch = fun _ => 0#32 from funext t]; rfl
    rw [c254, c]
    refine ⟨0, ?_⟩
    simp

include ok hA1 hB1 hi0 hA2 hB2 hi1 in
/-- The codes of the depthwise convolution. -/
theorem u_eq (n : Fin 64) (r : Fin 24) (x : Fin 32) (ch : Fin 672) : qc (uU (pE (blkOf x0 n) x2 A1 B1 i0) x6 A2 B2 i1 r x ch) = (val_main_v276 (F := Ideal) x0 x1 x2 x3 x4 x5 x6 x7 x8 x9 (ix4 (n0 := 64) (n1 := 24) (n2 := 32) (n3 := 672) n r x ch)) := by
  rw [q276, rc_eq_qc, d263]
  refine Eq.trans ?_ (congrArg qc (div_inv x9 ok.n9 _).symm)
  unfold uU
  rw [dw_eq ok hA1 hB1 hA2 hB2 hi0 n r x ch, sw_eq (fin263 ok n r x ch), hi1]

include ok hA1 hB1 hi0 hA2 hB2 hi1 in
/-- The sums of the codes over the image. -/
theorem s_eq (n : Fin 64) (ch : Fin 672) : psV (pE (blkOf x0 n) x2 A1 B1 i0) x6 A2 B2 i1 ch = ((((val_main_v278 (F := Ideal) x0 x1 x2 x3 x4 x5 x6 x7 x8 x9 (ix2 (n0 := 64) (n1 := 672) n ch))).toInt : ℝ) : EReal) := by
  unfold psV
  rw [r278]
  refine (Rep.mono (l := 98304) ?_ (Rep.sum Finset.univ (32 * 128) _ _ fun r : Fin 24 => Rep.mono (le_of_eq ?_) (Rep.sum Finset.univ 128 _ _ fun x : Fin 32 => ?_))).toInt (by norm_num)
  · simp
  · simp
  · rw [qk_eq_toInt, u_eq ok hA1 hB1 hA2 hB2 hi0 hi1 n r x ch]
    exact Rep.code _
end Call0

section Call1
variable {U : Vec Ideal Cert.KernelIdeal.S64x672 .f32} {A1 B1 : Vec Ideal Cert.KernelIdeal.S1x28 .f32} {S : Vec Ideal Cert.KernelIdeal.S3 .f32} {A2 B2 : Vec Ideal Cert.KernelIdeal.S1x672 .f32}
  (hU : ∀ (n : Fin 64) (ch : Fin 672), (U (ix2 n ch) : EReal) = ((((val_main_v278 (F := Ideal) x0 x1 x2 x3 x4 x5 x6 x7 x8 x9 (ix2 (n0 := 64) (n1 := 672) n ch))).toInt : ℝ) : EReal))
  (hA1 : ∀ j : Fin 28, (A1 (ix2 (n0 := 1) 0 j) : EReal) = prodR (n := 28) x10 x12 j) (hB1 : ∀ j : Fin 28, (B1 (ix2 (n0 := 1) 0 j) : EReal) = x13 (ix1 (n0 := 28) j))
  (hA2 : ∀ ch : Fin 672, (A2 (ix2 (n0 := 1) 0 ch) : EReal) = prodR (n := 672) x14 x16 ch) (hB2 : ∀ ch : Fin 672, (B2 (ix2 (n0 := 1) 0 ch) : EReal) = x17 (ix1 (n0 := 672) ch))
  (hS0 : (S (ix1 (n0 := 3) 0) : EReal) = x9 s0) (hS1 : (S (ix1 (n0 := 3) 1) : EReal) = invS x10) (hS2 : (S (ix1 (n0 := 3) 2) : EReal) = invS x14)

include ok hU hS0 hS1 in
theorem pool_eq (n : Fin 64) (ch : Fin 672) : poolV U S n ch = (val_main_v285 (F := Ideal) x0 x1 x2 x3 x4 x5 x6 x7 x8 x9 x10 (ix2 (n0 := 64) (n1 := 672) n ch)) := by
  rw [z285]
  refine Eq.trans ?_ (div_inv x10 ok.n10 _).symm
  unfold poolV Cert.KernelIdeal.V1.pool
  rw [hU n ch, hS0, hS1]
  rfl

include ok hU hS0 hS1 in
/-- The codes of the pooled means. -/
theorem p_eq (n : Fin 64) (ch : Fin 672) : qc (poolV U S n ch) = (val_main_v289 (F := Ideal) x0 x1 x2 x3 x4 x5 x6 x7 x8 x9 x10 (ix2 (n0 := 64) (n1 := 672) n ch)) := by
  rw [q289, rc_eq_qc, pool_eq ok hU hS0 hS1 n ch]

include ok hU hS0 hS1 hA1 hB1 in
theorem sqz_eq (n : Fin 64) (j : Fin 28) : sqz (S (ix1 (n0 := 3) 0)) (S (ix1 (n0 := 3) 1)) U x11 A1 B1 n j = (val_main_v304 (F := Ideal) x0 x1 x2 x3 x4 x5 x6 x7 x8 x9 x10 x11 x12 x13 (ix2 (n0 := 64) (n1 := 28) n j)) := by
  rw [z304]
  unfold sqz
  rw [hA1 j, hB1 j]
  refine congrArg₂ (fun u v : EReal => u * v + x13 (ix1 (n0 := 28) j)) (Finset.sum_congr rfl fun k _ => ?_) rfl
  show qk (poolV U S n k) * _ = _
  rw [qk_eq_toInt, p_eq ok hU hS0 hS1 n k]

include ok in
theorem fin304 (n : Fin 64) (j : Fin 28) : Fin' ((val_main_v304 (F := Ideal) x0 x1 x2 x3 x4 x5 x6 x7 x8 x9 x10 x11 x12 x13 (ix2 (n0 := 64) (n1 := 28) n j)) : EReal) := by
  rw [z304]
  refine Fin'.add ?_ (ok.f13 j)
  rcases fin_or (x10 s0) ok.n10 with h | h
  · exact (Fin'.sum _ _ fun k => (Fin'.coe _).mul (Fin'.coe _)).mul (h.mul (ok.f12 j))
  · have z : ∀ k, val_main_v289 (F := Ideal) x0 x1 x2 x3 x4 x5 x6 x7 x8 x9 x10 (ix2 (n0 := 64) (n1 := 672) n k) = 0#8 := fun k => by
      rw [q289, z285, h, rc_zero]
    refine ⟨0, ?_⟩
    rw [Finset.sum_eq_zero fun k _ => by rw [z]; simp, zero_mul]
    rfl

include ok hU hS0 hS1 hS2 hA1 hB1 in
/-- The codes of the squeezed values. -/
theorem h_eq (n : Fin 64) (j : Fin 28) : qc (hV U x11 A1 B1 S n j) = (val_main_v317 (F := Ideal) x0 x1 x2 x3 x4 x5 x6 x7 x8 x9 x10 x11 x12 x13 x14 (ix2 (n0 := 64) (n1 := 28) n j)) := by
  rw [q317, rc_eq_qc, d304]
  refine Eq.trans ?_ (congrArg qc (div_inv x14 ok.n14 _).symm)
  unfold hV
  rw [sqz_eq ok hU hA1 hB1 hS0 hS1 n j, sw_eq (fin304 ok n j), hS2]

include ok hU hS0 hS1 hS2 hA1 hB1 hA2 hB2 in
/-- The gate. -/
theorem g_eq (n : Fin 64) (ch : Fin 672) : gV U x11 A1 B1 S x15 A2 B2 n ch = (val_main_v338 (F := Ideal) x0 x1 x2 x3 x4 x5 x6 x7 x8 x9 x10 x11 x12 x13 x14 x15 x16 x17 (ix2 (n0 := 64) (n1 := 672) n ch)) := by
  rw [l332, z332]
  unfold gV
  rw [hA2 ch, hB2 ch]
  refine congrArg Ideal.logistic (congrArg₂ (fun u v : EReal => u * v + x17 (ix1 (n0 := 672) ch)) (Finset.sum_congr rfl fun k _ => ?_) rfl)
  rw [qk_eq_toInt, h_eq ok hU hA1 hB1 hS0 hS1 hS2 n k]
end Call1

section Call2
variable {E : Vec Ideal Cert.KernelIdeal.S64x24x32x672 .i8} {G : Vec Ideal Cert.KernelIdeal.S64x1x672 .f32} {A1 B1 : Vec Ideal Cert.KernelIdeal.S1x112 .f32} {S : Vec Ideal Cert.KernelIdeal.S4 .f32}
  (hE : ∀ (n : Fin 64) (r : Fin 24) (x : Fin 32) (ch : Fin 672), E (ix4 n r x ch) = (val_main_v276 (F := Ideal) x0 x1 x2 x3 x4 x5 x6 x7 x8 x9 (ix4 (n0 := 64) (n1 := 24) (n2 := 32) (n3 := 672) n r x ch)))
  (hG : ∀ (n : Fin 64) (ch : Fin 672), (G (ix3 (n1 := 1) n 0 ch) : EReal) = (val_main_v338 (F := Ideal) x0 x1 x2 x3 x4 x5 x6 x7 x8 x9 x10 x11 x12 x13 x14 x15 x16 x17 (ix2 (n0 := 64) (n1 := 672) n ch)))
  (hA1 : ∀ o : Fin 112, (A1 (ix2 (n0 := 1) 0 o) : EReal) = prodR (n := 112) x18 x20 o) (hB1 : ∀ o : Fin 112, (B1 (ix2 (n0 := 1) 0 o) : EReal) = x21 (ix1 (n0 := 112) o))
  (hS0 : (S (ix1 (n0 := 4) 0) : EReal) = x9 s0) (hS1 : (S (ix1 (n0 := 4) 1) : EReal) = invS x18)
  (hS2 : (S (ix1 (n0 := 4) 2) : EReal) = x1 s0) (hS3 : (S (ix1 (n0 := 4) 3) : EReal) = invS x22)

include ok hE hG hS0 hS1 in
/-- The codes of the gated values. -/
theorem v_eq (n : Fin 64) (r : Fin 24) (x : Fin 32) (ch : Fin 672) : qc (gatedV E G S n r x ch) = (val_main_v351 (F := Ideal) x0 x1 x2 x3 x4 x5 x6 x7 x8 x9 x10 x11 x12 x13 x14 x15 x16 x17 x18 (ix4 (n0 := 64) (n1 := 24) (n2 := 32) (n3 := 672) n r x ch)) := by
  rw [q351, rc_eq_qc, z347]
  refine Eq.trans ?_ (congrArg qc (div_inv x18 ok.n18 _).symm)
  unfold gatedV
  rw [hE n r x ch, hG n ch, hS0, hS1]
  refine congrArg qc ?_
  simp only [mul_assoc, mul_left_comm, mul_comm]

include ok hE hG hS0 hS1 hS2 hA1 hB1 in
/-- The projection with the residual. -/
theorem y_eq (n : Fin 64) (r : Fin 24) (x : Fin 32) (o : Fin 112) : projV E G x19 A1 B1 x0 S n r x o = (val_main_v371 (F := Ideal) x0 x1 x2 x3 x4 x5 x6 x7 x8 x9 x10 x11 x12 x13 x14 x15 x16 x17 x18 x19 x20 x21 (ix4 (n0 := 64) (n1 := 24) (n2 := 32) (n3 := 112) n r x o)) := by
  rw [z371]
  unfold projV
  rw [hA1 o, hB1 o, hS2]
  refine congrArg₂ (fun u v : EReal => u * v + x21 (ix1 (n0 := 112) o) + ((((x0 (ix4 (n0 := 64) (n1 := 24) (n2 := 32) (n3 := 112) n r x o)).toInt : ℝ) : EReal) * x1 s0)) (Finset.sum_congr rfl fun k _ => ?_) rfl
  rw [qk_eq_toInt, v_eq ok hE hG hS0 hS1 n r x k]

include ok hE hG hS0 hS1 hS2 hS3 hA1 hB1 in
/-- The codes of the result. -/
theorem o_eq (n : Fin 64) (r : Fin 24) (x : Fin 32) (o : Fin 112) : qc (projV E G x19 A1 B1 x0 S n r x o * S (ix1 (n0 := 4) 3)) = (val_main_v377 (F := Ideal) x0 x1 x2 x3 x4 x5 x6 x7 x8 x9 x10 x11 x12 x13 x14 x15 x16 x17 x18 x19 x20 x21 x22 (ix4 (n0 := 64) (n1 := 24) (n2 := 32) (n3 := 112) n r x o)) := by
  rw [q377, rc_eq_qc, d377]
  refine Eq.trans ?_ (congrArg qc (div_inv x22 ok.n22 _).symm)
  rw [y_eq ok hE hG hA1 hB1 hS0 hS1 hS2 n r x o, hS3]
end Call2

end Cert.VE

end
-- ==== Proof.V.End.lean ====
/- What the program leaves in its eight results, as the reference's values of its arguments. -/
module

public import proofs.«01_k».proof.Proof.KI.Run
public import proofs.«01_k».proof.Proof.V.Eq

@[expose] public section

set_option maxRecDepth 16384

noncomputable section

namespace Cert.VE

open Cert.KernelIdeal Cert.KernelIdeal.Gen Idealize.ShloMosaic Idealize.ShloMosaic.TcCoe
open Cert.V Cert.KernelIdeal.V0 Cert.KernelIdeal.V1 Cert.KernelIdeal.V2 Cert.KernelIdeal.VH
open Cert.KernelIdeal.Whole (W0 W1 W2 W3 W4 W5 W6)

theorem fun4 {a b c d : Nat} {α : Type} {f g : (⟨4, ![a, b, c, d]⟩ : Shape).Idx → α} (h : ∀ (n : Fin a) (r : Fin b) (x : Fin c) (k : Fin d), f (ix4 n r x k) = g (ix4 n r x k)) : f = g :=
  funext fun i => by
    have e : i = ix4 (i 0) (i 1) (i 2) (i 3) := Cert.ReferenceIdeal.VR.ext4 rfl rfl rfl rfl
    rw [e]; exact h _ _ _ _
theorem fun2 {a b : Nat} {α : Type} {f g : (⟨2, ![a, b]⟩ : Shape).Idx → α} (h : ∀ (n : Fin a) (k : Fin b), f (ix2 n k) = g (ix2 n k)) : f = g :=
  funext fun i => by
    have e : i = ix2 (i 0) (i 1) := Cert.ReferenceIdeal.VR.ext2 rfl rfl
    rw [e]; exact h _ _

variable (m : (ℓ : Loc nD τ sig) → Buf (Elt Ideal) ℓ) (ρ : Dev nD → PrngReg) (c : Dev nD)

/-- The contents of a buffer at the start. -/
abbrev X (a : Ref sig .tc) : Buf (Elt Ideal) ((c : Thread nD τ).loc a) := m ((c : Thread nD τ).loc a)

variable (ok : Ok (X m c main_arg1) (X m c main_arg3) (X m c main_arg4) (X m c main_arg5) (X m c main_arg7) (X m c main_arg8) (X m c main_arg9) (X m c main_arg10) (X m c main_arg12) (X m c main_arg13) (X m c main_arg14) (X m c main_arg18) (X m c main_arg22))

theorem hyp2 (j : Fin 672) : ((Whole.V1 m ρ c main_v2 : Vec Ideal S1x672 .f32) (ix2 (n0 := 1) 0 j) : EReal) = prodR (n := 672) (X m c main_arg1) (X m c main_arg3) j :=
  (h2 (W0 m ρ c) j).trans (congrArg₂ (fun s a => prodR (n := 672) s a j) (Whole.W0_args m ρ c main_arg1 (by decide)) (Whole.W0_args m ρ c main_arg3 (by decide)))
theorem hyp3 (j : Fin 672) : ((Whole.V1 m ρ c main_v3 : Vec Ideal S1x672 .f32) (ix2 (n0 := 1) 0 j) : EReal) = ((X m c main_arg4) : Vec Ideal S672 .f32) (ix1 (n0 := 672) j) :=
  (h3 (W0 m ρ c) j).trans (congrArg (fun a : Vec Ideal S672 .f32 => a (ix1 (n0 := 672) j)) (Whole.W0_args m ρ c main_arg4 (by decide)))
theorem hyp6 (j : Fin 672) : ((Whole.V1 m ρ c main_v6 : Vec Ideal S1x672 .f32) (ix2 (n0 := 1) 0 j) : EReal) = prodR (n := 672) (X m c main_arg5) (X m c main_arg7) j :=
  (h6 (W0 m ρ c) j).trans (congrArg₂ (fun s a => prodR (n := 672) s a j) (Whole.W0_args m ρ c main_arg5 (by decide)) (Whole.W0_args m ρ c main_arg7 (by decide)))
theorem hyp7 (j : Fin 672) : ((Whole.V1 m ρ c main_v7 : Vec Ideal S1x672 .f32) (ix2 (n0 := 1) 0 j) : EReal) = ((X m c main_arg8) : Vec Ideal S672 .f32) (ix1 (n0 := 672) j) :=
  (h7 (W0 m ρ c) j).trans (congrArg (fun a : Vec Ideal S672 .f32 => a (ix1 (n0 := 672) j)) (Whole.W0_args m ρ c main_arg8 (by decide)))
theorem hyp12_0 : ((Whole.V1 m ρ c main_v12 : Vec Ideal S2 .f32) (ix1 (n0 := 2) 0) : EReal) = invS (X m c main_arg5) :=
  (h12_0 (W0 m ρ c)).trans (congrArg invS (Whole.W0_args m ρ c main_arg5 (by decide)))
theorem hyp12_1 : ((Whole.V1 m ρ c main_v12 : Vec Ideal S2 .f32) (ix1 (n0 := 2) 1) : EReal) = invS (X m c main_arg9) :=
  (h12_1 (W0 m ρ c)).trans (congrArg invS (Whole.W0_args m ρ c main_arg9 (by decide)))
theorem hyp17 (j : Fin 28) : ((Whole.V3 m ρ c main_v17 : Vec Ideal S1x28 .f32) (ix2 (n0 := 1) 0 j) : EReal) = prodR (n := 28) (X m c main_arg10) (X m c main_arg12) j :=
  (h17 (W2 m ρ c) j).trans (congrArg₂ (fun s a => prodR (n := 28) s a j) (Whole.W2_args m ρ c main_arg10 (by decide)) (Whole.W2_args m ρ c main_arg12 (by decide)))
theorem hyp18 (j : Fin 28) : ((Whole.V3 m ρ c main_v18 : Vec Ideal S1x28 .f32) (ix2 (n0 := 1) 0 j) : EReal) = ((X m c main_arg13) : Vec Ideal S28 .f32) (ix1 (n0 := 28) j) :=
  (h18 (W2 m ρ c) j).trans (congrArg (fun a : Vec Ideal S28 .f32 => a (ix1 (n0 := 28) j)) (Whole.W2_args m ρ c main_arg13 (by decide)))
theorem hyp21 (j : Fin 672) : ((Whole.V3 m ρ c main_v21 : Vec Ideal S1x672 .f32) (ix2 (n0 := 1) 0 j) : EReal) = prodR (n := 672) (X m c main_arg14) (X m c main_arg16) j :=
  (h21 (W2 m ρ c) j).trans (congrArg₂ (fun s a => prodR (n := 672) s a j) (Whole.W2_args m ρ c main_arg14 (by decide)) (Whole.W2_args m ρ c main_arg16 (by decide)))
theorem hyp22 (j : Fin 672) : ((Whole.V3 m ρ c main_v22 : Vec Ideal S1x672 .f32) (ix2 (n0 := 1) 0 j) : EReal) = ((X m c main_arg17) : Vec Ideal S672 .f32) (ix1 (n0 := 672) j) :=
  (h22 (W2 m ρ c) j).trans (congrArg (fun a : Vec Ideal S672 .f32 => a (ix1 (n0 := 672) j)) (Whole.W2_args m ρ c main_arg17 (by decide)))
theorem hyp28_0 : ((Whole.V3 m ρ c main_v28 : Vec Ideal S3 .f32) (ix1 (n0 := 3) 0) : EReal) = ((X m c main_arg9) : Vec Ideal S_ .f32) Cert.ReferenceIdeal.VR.s0 :=
  (h28_0 (W2 m ρ c)).trans (congrArg (fun a : Vec Ideal S_ .f32 => a Cert.ReferenceIdeal.VR.s0) (Whole.W2_args m ρ c main_arg9 (by decide)))
theorem hyp28_1 : ((Whole.V3 m ρ c main_v28 : Vec Ideal S3 .f32) (ix1 (n0 := 3) 1) : EReal) = invS (X m c main_arg10) :=
  (h28_1 (W2 m ρ c)).trans (congrArg invS (Whole.W2_args m ρ c main_arg10 (by decide)))
theorem hyp28_2 : ((Whole.V3 m ρ c main_v28 : Vec Ideal S3 .f32) (ix1 (n0 := 3) 2) : EReal) = invS (X m c main_arg14) :=
  (h28_2 (W2 m ρ c)).trans (congrArg invS (Whole.W2_args m ρ c main_arg14 (by decide)))
theorem hyp33 (j : Fin 112) : ((Whole.V5 m ρ c main_v33 : Vec Ideal S1x112 .f32) (ix2 (n0 := 1) 0 j) : EReal) = prodR (n := 112) (X m c main_arg18) (X m c main_arg20) j :=
  (h33 (W4 m ρ c) j).trans (congrArg₂ (fun s a => prodR (n := 112) s a j) (Whole.W4_args m ρ c main_arg18 (by decide)) (Whole.W4_args m ρ c main_arg20 (by decide)))
theorem hyp34 (j : Fin 112) : ((Whole.V5 m ρ c main_v34 : Vec Ideal S1x112 .f32) (ix2 (n0 := 1) 0 j) : EReal) = ((X m c main_arg21) : Vec Ideal S112 .f32) (ix1 (n0 := 112) j) :=
  (h34 (W4 m ρ c) j).trans (congrArg (fun a : Vec Ideal S112 .f32 => a (ix1 (n0 := 112) j)) (Whole.W4_args m ρ c main_arg21 (by decide)))
theorem hyp41_0 : ((Whole.V5 m ρ c main_v41 : Vec Ideal S4 .f32) (ix1 (n0 := 4) 0) : EReal) = ((X m c main_arg9) : Vec Ideal S_ .f32) Cert.ReferenceIdeal.VR.s0 :=
  (h41_0 (W4 m ρ c)).trans (congrArg (fun a : Vec Ideal S_ .f32 => a Cert.ReferenceIdeal.VR.s0) (Whole.W4_args m ρ c main_arg9 (by decide)))
theorem hyp41_1 : ((Whole.V5 m ρ c main_v41 : Vec Ideal S4 .f32) (ix1 (n0 := 4) 1) : EReal) = invS (X m c main_arg18) :=
  (h41_1 (W4 m ρ c)).trans (congrArg invS (Whole.W4_args m ρ c main_arg18 (by decide)))
theorem hyp41_2 : ((Whole.V5 m ρ c main_v41 : Vec Ideal S4 .f32) (ix1 (n0 := 4) 2) : EReal) = ((X m c main_arg1) : Vec Ideal S_ .f32) Cert.ReferenceIdeal.VR.s0 :=
  (h41_2 (W4 m ρ c)).trans (congrArg (fun a : Vec Ideal S_ .f32 => a Cert.ReferenceIdeal.VR.s0) (Whole.W4_args m ρ c main_arg1 (by decide)))
theorem hyp41_3 : ((Whole.V5 m ρ c main_v41 : Vec Ideal S4 .f32) (ix1 (n0 := 4) 3) : EReal) = invS (X m c main_arg22) :=
  (h41_3 (W4 m ρ c)).trans (congrArg invS (Whole.W4_args m ρ c main_arg22 (by decide)))

include ok in
theorem end_e (n : Fin 64) (r : Fin 24) (x : Fin 32) (ch : Fin 672) : (W2 m ρ c (Proc.devRef .tc main_v13_0) : Vec Ideal S64x24x32x672 .i8) (ix4 (n0 := 64) (n1 := 24) (n2 := 32) (n3 := 672) n r x ch) = (Cert.ReferenceIdeal.Read.val_main_v27 (F := Ideal) (X m c main_arg0) (X m c main_arg1) (X m c main_arg2) (X m c main_arg3) (X m c main_arg4) (X m c main_arg5) (ix4 (n0 := 64) (n1 := 24) (n2 := 32) (n3 := 672) n r x ch)) := by
  refine (congrFun (Whole.W2_arr m ρ c 8) (ix4 (n0 := 64) (n1 := 24) (n2 := 32) (n3 := 672) n r x ch)).trans ((V0.e_end (Whole.V1 m ρ) c n r x ch).trans ?_)
  rw [(show Whole.V1 m ρ c main_arg0 = (X m c main_arg0) from Whole.W1_args m ρ c main_arg0 (by decide)), (show Whole.V1 m ρ c main_arg2 = (X m c main_arg2) from Whole.W1_args m ρ c main_arg2 (by decide))]
  exact e_eq ok (hyp2 m ρ c) (hyp3 m ρ c) (hyp12_0 m ρ c) n r x ch

include ok in
theorem end_u (n : Fin 64) (r : Fin 24) (x : Fin 32) (ch : Fin 672) : (W2 m ρ c (Proc.devRef .tc main_v13_1) : Vec Ideal S64x24x32x672 .i8) (ix4 (n0 := 64) (n1 := 24) (n2 := 32) (n3 := 672) n r x ch) = (Cert.ReferenceIdeal.Read.val_main_v276 (F := Ideal) (X m c main_arg0) (X m c main_arg1) (X m c main_arg2) (X m c main_arg3) (X m c main_arg4) (X m c main_arg5) (X m c main_arg6) (X m c main_arg7) (X m c main_arg8) (X m c main_arg9) (ix4 (n0 := 64) (n1 := 24) (n2 := 32) (n3 := 672) n r x ch)) := by
  refine (congrFun (Whole.W2_arr m ρ c 9) (ix4 (n0 := 64) (n1 := 24) (n2 := 32) (n3 := 672) n r x ch)).trans ((V0.u_end (Whole.V1 m ρ) c n r x ch).trans ?_)
  rw [(show Whole.V1 m ρ c main_arg0 = (X m c main_arg0) from Whole.W1_args m ρ c main_arg0 (by decide)), (show Whole.V1 m ρ c main_arg2 = (X m c main_arg2) from Whole.W1_args m ρ c main_arg2 (by decide)), (show Whole.V1 m ρ c main_arg6 = (X m c main_arg6) from Whole.W1_args m ρ c main_arg6 (by decide))]
  exact u_eq ok (hyp2 m ρ c) (hyp3 m ρ c) (hyp6 m ρ c) (hyp7 m ρ c) (hyp12_0 m ρ c) (hyp12_1 m ρ c) n r x ch

include ok in
theorem end_s (n : Fin 64) (ch : Fin 672) : ((W2 m ρ c (Proc.devRef .tc main_v13_2) : Vec Ideal S64x1x672 .f32) (ix3 n (0 : Fin 1) ch) : EReal) = ((((Cert.ReferenceIdeal.Read.val_main_v278 (F := Ideal) (X m c main_arg0) (X m c main_arg1) (X m c main_arg2) (X m c main_arg3) (X m c main_arg4) (X m c main_arg5) (X m c main_arg6) (X m c main_arg7) (X m c main_arg8) (X m c main_arg9) (ix2 (n0 := 64) (n1 := 672) n ch))).toInt : ℝ) : EReal) := by
  refine (congrFun (Whole.W2_arr m ρ c 10) (ix3 n (0 : Fin 1) ch)).trans ((V0.s_end (Whole.V1 m ρ) c n ch).trans ?_)
  rw [(show Whole.V1 m ρ c main_arg0 = (X m c main_arg0) from Whole.W1_args m ρ c main_arg0 (by decide)), (show Whole.V1 m ρ c main_arg2 = (X m c main_arg2) from Whole.W1_args m ρ c main_arg2 (by decide)), (show Whole.V1 m ρ c main_arg6 = (X m c main_arg6) from Whole.W1_args m ρ c main_arg6 (by decide))]
  exact s_eq ok (hyp2 m ρ c) (hyp3 m ρ c) (hyp6 m ρ c) (hyp7 m ρ c) (hyp12_0 m ρ c) (hyp12_1 m ρ c) n ch

include ok in
theorem hyp14 (n : Fin 64) (ch : Fin 672) : ((Whole.V3 m ρ c main_v14 : Vec Ideal S64x672 .f32) (ix2 n ch) : EReal) = ((((Cert.ReferenceIdeal.Read.val_main_v278 (F := Ideal) (X m c main_arg0) (X m c main_arg1) (X m c main_arg2) (X m c main_arg3) (X m c main_arg4) (X m c main_arg5) (X m c main_arg6) (X m c main_arg7) (X m c main_arg8) (X m c main_arg9) (ix2 (n0 := 64) (n1 := 672) n ch))).toInt : ℝ) : EReal) :=
  (h14 (W2 m ρ c) n ch).trans (end_s m ρ c ok n ch)

include ok in
theorem end_p (n : Fin 64) (ch : Fin 672) : (W4 m ρ c (Proc.devRef .tc main_v29_0) : Vec Ideal S64x672 .i8) (ix2 (n0 := 64) (n1 := 672) n ch) = (Cert.ReferenceIdeal.Read.val_main_v289 (F := Ideal) (X m c main_arg0) (X m c main_arg1) (X m c main_arg2) (X m c main_arg3) (X m c main_arg4) (X m c main_arg5) (X m c main_arg6) (X m c main_arg7) (X m c main_arg8) (X m c main_arg9) (X m c main_arg10) (ix2 (n0 := 64) (n1 := 672) n ch)) := by
  refine (congrFun (Whole.W4_arr m ρ c 8) (ix2 (n0 := 64) (n1 := 672) n ch)).trans ((V1.p_end (Whole.V3 m ρ) c n ch).trans ?_)
  exact p_eq ok (hyp14 m ρ c ok) (hyp28_0 m ρ c) (hyp28_1 m ρ c) n ch

include ok in
theorem end_h (n : Fin 64) (j : Fin 28) : (W4 m ρ c (Proc.devRef .tc main_v29_1) : Vec Ideal S64x28 .i8) (ix2 (n0 := 64) (n1 := 28) n j) = (Cert.ReferenceIdeal.Read.val_main_v317 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (ix2 (n0 := 64) (n1 := 28) n j)) := by
  refine (congrFun (Whole.W4_arr m ρ c 9) (ix2 (n0 := 64) (n1 := 28) n j)).trans ((V1.h_end (Whole.V3 m ρ) c n j).trans ?_)
  rw [(show Whole.V3 m ρ c main_arg11 = (X m c main_arg11) from Whole.W3_args m ρ c main_arg11 (by decide))]
  exact h_eq ok (hyp14 m ρ c ok) (hyp17 m ρ c) (hyp18 m ρ c) (hyp28_0 m ρ c) (hyp28_1 m ρ c) (hyp28_2 m ρ c) n j

include ok in
theorem end_g (n : Fin 64) (ch : Fin 672) : ((W4 m ρ c (Proc.devRef .tc main_v29_2) : Vec Ideal S64x672 .f32) (ix2 (n0 := 64) (n1 := 672) n ch) : EReal) = (Cert.ReferenceIdeal.Read.val_main_v338 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (ix2 (n0 := 64) (n1 := 672) n ch)) := by
  refine (congrFun (Whole.W4_arr m ρ c 10) (ix2 (n0 := 64) (n1 := 672) n ch)).trans ((V1.g_end (Whole.V3 m ρ) c n ch).trans ?_)
  rw [(show Whole.V3 m ρ c main_arg11 = (X m c main_arg11) from Whole.W3_args m ρ c main_arg11 (by decide)), (show Whole.V3 m ρ c main_arg15 = (X m c main_arg15) from Whole.W3_args m ρ c main_arg15 (by decide))]
  exact g_eq ok (hyp14 m ρ c ok) (hyp17 m ρ c) (hyp18 m ρ c) (hyp21 m ρ c) (hyp22 m ρ c) (hyp28_0 m ρ c) (hyp28_1 m ρ c) (hyp28_2 m ρ c) n ch

include ok in
theorem hypE (n : Fin 64) (r : Fin 24) (x : Fin 32) (ch : Fin 672) : (Whole.V5 m ρ c main_v13_1 : Vec Ideal S64x24x32x672 .i8) (ix4 n r x ch) = (Cert.ReferenceIdeal.Read.val_main_v276 (F := Ideal) (X m c main_arg0) (X m c main_arg1) (X m c main_arg2) (X m c main_arg3) (X m c main_arg4) (X m c main_arg5) (X m c main_arg6) (X m c main_arg7) (X m c main_arg8) (X m c main_arg9) (ix4 (n0 := 64) (n1 := 24) (n2 := 32) (n3 := 672) n r x ch)) := by
  refine Eq.trans (congrFun (?_ : Whole.V5 m ρ c main_v13_1 = W2 m ρ c (Proc.devRef .tc main_v13_1)) (ix4 (n0 := 64) (n1 := 24) (n2 := 32) (n3 := 672) n r x ch)) (end_u m ρ c ok n r x ch)
  exact (Whole.W5_of m ρ c main_v13_1 (by decide)).trans ((Whole.W4_of m ρ c main_v13_1 (by decide)).trans (Whole.W3_of m ρ c main_v13_1 (by decide)))

include ok in
theorem hyp30 (n : Fin 64) (ch : Fin 672) : ((Whole.V5 m ρ c main_v30 : Vec Ideal S64x1x672 .f32) (ix3 (n1 := 1) n 0 ch) : EReal) = (Cert.ReferenceIdeal.Read.val_main_v338 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (ix2 (n0 := 64) (n1 := 672) n ch)) :=
  (h30 (W4 m ρ c) n ch).trans (end_g m ρ c ok n ch)

include ok in
theorem end_v (n : Fin 64) (r : Fin 24) (x : Fin 32) (ch : Fin 672) : (W6 m ρ c (Proc.devRef .tc main_v42_0) : Vec Ideal S64x24x32x672 .i8) (ix4 (n0 := 64) (n1 := 24) (n2 := 32) (n3 := 672) n r x ch) = (Cert.ReferenceIdeal.Read.val_main_v351 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18) (ix4 (n0 := 64) (n1 := 24) (n2 := 32) (n3 := 672) n r x ch)) := by
  refine (congrFun (Whole.W6_arr m ρ c 7) (ix4 (n0 := 64) (n1 := 24) (n2 := 32) (n3 := 672) n r x ch)).trans ((V2.v_end (Whole.V5 m ρ) c n r x ch).trans ?_)
  exact v_eq ok (hypE m ρ c ok) (hyp30 m ρ c ok) (hyp41_0 m ρ c) (hyp41_1 m ρ c) n r x ch

include ok in
theorem end_y (n : Fin 64) (r : Fin 24) (x : Fin 32) (o : Fin 112) : ((W6 m ρ c (Proc.devRef .tc main_v42_1) : Vec Ideal S64x24x32x112 .f32) (ix4 (n0 := 64) (n1 := 24) (n2 := 32) (n3 := 112) n r x o) : EReal) = (Cert.ReferenceIdeal.Read.val_main_v371 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18) (X m c main_arg19) (X m c main_arg20) (X m c main_arg21) (ix4 (n0 := 64) (n1 := 24) (n2 := 32) (n3 := 112) n r x o)) := by
  refine (congrFun (Whole.W6_arr m ρ c 8) (ix4 (n0 := 64) (n1 := 24) (n2 := 32) (n3 := 112) n r x o)).trans ((V2.y_end (Whole.V5 m ρ) c n r x o).trans ?_)
  rw [(show Whole.V5 m ρ c main_arg0 = (X m c main_arg0) from Whole.W5_args m ρ c main_arg0 (by decide)), (show Whole.V5 m ρ c main_arg19 = (X m c main_arg19) from Whole.W5_args m ρ c main_arg19 (by decide))]
  exact y_eq ok (hypE m ρ c ok) (hyp30 m ρ c ok) (hyp33 m ρ c) (hyp34 m ρ c) (hyp41_0 m ρ c) (hyp41_1 m ρ c) (hyp41_2 m ρ c) n r x o

include ok in
theorem end_o (n : Fin 64) (r : Fin 24) (x : Fin 32) (o : Fin 112) : (W6 m ρ c (Proc.devRef .tc main_v42_2) : Vec Ideal S64x24x32x112 .i8) (ix4 (n0 := 64) (n1 := 24) (n2 := 32) (n3 := 112) n r x o) = (Cert.ReferenceIdeal.Read.val_main_v377 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18) (X m c main_arg19) (X m c main_arg20) (X m c main_arg21) (X m c main_arg22) (ix4 (n0 := 64) (n1 := 24) (n2 := 32) (n3 := 112) n r x o)) := by
  refine (congrFun (Whole.W6_arr m ρ c 9) (ix4 (n0 := 64) (n1 := 24) (n2 := 32) (n3 := 112) n r x o)).trans ((V2.o_end (Whole.V5 m ρ) c n r x o).trans ?_)
  rw [(show Whole.V5 m ρ c main_arg0 = (X m c main_arg0) from Whole.W5_args m ρ c main_arg0 (by decide)), (show Whole.V5 m ρ c main_arg19 = (X m c main_arg19) from Whole.W5_args m ρ c main_arg19 (by decide))]
  exact o_eq ok (hypE m ρ c ok) (hyp30 m ρ c ok) (hyp33 m ρ c) (hyp34 m ρ c) (hyp41_0 m ρ c) (hyp41_1 m ρ c) (hyp41_2 m ρ c) (hyp41_3 m ρ c) n r x o

/-! ## The results at the end of the program -/

include ok in
theorem res_o : W6 m ρ c (Proc.devRef .tc main_v42_2) = (Cert.ReferenceIdeal.Read.val_main_v377 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18) (X m c main_arg19) (X m c main_arg20) (X m c main_arg21) (X m c main_arg22)) :=
  (fun4 (end_o m ρ c ok))
include ok in
theorem res_y : W6 m ρ c (Proc.devRef .tc main_v42_1) = (Cert.ReferenceIdeal.Read.val_main_v371 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18) (X m c main_arg19) (X m c main_arg20) (X m c main_arg21)) :=
  (fun4 (end_y m ρ c ok))
include ok in
theorem res_g : W6 m ρ c (Proc.devRef .tc main_v29_2) = (Cert.ReferenceIdeal.Read.val_main_v338 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17)) :=
  (Whole.W6_of m ρ c main_v29_2 (by decide)).trans <| (Whole.W5_of m ρ c main_v29_2 (by decide)).trans <| (fun2 (end_g m ρ c ok))
include ok in
theorem res_e : W6 m ρ c (Proc.devRef .tc main_v13_0) = (Cert.ReferenceIdeal.Read.val_main_v27 (F := Ideal) (X m c main_arg0) (X m c main_arg1) (X m c main_arg2) (X m c main_arg3) (X m c main_arg4) (X m c main_arg5)) :=
  (Whole.W6_of m ρ c main_v13_0 (by decide)).trans <| (Whole.W5_of m ρ c main_v13_0 (by decide)).trans <| (Whole.W4_of m ρ c main_v13_0 (by decide)).trans <| (Whole.W3_of m ρ c main_v13_0 (by decide)).trans <| (fun4 (end_e m ρ c ok))
include ok in
theorem res_u : W6 m ρ c (Proc.devRef .tc main_v13_1) = (Cert.ReferenceIdeal.Read.val_main_v276 (F := Ideal) (X m c main_arg0) (X m c main_arg1) (X m c main_arg2) (X m c main_arg3) (X m c main_arg4) (X m c main_arg5) (X m c main_arg6) (X m c main_arg7) (X m c main_arg8) (X m c main_arg9)) :=
  (Whole.W6_of m ρ c main_v13_1 (by decide)).trans <| (Whole.W5_of m ρ c main_v13_1 (by decide)).trans <| (Whole.W4_of m ρ c main_v13_1 (by decide)).trans <| (Whole.W3_of m ρ c main_v13_1 (by decide)).trans <| (fun4 (end_u m ρ c ok))
include ok in
theorem res_p : W6 m ρ c (Proc.devRef .tc main_v29_0) = (Cert.ReferenceIdeal.Read.val_main_v289 (F := Ideal) (X m c main_arg0) (X m c main_arg1) (X m c main_arg2) (X m c main_arg3) (X m c main_arg4) (X m c main_arg5) (X m c main_arg6) (X m c main_arg7) (X m c main_arg8) (X m c main_arg9) (X m c main_arg10)) :=
  (Whole.W6_of m ρ c main_v29_0 (by decide)).trans <| (Whole.W5_of m ρ c main_v29_0 (by decide)).trans <| (fun2 (end_p m ρ c ok))
include ok in
theorem res_h : W6 m ρ c (Proc.devRef .tc main_v29_1) = (Cert.ReferenceIdeal.Read.val_main_v317 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14)) :=
  (Whole.W6_of m ρ c main_v29_1 (by decide)).trans <| (Whole.W5_of m ρ c main_v29_1 (by decide)).trans <| (fun2 (end_h m ρ c ok))
include ok in
theorem res_v : W6 m ρ c (Proc.devRef .tc main_v42_0) = (Cert.ReferenceIdeal.Read.val_main_v351 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) (X m c main_arg18)) :=
  (fun4 (end_v m ρ c ok))

end Cert.VE

end
-- ==== Proof.lean ====
/- The claims: the frames of the three programs, and the equality of the kernel's eight results with the
   reference's at the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Own.Kernel.K1.Frame
public import proofs.«01_k».proof.Proof.Gen.Own.Kernel.K2.Frame
public import proofs.«01_k».proof.Proof.Gen.Own.KernelIdeal.K1.Frame
public import proofs.«01_k».proof.Proof.Gen.Own.KernelIdeal.K2.Frame
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.V.End
public import Idealize.ShloMosaic.Adequacy
public import Idealize.ShloMosaic.Init

@[expose] public section

set_option maxRecDepth 16384
set_option maxHeartbeats 4000000

noncomputable section

namespace Cert.Proof

open Idealize.ShloMosaic Idealize.SL.Sem Cert.V

/-- The side conditions of the precondition's operations. -/
theorem preFacts : Cert.Pre_usable.Facts := ⟨Cert.KernelIdeal.Gen.bcast_S_S672, Cert.KernelIdeal.Gen.bcast_S_S28⟩

/-- The reference's frame: it declares no semaphore. -/
theorem refFrame : Cert.quiescent_ReferenceIdeal (hReferenceIdeal := Cert.ReferenceIdeal.Gen.facts) := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

theorem fin_of {x : EReal} (h : Ideal.cmp .olt (max x (-x)) (Ideal.ofBits .f32 0x7F800000#32) = 1#1) : Fin' x := by
  refine fin'_of_abs_lt ?_
  rw [top_eq] at h
  by_contra hn
  exact absurd (show (BitVec.ofBool (decide (max x (-x) < (⊤ : EReal)))) = 1#1 from h) (by rw [decide_eq_false hn]; decide)
theorem ne_of {x : EReal} (h : Ideal.cmp .une x (Ideal.ofBits .f32 0x00000000#32) = 1#1) : x ≠ 0 := by
  rw [zero_eq] at h
  intro hn
  exact absurd (show (BitVec.ofBool (decide (x ≠ (0 : EReal)))) = 1#1 from h) (by rw [hn]; simp)

/-- The precondition says the arguments are as the equalities need them. -/
theorem ok_of_pre (m : (ℓ : Loc Cert.KernelIdeal.nD Cert.KernelIdeal.τ Cert.KernelIdeal.sig) → Buf (Elt Ideal) ℓ) (h : Cert.Pre_KernelIdeal_usable (hPre_usable := preFacts) m) (c : Dev Cert.KernelIdeal.nD) :
    Cert.VE.Ok (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg18)) (m ((c.tc : Thread Cert.KernelIdeal.nD Cert.KernelIdeal.τ).loc Cert.KernelIdeal.main_arg22)) := by
  obtain ⟨p1, p3, p4, p7, p8, p12, p13, n5, n9, n10, n14, n18, n22⟩ := h c
  exact {
    f1 := fin_of (congrFun p1 _)
    f3 := fun j => fin_of (congrFun p3 (ValueIdx.ix1 j))
    f4 := fun j => fin_of (congrFun p4 (ValueIdx.ix1 j))
    f7 := fun j => fin_of (congrFun p7 (ValueIdx.ix1 j))
    f8 := fun j => fin_of (congrFun p8 (ValueIdx.ix1 j))
    f12 := fun j => fin_of (congrFun p12 (ValueIdx.ix1 j))
    f13 := fun j => fin_of (congrFun p13 (ValueIdx.ix1 j))
    n5 := ne_of (congrFun n5 _)
    n9 := ne_of (congrFun n9 _)
    n10 := ne_of (congrFun n10 _)
    n14 := ne_of (congrFun n14 _)
    n18 := ne_of (congrFun n18 _)
    n22 := ne_of (congrFun n22 _) }

/-- Equal arguments have equal values. -/
theorem vals_377 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} {x11 y11 : (⟨Cert.ReferenceIdeal.S672x28, .i8⟩ : BufTy).Contents (Elt Ideal)} {x12 y12 : (⟨Cert.ReferenceIdeal.S28, .f32⟩ : BufTy).Contents (Elt Ideal)} {x13 y13 : (⟨Cert.ReferenceIdeal.S28, .f32⟩ : BufTy).Contents (Elt Ideal)} {x14 y14 : (⟨Cert.ReferenceIdeal.S_, .f32⟩ : BufTy).Contents (Elt Ideal)} {x15 y15 : (⟨Cert.ReferenceIdeal.S28x672, .i8⟩ : BufTy).Contents (Elt Ideal)} {x16 y16 : (⟨Cert.ReferenceIdeal.S672, .f32⟩ : BufTy).Contents (Elt Ideal)} {x17 y17 : (⟨Cert.ReferenceIdeal.S672, .f32⟩ : BufTy).Contents (Elt Ideal)} {x18 y18 : (⟨Cert.ReferenceIdeal.S_, .f32⟩ : BufTy).Contents (Elt Ideal)} {x19 y19 : (⟨Cert.ReferenceIdeal.S672x112, .i8⟩ : BufTy).Contents (Elt Ideal)} {x20 y20 : (⟨Cert.ReferenceIdeal.S112, .f32⟩ : BufTy).Contents (Elt Ideal)} {x21 y21 : (⟨Cert.ReferenceIdeal.S112, .f32⟩ : BufTy).Contents (Elt Ideal)} {x22 y22 : (⟨Cert.ReferenceIdeal.S_, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) :
    Cert.ReferenceIdeal.Read.val_main_v377 (F := Ideal) x0 x1 x2 x3 x4 x5 x6 x7 x8 x9 x10 x11 x12 x13 x14 x15 x16 x17 x18 x19 x20 x21 x22 = Cert.ReferenceIdeal.Read.val_main_v377 (F := Ideal) y0 y1 y2 y3 y4 y5 y6 y7 y8 y9 y10 y11 y12 y13 y14 y15 y16 y17 y18 y19 y20 y21 y22 := by
  rw [h0, h1, h2, h3, h4, h5, h6, h7, h8, h9, h10, h11, h12, h13, h14, h15, h16, h17, h18, h19, h20, h21, h22]
theorem vals_371 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} {x11 y11 : (⟨Cert.ReferenceIdeal.S672x28, .i8⟩ : BufTy).Contents (Elt Ideal)} {x12 y12 : (⟨Cert.ReferenceIdeal.S28, .f32⟩ : BufTy).Contents (Elt Ideal)} {x13 y13 : (⟨Cert.ReferenceIdeal.S28, .f32⟩ : BufTy).Contents (Elt Ideal)} {x14 y14 : (⟨Cert.ReferenceIdeal.S_, .f32⟩ : BufTy).Contents (Elt Ideal)} {x15 y15 : (⟨Cert.ReferenceIdeal.S28x672, .i8⟩ : BufTy).Contents (Elt Ideal)} {x16 y16 : (⟨Cert.ReferenceIdeal.S672, .f32⟩ : BufTy).Contents (Elt Ideal)} {x17 y17 : (⟨Cert.ReferenceIdeal.S672, .f32⟩ : BufTy).Contents (Elt Ideal)} {x18 y18 : (⟨Cert.ReferenceIdeal.S_, .f32⟩ : BufTy).Contents (Elt Ideal)} {x19 y19 : (⟨Cert.ReferenceIdeal.S672x112, .i8⟩ : BufTy).Contents (Elt Ideal)} {x20 y20 : (⟨Cert.ReferenceIdeal.S112, .f32⟩ : BufTy).Contents (Elt Ideal)} {x21 y21 : (⟨Cert.ReferenceIdeal.S112, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) :
    Cert.ReferenceIdeal.Read.val_main_v371 (F := Ideal) x0 x1 x2 x3 x4 x5 x6 x7 x8 x9 x10 x11 x12 x13 x14 x15 x16 x17 x18 x19 x20 x21 = Cert.ReferenceIdeal.Read.val_main_v371 (F := Ideal) y0 y1 y2 y3 y4 y5 y6 y7 y8 y9 y10 y11 y12 y13 y14 y15 y16 y17 y18 y19 y20 y21 := by
  rw [h0, h1, h2, h3, h4, h5, h6, h7, h8, h9, h10, h11, h12, h13, h14, h15, h16, h17, h18, h19, h20, h21]
theorem vals_338 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} {x11 y11 : (⟨Cert.ReferenceIdeal.S672x28, .i8⟩ : BufTy).Contents (Elt Ideal)} {x12 y12 : (⟨Cert.ReferenceIdeal.S28, .f32⟩ : BufTy).Contents (Elt Ideal)} {x13 y13 : (⟨Cert.ReferenceIdeal.S28, .f32⟩ : BufTy).Contents (Elt Ideal)} {x14 y14 : (⟨Cert.ReferenceIdeal.S_, .f32⟩ : BufTy).Contents (Elt Ideal)} {x15 y15 : (⟨Cert.ReferenceIdeal.S28x672, .i8⟩ : BufTy).Contents (Elt Ideal)} {x16 y16 : (⟨Cert.ReferenceIdeal.S672, .f32⟩ : BufTy).Contents (Elt Ideal)} {x17 y17 : (⟨Cert.ReferenceIdeal.S672, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) :
    Cert.ReferenceIdeal.Read.val_main_v338 (F := Ideal) x0 x1 x2 x3 x4 x5 x6 x7 x8 x9 x10 x11 x12 x13 x14 x15 x16 x17 = Cert.ReferenceIdeal.Read.val_main_v338 (F := Ideal) y0 y1 y2 y3 y4 y5 y6 y7 y8 y9 y10 y11 y12 y13 y14 y15 y16 y17 := by
  rw [h0, h1, h2, h3, h4, h5, h6, h7, h8, h9, h10, h11, h12, h13, h14, h15, h16, h17]
theorem vals_27 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} (h0 : x0 = y0) (h1 : x1 = y1) (h2 : x2 = y2) (h3 : x3 = y3) (h4 : x4 = y4) (h5 : x5 = y5) :
    Cert.ReferenceIdeal.Read.val_main_v27 (F := Ideal) x0 x1 x2 x3 x4 x5 = Cert.ReferenceIdeal.Read.val_main_v27 (F := Ideal) y0 y1 y2 y3 y4 y5 := by
  rw [h0, h1, h2, h3, h4, h5]
theorem vals_276 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) :
    Cert.ReferenceIdeal.Read.val_main_v276 (F := Ideal) x0 x1 x2 x3 x4 x5 x6 x7 x8 x9 = Cert.ReferenceIdeal.Read.val_main_v276 (F := Ideal) y0 y1 y2 y3 y4 y5 y6 y7 y8 y9 := by
  rw [h0, h1, h2, h3, h4, h5, h6, h7, h8, h9]
theorem vals_289 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    Cert.ReferenceIdeal.Read.val_main_v289 (F := Ideal) x0 x1 x2 x3 x4 x5 x6 x7 x8 x9 x10 = Cert.ReferenceIdeal.Read.val_main_v289 (F := Ideal) y0 y1 y2 y3 y4 y5 y6 y7 y8 y9 y10 := by
  rw [h0, h1, h2, h3, h4, h5, h6, h7, h8, h9, h10]
theorem vals_317 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} {x11 y11 : (⟨Cert.ReferenceIdeal.S672x28, .i8⟩ : BufTy).Contents (Elt Ideal)} {x12 y12 : (⟨Cert.ReferenceIdeal.S28, .f32⟩ : BufTy).Contents (Elt Ideal)} {x13 y13 : (⟨Cert.ReferenceIdeal.S28, .f32⟩ : BufTy).Contents (Elt Ideal)} {x14 y14 : (⟨Cert.ReferenceIdeal.S_, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) :
    Cert.ReferenceIdeal.Read.val_main_v317 (F := Ideal) x0 x1 x2 x3 x4 x5 x6 x7 x8 x9 x10 x11 x12 x13 x14 = Cert.ReferenceIdeal.Read.val_main_v317 (F := Ideal) y0 y1 y2 y3 y4 y5 y6 y7 y8 y9 y10 y11 y12 y13 y14 := by
  rw [h0, h1, h2, h3, h4, h5, h6, h7, h8, h9, h10, h11, h12, h13, h14]
theorem vals_351 {x0 y0 : (⟨Cert.ReferenceIdeal.S64x24x32x112, .i8⟩ : BufTy).Contents (Elt Ideal)} {x1 y1 : (⟨Cert.ReferenceIdeal.S_, .f32⟩ : BufTy).Contents (Elt Ideal)} {x2 y2 : (⟨Cert.ReferenceIdeal.S112x672, .i8⟩ : BufTy).Contents (Elt Ideal)} {x3 y3 : (⟨Cert.ReferenceIdeal.S672, .f32⟩ : BufTy).Contents (Elt Ideal)} {x4 y4 : (⟨Cert.ReferenceIdeal.S672, .f32⟩ : BufTy).Contents (Elt Ideal)} {x5 y5 : (⟨Cert.ReferenceIdeal.S_, .f32⟩ : BufTy).Contents (Elt Ideal)} {x6 y6 : (⟨Cert.ReferenceIdeal.S25x672, .i8⟩ : BufTy).Contents (Elt Ideal)} {x7 y7 : (⟨Cert.ReferenceIdeal.S672, .f32⟩ : BufTy).Contents (Elt Ideal)} {x8 y8 : (⟨Cert.ReferenceIdeal.S672, .f32⟩ : BufTy).Contents (Elt Ideal)} {x9 y9 : (⟨Cert.ReferenceIdeal.S_, .f32⟩ : BufTy).Contents (Elt Ideal)} {x10 y10 : (⟨Cert.ReferenceIdeal.S_, .f32⟩ : BufTy).Contents (Elt Ideal)} {x11 y11 : (⟨Cert.ReferenceIdeal.S672x28, .i8⟩ : BufTy).Contents (Elt Ideal)} {x12 y12 : (⟨Cert.ReferenceIdeal.S28, .f32⟩ : BufTy).Contents (Elt Ideal)} {x13 y13 : (⟨Cert.ReferenceIdeal.S28, .f32⟩ : BufTy).Contents (Elt Ideal)} {x14 y14 : (⟨Cert.ReferenceIdeal.S_, .f32⟩ : BufTy).Contents (Elt Ideal)} {x15 y15 : (⟨Cert.ReferenceIdeal.S28x672, .i8⟩ : BufTy).Contents (Elt Ideal)} {x16 y16 : (⟨Cert.ReferenceIdeal.S672, .f32⟩ : BufTy).Contents (Elt Ideal)} {x17 y17 : (⟨Cert.ReferenceIdeal.S672, .f32⟩ : BufTy).Contents (Elt Ideal)} {x18 y18 : (⟨Cert.ReferenceIdeal.S_, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) :
    Cert.ReferenceIdeal.Read.val_main_v351 (F := Ideal) x0 x1 x2 x3 x4 x5 x6 x7 x8 x9 x10 x11 x12 x13 x14 x15 x16 x17 x18 = Cert.ReferenceIdeal.Read.val_main_v351 (F := Ideal) y0 y1 y2 y3 y4 y5 y6 y7 y8 y9 y10 y11 y12 y13 y14 y15 y16 y17 y18 := by
  rw [h0, h1, h2, h3, h4, h5, h6, h7, h8, h9, h10, h11, h12, h13, h14, h15, h16, h17, h18]

/-- The kernel leaves in each result what the reference leaves in it. -/
theorem algebraic : Cert.algebraic_KernelIdeal_ReferenceIdeal_pre_usable (hKernelIdeal := Cert.KernelIdeal.Gen.facts) (hReferenceIdeal := Cert.ReferenceIdeal.Gen.facts) (hPre_usable := preFacts) := by
  intro m g m' g' hp ha
  have ok := ok_of_pre m hp
  refine ⟨fun c => Cert.ReferenceIdeal.Read.val_main_v377 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => Cert.ReferenceIdeal.Read.val_main_v371 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.Read.val_main_v338 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v276 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v289 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v317 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v351 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ⟨(h.1 c _ (Cert.KernelIdeal.Whole.mem_uc Cert.KernelIdeal.main_v42_2 (by decide))).trans (Cert.VE.res_o m g c (ok c)),
      (h.1 c _ (Cert.KernelIdeal.Whole.mem_uc Cert.KernelIdeal.main_v42_1 (by decide))).trans (Cert.VE.res_y m g c (ok c)),
      (h.1 c _ (Cert.KernelIdeal.Whole.mem_uc Cert.KernelIdeal.main_v29_2 (by decide))).trans (Cert.VE.res_g m g c (ok c)),
      (h.1 c _ (Cert.KernelIdeal.Whole.mem_uc Cert.KernelIdeal.main_v13_0 (by decide))).trans (Cert.VE.res_e m g c (ok c)),
      (h.1 c _ (Cert.KernelIdeal.Whole.mem_uc Cert.KernelIdeal.main_v13_1 (by decide))).trans (Cert.VE.res_u m g c (ok c)),
      (h.1 c _ (Cert.KernelIdeal.Whole.mem_uc Cert.KernelIdeal.main_v29_0 (by decide))).trans (Cert.VE.res_p m g c (ok c)),
      (h.1 c _ (Cert.KernelIdeal.Whole.mem_uc Cert.KernelIdeal.main_v29_1 (by decide))).trans (Cert.VE.res_h m g c (ok c)),
      (h.1 c _ (Cert.KernelIdeal.Whole.mem_uc Cert.KernelIdeal.main_v42_0 (by decide))).trans (Cert.VE.res_v m g c (ok c)),
      Cert.KernelIdeal.Whole.arg_end m g h.1 c Cert.KernelIdeal.main_arg0 (by decide) (by decide), Cert.KernelIdeal.Whole.arg_end m g h.1 c Cert.KernelIdeal.main_arg1 (by decide) (by decide), Cert.KernelIdeal.Whole.arg_end m g h.1 c Cert.KernelIdeal.main_arg2 (by decide) (by decide), Cert.KernelIdeal.Whole.arg_end m g h.1 c Cert.KernelIdeal.main_arg3 (by decide) (by decide), Cert.KernelIdeal.Whole.arg_end m g h.1 c Cert.KernelIdeal.main_arg4 (by decide) (by decide), Cert.KernelIdeal.Whole.arg_end m g h.1 c Cert.KernelIdeal.main_arg5 (by decide) (by decide), Cert.KernelIdeal.Whole.arg_end m g h.1 c Cert.KernelIdeal.main_arg6 (by decide) (by decide), Cert.KernelIdeal.Whole.arg_end m g h.1 c Cert.KernelIdeal.main_arg7 (by decide) (by decide), Cert.KernelIdeal.Whole.arg_end m g h.1 c Cert.KernelIdeal.main_arg8 (by decide) (by decide), Cert.KernelIdeal.Whole.arg_end m g h.1 c Cert.KernelIdeal.main_arg9 (by decide) (by decide), Cert.KernelIdeal.Whole.arg_end m g h.1 c Cert.KernelIdeal.main_arg10 (by decide) (by decide), Cert.KernelIdeal.Whole.arg_end m g h.1 c Cert.KernelIdeal.main_arg11 (by decide) (by decide), Cert.KernelIdeal.Whole.arg_end m g h.1 c Cert.KernelIdeal.main_arg12 (by decide) (by decide), Cert.KernelIdeal.Whole.arg_end m g h.1 c Cert.KernelIdeal.main_arg13 (by decide) (by decide), Cert.KernelIdeal.Whole.arg_end m g h.1 c Cert.KernelIdeal.main_arg14 (by decide) (by decide), Cert.KernelIdeal.Whole.arg_end m g h.1 c Cert.KernelIdeal.main_arg15 (by decide) (by decide), Cert.KernelIdeal.Whole.arg_end m g h.1 c Cert.KernelIdeal.main_arg16 (by decide) (by decide), Cert.KernelIdeal.Whole.arg_end m g h.1 c Cert.KernelIdeal.main_arg17 (by decide) (by decide), Cert.KernelIdeal.Whole.arg_end m g h.1 c Cert.KernelIdeal.main_arg18 (by decide) (by decide), Cert.KernelIdeal.Whole.arg_end m g h.1 c Cert.KernelIdeal.main_arg19 (by decide) (by decide), Cert.KernelIdeal.Whole.arg_end m g h.1 c Cert.KernelIdeal.main_arg20 (by decide) (by decide), Cert.KernelIdeal.Whole.arg_end m g h.1 c Cert.KernelIdeal.main_arg21 (by decide) (by decide), Cert.KernelIdeal.Whole.arg_end m g h.1 c Cert.KernelIdeal.main_arg22 (by decide) (by decide)⟩) (Cert.KernelIdeal.Whole.run_all (F := Ideal) m g)
  · refine (θ_run Cert.ReferenceIdeal.defs _ _).mono (fun r h c => ?_) (Cert.ReferenceIdeal.Value.run (F := Ideal) m' g')
    obtain ⟨r377, r371, r338, r27, r276, r289, r317, r351, hk⟩ := h c
    obtain ⟨h0, h1, h2, h3, h4, h5, h6, h7, h8, h9, h10, h11, h12, h13, h14, h15, h16, h17, h18, h19, h20, h21, h22⟩ := ha c
    refine ⟨r377.trans ((Cert.ReferenceIdeal.Read.val_main_v377_eq (F := Ideal) (StableHlo.launchContents m' c)).trans ?_), r371.trans ((Cert.ReferenceIdeal.Read.val_main_v371_eq (F := Ideal) (StableHlo.launchContents m' c)).trans ?_), r338.trans ((Cert.ReferenceIdeal.Read.val_main_v338_eq (F := Ideal) (StableHlo.launchContents m' c)).trans ?_), r27.trans ((Cert.ReferenceIdeal.Read.val_main_v27_eq (F := Ideal) (StableHlo.launchContents m' c)).trans ?_), r276.trans ((Cert.ReferenceIdeal.Read.val_main_v276_eq (F := Ideal) (StableHlo.launchContents m' c)).trans ?_), r289.trans ((Cert.ReferenceIdeal.Read.val_main_v289_eq (F := Ideal) (StableHlo.launchContents m' c)).trans ?_), r317.trans ((Cert.ReferenceIdeal.Read.val_main_v317_eq (F := Ideal) (StableHlo.launchContents m' c)).trans ?_), r351.trans ((Cert.ReferenceIdeal.Read.val_main_v351_eq (F := Ideal) (StableHlo.launchContents m' c)).trans ?_), hk⟩
    · exact vals_377 h0 h1 h2 h3 h4 h5 h6 h7 h8 h9 h10 h11 h12 h13 h14 h15 h16 h17 h18 h19 h20 h21 h22
    · exact vals_371 h0 h1 h2 h3 h4 h5 h6 h7 h8 h9 h10 h11 h12 h13 h14 h15 h16 h17 h18 h19 h20 h21
    · exact vals_338 h0 h1 h2 h3 h4 h5 h6 h7 h8 h9 h10 h11 h12 h13 h14 h15 h16 h17
    · exact vals_27 h0 h1 h2 h3 h4 h5
    · exact vals_276 h0 h1 h2 h3 h4 h5 h6 h7 h8 h9
    · exact vals_289 h0 h1 h2 h3 h4 h5 h6 h7 h8 h9 h10
    · exact vals_317 h0 h1 h2 h3 h4 h5 h6 h7 h8 h9 h10 h11 h12 h13 h14
    · exact vals_351 h0 h1 h2 h3 h4 h5 h6 h7 h8 h9 h10 h11 h12 h13 h14 h15 h16 h17 h18

theorem claim : Cert.Claim := ⟨Cert.Kernel.Gen.facts, Cert.KernelIdeal.Gen.facts, Cert.ReferenceIdeal.Gen.facts, preFacts,
  fun m ρ _ => Cert.Kernel.Whole.frame m ρ, fun m ρ _ => Cert.KernelIdeal.Whole.frame m ρ, fun m ρ _ => Cert.KernelIdeal.Whole.frame m ρ,
  refFrame, fun m ρ _ => refFrame m ρ trivial, trivial, algebraic⟩

end Cert.Proof

end
